-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dt_below_inf [hPre_dt_below_inf : Cert.Pre_dt_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_dt_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dt_below_inf [hPre_dt_below_inf : Cert.Pre_dt_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dt_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_QReferenceIdeal (m : (ℓ : Loc Cert.QReferenceIdeal.nD Cert.QReferenceIdeal.τ Cert.QReferenceIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_Z (m : (ℓ : Loc Cert.Z.nD Cert.Z.τ Cert.Z.sig) → Buf (Elt Bits) ℓ) : Prop :=
  True

def Pre_ZIdeal (m : (ℓ : Loc Cert.ZIdeal.nD Cert.ZIdeal.τ Cert.ZIdeal.sig) → Buf (Elt Ideal) ℓ) : Prop :=
  True

def Pre_ZReferenceIdeal (m : (ℓ : Loc Cert.ZReferenceIdeal.nD Cert.ZReferenceIdeal.τ Cert.ZReferenceIdeal.sig) → Buf (Elt Ideal) ℓ) : Prop :=
  True

def Pre_Xbc (m : (ℓ : Loc Cert.Xbc.nD Cert.Xbc.τ Cert.Xbc.sig) → Buf (Elt Bits) ℓ) : Prop :=
  True

def Pre_XbcIdeal (m : (ℓ : Loc Cert.XbcIdeal.nD Cert.XbcIdeal.τ Cert.XbcIdeal.sig) → Buf (Elt Ideal) ℓ) : Prop :=
  True

def Pre_XbcReferenceIdeal (m : (ℓ : Loc Cert.XbcReferenceIdeal.nD Cert.XbcReferenceIdeal.τ Cert.XbcReferenceIdeal.sig) → Buf (Elt Ideal) ℓ) : Prop :=
  True

def Pre_Dt (m : (ℓ : Loc Cert.Dt.nD Cert.Dt.τ Cert.Dt.sig) → Buf (Elt Bits) ℓ) : Prop :=
  True

def Pre_DtIdeal (m : (ℓ : Loc Cert.DtIdeal.nD Cert.DtIdeal.τ Cert.DtIdeal.sig) → Buf (Elt Ideal) ℓ) : Prop :=
  True

def Pre_DtReferenceIdeal (m : (ℓ : Loc Cert.DtReferenceIdeal.nD Cert.DtReferenceIdeal.τ Cert.DtReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def Pre_SsmOut (m : (ℓ : Loc Cert.SsmOut.nD Cert.SsmOut.τ Cert.SsmOut.sig) → Buf (Elt Bits) ℓ) : Prop :=
  True

def Pre_SsmOutIdeal (m : (ℓ : Loc Cert.SsmOutIdeal.nD Cert.SsmOutIdeal.τ Cert.SsmOutIdeal.sig) → Buf (Elt Ideal) ℓ) : Prop :=
  True

def Pre_SsmOutReferenceIdeal (m : (ℓ : Loc Cert.SsmOutReferenceIdeal.nD Cert.SsmOutReferenceIdeal.τ Cert.SsmOutReferenceIdeal.sig) → Buf (Elt Ideal) ℓ) : Prop :=
  True

def Pre_Ks (m : (ℓ : Loc Cert.Ks.nD Cert.Ks.τ Cert.Ks.sig) → Buf (Elt Bits) ℓ) : Prop :=
  True

def Pre_KsIdeal (m : (ℓ : Loc Cert.KsIdeal.nD Cert.KsIdeal.τ Cert.KsIdeal.sig) → Buf (Elt Ideal) ℓ) : Prop :=
  True

def Pre_KsReferenceIdeal (m : (ℓ : Loc Cert.KsReferenceIdeal.nD Cert.KsReferenceIdeal.τ Cert.KsReferenceIdeal.sig) → Buf (Elt Ideal) ℓ) : Prop :=
  True

def Pre_Kp (m : (ℓ : Loc Cert.Kp.nD Cert.Kp.τ Cert.Kp.sig) → Buf (Elt Bits) ℓ) : Prop :=
  True

def Pre_KpIdeal (m : (ℓ : Loc Cert.KpIdeal.nD Cert.KpIdeal.τ Cert.KpIdeal.sig) → Buf (Elt Ideal) ℓ) : Prop :=
  True

def Pre_KpReferenceIdeal (m : (ℓ : Loc Cert.KpReferenceIdeal.nD Cert.KpReferenceIdeal.τ Cert.KpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_dt_below_inf [hKernelIdeal : Cert.KernelIdeal.Facts] [hPre_dt_below_inf : Cert.Pre_dt_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dt_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_dt_below_inf [hReferenceIdeal : Cert.ReferenceIdeal.Facts] [hPre_dt_below_inf : Cert.Pre_dt_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dt_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1))
      ∧ r.2.sem = fun _ => 0)

def quiescent_QReferenceIdeal [hQReferenceIdeal : Cert.QReferenceIdeal.Facts] : Prop :=
  ∀ (m : (ℓ : Loc Cert.QReferenceIdeal.nD Cert.QReferenceIdeal.τ Cert.QReferenceIdeal.sig) → Buf (Elt Ideal) ℓ) (g : Dev Cert.QReferenceIdeal.nD → PrngReg), Pre_QReferenceIdeal m →
    θ_run (Cert.QReferenceIdeal.defs (F := Ideal)) (onTc (τ := Cert.QReferenceIdeal.τ) (Cert.QReferenceIdeal.main (F := Ideal))) ⟨m, fun _ => 0, g⟩ (fun r => (∀ c : Dev Cert.QReferenceIdeal.nD,
      r.2.mem ((c.tc : Thread Cert.QReferenceIdeal.nD Cert.QReferenceIdeal.τ).loc Cert.QReferenceIdeal.main_arg0) = m ((c.tc : Thread Cert.QReferenceIdeal.nD Cert.QReferenceIdeal.τ).loc Cert.QReferenceIdeal.main_arg0)
      ∧ r.2.mem ((c.tc : Thread Cert.QReferenceIdeal.nD Cert.QReferenceIdeal.τ).loc Cert.QReferenceIdeal.main_arg1) = m ((c.tc : Thread Cert.QReferenceIdeal.nD Cert.QReferenceIdeal.τ).loc Cert.QReferenceIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1))
      ∧ r.2.sem = fun _ => 0)

def quiescent_Z [hZ : Cert.Z.Facts] : Prop :=
  ∀ (m : (ℓ : Loc Cert.Z.nD Cert.Z.τ Cert.Z.sig) → Buf (Elt Bits) ℓ) (g : Dev Cert.Z.nD → PrngReg), Pre_Z m →
    θ_run (Cert.Z.defs (F := Bits)) (onTc (τ := Cert.Z.τ) (Cert.Z.main (F := Bits))) ⟨m, fun _ => 0, g⟩ (fun r => (∀ c : Dev Cert.Z.nD,
      r.2.mem ((c.tc : Thread Cert.Z.nD Cert.Z.τ).loc Cert.Z.main_arg0) = m ((c.tc : Thread Cert.Z.nD Cert.Z.τ).loc Cert.Z.main_arg0)
      ∧ r.2.mem ((c.tc : Thread Cert.Z.nD Cert.Z.τ).loc Cert.Z.main_arg1) = m ((c.tc : Thread Cert.Z.nD Cert.Z.τ).loc Cert.Z.main_arg1))
      ∧ r.2.sem = fun _ => 0)

def quiescent_ZIdeal [hZIdeal : Cert.ZIdeal.Facts] : Prop :=
  ∀ (m : (ℓ : Loc Cert.ZIdeal.nD Cert.ZIdeal.τ Cert.ZIdeal.sig) → Buf (Elt Ideal) ℓ) (g : Dev Cert.ZIdeal.nD → PrngReg), Pre_ZIdeal m →
    θ_run (Cert.ZIdeal.defs (F := Ideal)) (onTc (τ := Cert.ZIdeal.τ) (Cert.ZIdeal.main (F := Ideal))) ⟨m, fun _ => 0, g⟩ (fun r => (∀ c : Dev Cert.ZIdeal.nD,
      r.2.mem ((c.tc : Thread Cert.ZIdeal.nD Cert.ZIdeal.τ).loc Cert.ZIdeal.main_arg0) = m ((c.tc : Thread Cert.ZIdeal.nD Cert.ZIdeal.τ).loc Cert.ZIdeal.main_arg0)
      ∧ r.2.mem ((c.tc : Thread Cert.ZIdeal.nD Cert.ZIdeal.τ).loc Cert.ZIdeal.main_arg1) = m ((c.tc : Thread Cert.ZIdeal.nD Cert.ZIdeal.τ).loc Cert.ZIdeal.main_arg1))
      ∧ r.2.sem = fun _ => 0)

def quiescent_ZReferenceIdeal [hZReferenceIdeal : Cert.ZReferenceIdeal.Facts] : Prop :=
  ∀ (m : (ℓ : Loc Cert.ZReferenceIdeal.nD Cert.ZReferenceIdeal.τ Cert.ZReferenceIdeal.sig) → Buf (Elt Ideal) ℓ) (g : Dev Cert.ZReferenceIdeal.nD → PrngReg), Pre_ZReferenceIdeal m →
    θ_run (Cert.ZReferenceIdeal.defs (F := Ideal)) (onTc (τ := Cert.ZReferenceIdeal.τ) (Cert.ZReferenceIdeal.main (F := Ideal))) ⟨m, fun _ => 0, g⟩ (fun r => (∀ c : Dev Cert.ZReferenceIdeal.nD,
      r.2.mem ((c.tc : Thread Cert.ZReferenceIdeal.nD Cert.ZReferenceIdeal.τ).loc Cert.ZReferenceIdeal.main_arg0) = m ((c.tc : Thread Cert.ZReferenceIdeal.nD Cert.ZReferenceIdeal.τ).loc Cert.ZReferenceIdeal.main_arg0)
      ∧ r.2.mem ((c.tc : Thread Cert.ZReferenceIdeal.nD Cert.ZReferenceIdeal.τ).loc Cert.ZReferenceIdeal.main_arg1) = m ((c.tc : Thread Cert.ZReferenceIdeal.nD Cert.ZReferenceIdeal.τ).loc Cert.ZReferenceIdeal.main_arg1))
      ∧ r.2.sem = fun _ => 0)

def quiescent_Xbc [hXbc : Cert.Xbc.Facts] : Prop :=
  ∀ (m : (ℓ : Loc Cert.Xbc.nD Cert.Xbc.τ Cert.Xbc.sig) → Buf (Elt Bits) ℓ) (g : Dev Cert.Xbc.nD → PrngReg), Pre_Xbc m →
    θ_run (Cert.Xbc.defs (F := Bits)) (onTc (τ := Cert.Xbc.τ) (Cert.Xbc.main (F := Bits))) ⟨m, fun _ => 0, g⟩ (fun r => (∀ c : Dev Cert.Xbc.nD,
      r.2.mem ((c.tc : Thread Cert.Xbc.nD Cert.Xbc.τ).loc Cert.Xbc.main_arg0) = m ((c.tc : Thread Cert.Xbc.nD Cert.Xbc.τ).loc Cert.Xbc.main_arg0)
      ∧ r.2.mem ((c.tc : Thread Cert.Xbc.nD Cert.Xbc.τ).loc Cert.Xbc.main_arg1) = m ((c.tc : Thread Cert.Xbc.nD Cert.Xbc.τ).loc Cert.Xbc.main_arg1))
      ∧ r.2.sem = fun _ => 0)

def quiescent_XbcIdeal [hXbcIdeal : Cert.XbcIdeal.Facts] : Prop :=
  ∀ (m : (ℓ : Loc Cert.XbcIdeal.nD Cert.XbcIdeal.τ Cert.XbcIdeal.sig) → Buf (Elt Ideal) ℓ) (g : Dev Cert.XbcIdeal.nD → PrngReg), Pre_XbcIdeal m →
    θ_run (Cert.XbcIdeal.defs (F := Ideal)) (onTc (τ := Cert.XbcIdeal.τ) (Cert.XbcIdeal.main (F := Ideal))) ⟨m, fun _ => 0, g⟩ (fun r => (∀ c : Dev Cert.XbcIdeal.nD,
      r.2.mem ((c.tc : Thread Cert.XbcIdeal.nD Cert.XbcIdeal.τ).loc Cert.XbcIdeal.main_arg0) = m ((c.tc : Thread Cert.XbcIdeal.nD Cert.XbcIdeal.τ).loc Cert.XbcIdeal.main_arg0)
      ∧ r.2.mem ((c.tc : Thread Cert.XbcIdeal.nD Cert.XbcIdeal.τ).loc Cert.XbcIdeal.main_arg1) = m ((c.tc : Thread Cert.XbcIdeal.nD Cert.XbcIdeal.τ).loc Cert.XbcIdeal.main_arg1))
      ∧ r.2.sem = fun _ => 0)

def quiescent_XbcReferenceIdeal [hXbcReferenceIdeal : Cert.XbcReferenceIdeal.Facts] : Prop :=
  ∀ (m : (ℓ : Loc Cert.XbcReferenceIdeal.nD Cert.XbcReferenceIdeal.τ Cert.XbcReferenceIdeal.sig) → Buf (Elt Ideal) ℓ) (g : Dev Cert.XbcReferenceIdeal.nD → PrngReg), Pre_XbcReferenceIdeal m →
    θ_run (Cert.XbcReferenceIdeal.defs (F := Ideal)) (onTc (τ := Cert.XbcReferenceIdeal.τ) (Cert.XbcReferenceIdeal.main (F := Ideal))) ⟨m, fun _ => 0, g⟩ (fun r => (∀ c : Dev Cert.XbcReferenceIdeal.nD,
      r.2.mem ((c.tc : Thread Cert.XbcReferenceIdeal.nD Cert.XbcReferenceIdeal.τ).loc Cert.XbcReferenceIdeal.main_arg0) = m ((c.tc : Thread Cert.XbcReferenceIdeal.nD Cert.XbcReferenceIdeal.τ).loc Cert.XbcReferenceIdeal.main_arg0)
      ∧ r.2.mem ((c.tc : Thread Cert.XbcReferenceIdeal.nD Cert.XbcReferenceIdeal.τ).loc Cert.XbcReferenceIdeal.main_arg1) = m ((c.tc : Thread Cert.XbcReferenceIdeal.nD Cert.XbcReferenceIdeal.τ).loc Cert.XbcReferenceIdeal.main_arg1))
      ∧ r.2.sem = fun _ => 0)

def quiescent_Dt [hDt : Cert.Dt.Facts] : Prop :=
  ∀ (m : (ℓ : Loc Cert.Dt.nD Cert.Dt.τ Cert.Dt.sig) → Buf (Elt Bits) ℓ) (g : Dev Cert.Dt.nD → PrngReg), Pre_Dt m →
    θ_run (Cert.Dt.defs (F := Bits)) (onTc (τ := Cert.Dt.τ) (Cert.Dt.main (F := Bits))) ⟨m, fun _ => 0, g⟩ (fun r => (∀ c : Dev Cert.Dt.nD,
      r.2.mem ((c.tc : Thread Cert.Dt.nD Cert.Dt.τ).loc Cert.Dt.main_arg0) = m ((c.tc : Thread Cert.Dt.nD Cert.Dt.τ).loc Cert.Dt.main_arg0)
      ∧ r.2.mem ((c.tc : Thread Cert.Dt.nD Cert.Dt.τ).loc Cert.Dt.main_arg1) = m ((c.tc : Thread Cert.Dt.nD Cert.Dt.τ).loc Cert.Dt.main_arg1))
      ∧ r.2.sem = fun _ => 0)

def quiescent_DtIdeal [hDtIdeal : Cert.DtIdeal.Facts] : Prop :=
  ∀ (m : (ℓ : Loc Cert.DtIdeal.nD Cert.DtIdeal.τ Cert.DtIdeal.sig) → Buf (Elt Ideal) ℓ) (g : Dev Cert.DtIdeal.nD → PrngReg), Pre_DtIdeal m →
    θ_run (Cert.DtIdeal.defs (F := Ideal)) (onTc (τ := Cert.DtIdeal.τ) (Cert.DtIdeal.main (F := Ideal))) ⟨m, fun _ => 0, g⟩ (fun r => (∀ c : Dev Cert.DtIdeal.nD,
      r.2.mem ((c.tc : Thread Cert.DtIdeal.nD Cert.DtIdeal.τ).loc Cert.DtIdeal.main_arg0) = m ((c.tc : Thread Cert.DtIdeal.nD Cert.DtIdeal.τ).loc Cert.DtIdeal.main_arg0)
      ∧ r.2.mem ((c.tc : Thread Cert.DtIdeal.nD Cert.DtIdeal.τ).loc Cert.DtIdeal.main_arg1) = m ((c.tc : Thread Cert.DtIdeal.nD Cert.DtIdeal.τ).loc Cert.DtIdeal.main_arg1))
      ∧ r.2.sem = fun _ => 0)

def quiescent_DtReferenceIdeal [hDtReferenceIdeal : Cert.DtReferenceIdeal.Facts] : Prop :=
  ∀ (m : (ℓ : Loc Cert.DtReferenceIdeal.nD Cert.DtReferenceIdeal.τ Cert.DtReferenceIdeal.sig) → Buf (Elt Ideal) ℓ) (g : Dev Cert.DtReferenceIdeal.nD → PrngReg), Pre_DtReferenceIdeal m →
    θ_run (Cert.DtReferenceIdeal.defs (F := Ideal)) (onTc (τ := Cert.DtReferenceIdeal.τ) (Cert.DtReferenceIdeal.main (F := Ideal))) ⟨m, fun _ => 0, g⟩ (fun r => (∀ c : Dev Cert.DtReferenceIdeal.nD,
      r.2.mem ((c.tc : Thread Cert.DtReferenceIdeal.nD Cert.DtReferenceIdeal.τ).loc Cert.DtReferenceIdeal.main_arg0) = m ((c.tc : Thread Cert.DtReferenceIdeal.nD Cert.DtReferenceIdeal.τ).loc Cert.DtReferenceIdeal.main_arg0)
      ∧ r.2.mem ((c.tc : Thread Cert.DtReferenceIdeal.nD Cert.DtReferenceIdeal.τ).loc Cert.DtReferenceIdeal.main_arg1) = m ((c.tc : Thread Cert.DtReferenceIdeal.nD Cert.DtReferenceIdeal.τ).loc Cert.DtReferenceIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1)
      ∧ r.2.mem ((c.tc : Thread Cert.AttnOutReferenceIdeal.nD Cert.AttnOutReferenceIdeal.τ).loc Cert.AttnOutReferenceIdeal.main_arg2) = m ((c.tc : Thread Cert.AttnOutReferenceIdeal.nD Cert.AttnOutReferenceIdeal.τ).loc Cert.AttnOutReferenceIdeal.main_arg2))
      ∧ r.2.sem = fun _ => 0)

def quiescent_SsmOut [hSsmOut : Cert.SsmOut.Facts] : Prop :=
  ∀ (m : (ℓ : Loc Cert.SsmOut.nD Cert.SsmOut.τ Cert.SsmOut.sig) → Buf (Elt Bits) ℓ) (g : Dev Cert.SsmOut.nD → PrngReg), Pre_SsmOut m →
    θ_run (Cert.SsmOut.defs (F := Bits)) (onTc (τ := Cert.SsmOut.τ) (Cert.SsmOut.main (F := Bits))) ⟨m, fun _ => 0, g⟩ (fun r => (∀ c : Dev Cert.SsmOut.nD,
      r.2.mem ((c.tc : Thread Cert.SsmOut.nD Cert.SsmOut.τ).loc Cert.SsmOut.main_arg0) = m ((c.tc : Thread Cert.SsmOut.nD Cert.SsmOut.τ).loc Cert.SsmOut.main_arg0)
      ∧ r.2.mem ((c.tc : Thread Cert.SsmOut.nD Cert.SsmOut.τ).loc Cert.SsmOut.main_arg1) = m ((c.tc : Thread Cert.SsmOut.nD Cert.SsmOut.τ).loc Cert.SsmOut.main_arg1)
      ∧ r.2.mem ((c.tc : Thread Cert.SsmOut.nD Cert.SsmOut.τ).loc Cert.SsmOut.main_arg2) = m ((c.tc : Thread Cert.SsmOut.nD Cert.SsmOut.τ).loc Cert.SsmOut.main_arg2)
      ∧ r.2.mem ((c.tc : Thread Cert.SsmOut.nD Cert.SsmOut.τ).loc Cert.SsmOut.main_arg3) = m ((c.tc : Thread Cert.SsmOut.nD Cert.SsmOut.τ).loc Cert.SsmOut.main_arg3))
      ∧ r.2.sem = fun _ => 0)

def quiescent_SsmOutIdeal [hSsmOutIdeal : Cert.SsmOutIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg), Pre_SsmOutIdeal m →
    θ_run (Cert.SsmOutIdeal.defs (F := Ideal)) (onTc (τ := Cert.SsmOutIdeal.τ) (Cert.SsmOutIdeal.main (F := Ideal))) ⟨m, fun _ => 0, g⟩ (fun r => (∀ c : Dev Cert.SsmOutIdeal.nD,
      r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
      ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
      ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
      ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3))
      ∧ r.2.sem = fun _ => 0)

def quiescent_SsmOutReferenceIdeal [hSsmOutReferenceIdeal : Cert.SsmOutReferenceIdeal.Facts] : Prop :=
  ∀ (m : (ℓ : Loc Cert.SsmOutReferenceIdeal.nD Cert.SsmOutReferenceIdeal.τ Cert.SsmOutReferenceIdeal.sig) → Buf (Elt Ideal) ℓ) (g : Dev Cert.SsmOutReferenceIdeal.nD → PrngReg), Pre_SsmOutReferenceIdeal m →
    θ_run (Cert.SsmOutReferenceIdeal.defs (F := Ideal)) (onTc (τ := Cert.SsmOutReferenceIdeal.τ) (Cert.SsmOutReferenceIdeal.main (F := Ideal))) ⟨m, fun _ => 0, g⟩ (fun r => (∀ c : Dev Cert.SsmOutReferenceIdeal.nD,
      r.2.mem ((c.tc : Thread Cert.SsmOutReferenceIdeal.nD Cert.SsmOutReferenceIdeal.τ).loc Cert.SsmOutReferenceIdeal.main_arg0) = m ((c.tc : Thread Cert.SsmOutReferenceIdeal.nD Cert.SsmOutReferenceIdeal.τ).loc Cert.SsmOutReferenceIdeal.main_arg0)
      ∧ r.2.mem ((c.tc : Thread Cert.SsmOutReferenceIdeal.nD Cert.SsmOutReferenceIdeal.τ).loc Cert.SsmOutReferenceIdeal.main_arg1) = m ((c.tc : Thread Cert.SsmOutReferenceIdeal.nD Cert.SsmOutReferenceIdeal.τ).loc Cert.SsmOutReferenceIdeal.main_arg1)
      ∧ r.2.mem ((c.tc : Thread Cert.SsmOutReferenceIdeal.nD Cert.SsmOutReferenceIdeal.τ).loc Cert.SsmOutReferenceIdeal.main_arg2) = m ((c.tc : Thread Cert.SsmOutReferenceIdeal.nD Cert.SsmOutReferenceIdeal.τ).loc Cert.SsmOutReferenceIdeal.main_arg2)
      ∧ r.2.mem ((c.tc : Thread Cert.SsmOutReferenceIdeal.nD Cert.SsmOutReferenceIdeal.τ).loc Cert.SsmOutReferenceIdeal.main_arg3) = m ((c.tc : Thread Cert.SsmOutReferenceIdeal.nD Cert.SsmOutReferenceIdeal.τ).loc Cert.SsmOutReferenceIdeal.main_arg3))
      ∧ r.2.sem = fun _ => 0)

def quiescent_Ks [hKs : Cert.Ks.Facts] : Prop :=
  ∀ (m : (ℓ : Loc Cert.Ks.nD Cert.Ks.τ Cert.Ks.sig) → Buf (Elt Bits) ℓ) (g : Dev Cert.Ks.nD → PrngReg), Pre_Ks m →
    θ_run (Cert.Ks.defs (F := Bits)) (onTc (τ := Cert.Ks.τ) (Cert.Ks.main (F := Bits))) ⟨m, fun _ => 0, g⟩ (fun r => (∀ c : Dev Cert.Ks.nD,
      r.2.mem ((c.tc : Thread Cert.Ks.nD Cert.Ks.τ).loc Cert.Ks.main_arg0) = m ((c.tc : Thread Cert.Ks.nD Cert.Ks.τ).loc Cert.Ks.main_arg0)
      ∧ r.2.mem ((c.tc : Thread Cert.Ks.nD Cert.Ks.τ).loc Cert.Ks.main_arg1) = m ((c.tc : Thread Cert.Ks.nD Cert.Ks.τ).loc Cert.Ks.main_arg1))
      ∧ r.2.sem = fun _ => 0)

def quiescent_KsIdeal [hKsIdeal : Cert.KsIdeal.Facts] : Prop :=
  ∀ (m : (ℓ : Loc Cert.KsIdeal.nD Cert.KsIdeal.τ Cert.KsIdeal.sig) → Buf (Elt Ideal) ℓ) (g : Dev Cert.KsIdeal.nD → PrngReg), Pre_KsIdeal m →
    θ_run (Cert.KsIdeal.defs (F := Ideal)) (onTc (τ := Cert.KsIdeal.τ) (Cert.KsIdeal.main (F := Ideal))) ⟨m, fun _ => 0, g⟩ (fun r => (∀ c : Dev Cert.KsIdeal.nD,
      r.2.mem ((c.tc : Thread Cert.KsIdeal.nD Cert.KsIdeal.τ).loc Cert.KsIdeal.main_arg0) = m ((c.tc : Thread Cert.KsIdeal.nD Cert.KsIdeal.τ).loc Cert.KsIdeal.main_arg0)
      ∧ r.2.mem ((c.tc : Thread Cert.KsIdeal.nD Cert.KsIdeal.τ).loc Cert.KsIdeal.main_arg1) = m ((c.tc : Thread Cert.KsIdeal.nD Cert.KsIdeal.τ).loc Cert.KsIdeal.main_arg1))
      ∧ r.2.sem = fun _ => 0)

def quiescent_KsReferenceIdeal [hKsReferenceIdeal : Cert.KsReferenceIdeal.Facts] : Prop :=
  ∀ (m : (ℓ : Loc Cert.KsReferenceIdeal.nD Cert.KsReferenceIdeal.τ Cert.KsReferenceIdeal.sig) → Buf (Elt Ideal) ℓ) (g : Dev Cert.KsReferenceIdeal.nD → PrngReg), Pre_KsReferenceIdeal m →
    θ_run (Cert.KsReferenceIdeal.defs (F := Ideal)) (onTc (τ := Cert.KsReferenceIdeal.τ) (Cert.KsReferenceIdeal.main (F := Ideal))) ⟨m, fun _ => 0, g⟩ (fun r => (∀ c : Dev Cert.KsReferenceIdeal.nD,
      r.2.mem ((c.tc : Thread Cert.KsReferenceIdeal.nD Cert.KsReferenceIdeal.τ).loc Cert.KsReferenceIdeal.main_arg0) = m ((c.tc : Thread Cert.KsReferenceIdeal.nD Cert.KsReferenceIdeal.τ).loc Cert.KsReferenceIdeal.main_arg0)
      ∧ r.2.mem ((c.tc : Thread Cert.KsReferenceIdeal.nD Cert.KsReferenceIdeal.τ).loc Cert.KsReferenceIdeal.main_arg1) = m ((c.tc : Thread Cert.KsReferenceIdeal.nD Cert.KsReferenceIdeal.τ).loc Cert.KsReferenceIdeal.main_arg1))
      ∧ r.2.sem = fun _ => 0)

def quiescent_Kp [hKp : Cert.Kp.Facts] : Prop :=
  ∀ (m : (ℓ : Loc Cert.Kp.nD Cert.Kp.τ Cert.Kp.sig) → Buf (Elt Bits) ℓ) (g : Dev Cert.Kp.nD → PrngReg), Pre_Kp m →
    θ_run (Cert.Kp.defs (F := Bits)) (onTc (τ := Cert.Kp.τ) (Cert.Kp.main (F := Bits))) ⟨m, fun _ => 0, g⟩ (fun r => (∀ c : Dev Cert.Kp.nD,
      r.2.mem ((c.tc : Thread Cert.Kp.nD Cert.Kp.τ).loc Cert.Kp.main_arg0) = m ((c.tc : Thread Cert.Kp.nD Cert.Kp.τ).loc Cert.Kp.main_arg0)
      ∧ r.2.mem ((c.tc : Thread Cert.Kp.nD Cert.Kp.τ).loc Cert.Kp.main_arg1) = m ((c.tc : Thread Cert.Kp.nD Cert.Kp.τ).loc Cert.Kp.main_arg1))
      ∧ r.2.sem = fun _ => 0)

def quiescent_KpIdeal [hKpIdeal : Cert.KpIdeal.Facts] : Prop :=
  ∀ (m : (ℓ : Loc Cert.KpIdeal.nD Cert.KpIdeal.τ Cert.KpIdeal.sig) → Buf (Elt Ideal) ℓ) (g : Dev Cert.KpIdeal.nD → PrngReg), Pre_KpIdeal m →
    θ_run (Cert.KpIdeal.defs (F := Ideal)) (onTc (τ := Cert.KpIdeal.τ) (Cert.KpIdeal.main (F := Ideal))) ⟨m, fun _ => 0, g⟩ (fun r => (∀ c : Dev Cert.KpIdeal.nD,
      r.2.mem ((c.tc : Thread Cert.KpIdeal.nD Cert.KpIdeal.τ).loc Cert.KpIdeal.main_arg0) = m ((c.tc : Thread Cert.KpIdeal.nD Cert.KpIdeal.τ).loc Cert.KpIdeal.main_arg0)
      ∧ r.2.mem ((c.tc : Thread Cert.KpIdeal.nD Cert.KpIdeal.τ).loc Cert.KpIdeal.main_arg1) = m ((c.tc : Thread Cert.KpIdeal.nD Cert.KpIdeal.τ).loc Cert.KpIdeal.main_arg1))
      ∧ r.2.sem = fun _ => 0)

def quiescent_KpReferenceIdeal [hKpReferenceIdeal : Cert.KpReferenceIdeal.Facts] : Prop :=
  ∀ (m : (ℓ : Loc Cert.KpReferenceIdeal.nD Cert.KpReferenceIdeal.τ Cert.KpReferenceIdeal.sig) → Buf (Elt Ideal) ℓ) (g : Dev Cert.KpReferenceIdeal.nD → PrngReg), Pre_KpReferenceIdeal m →
    θ_run (Cert.KpReferenceIdeal.defs (F := Ideal)) (onTc (τ := Cert.KpReferenceIdeal.τ) (Cert.KpReferenceIdeal.main (F := Ideal))) ⟨m, fun _ => 0, g⟩ (fun r => (∀ c : Dev Cert.KpReferenceIdeal.nD,
      r.2.mem ((c.tc : Thread Cert.KpReferenceIdeal.nD Cert.KpReferenceIdeal.τ).loc Cert.KpReferenceIdeal.main_arg0) = m ((c.tc : Thread Cert.KpReferenceIdeal.nD Cert.KpReferenceIdeal.τ).loc Cert.KpReferenceIdeal.main_arg0)
      ∧ r.2.mem ((c.tc : Thread Cert.KpReferenceIdeal.nD Cert.KpReferenceIdeal.τ).loc Cert.KpReferenceIdeal.main_arg1) = m ((c.tc : Thread Cert.KpReferenceIdeal.nD Cert.KpReferenceIdeal.τ).loc Cert.KpReferenceIdeal.main_arg1))
      ∧ r.2.sem = fun _ => 0)

def preserves_Kernel_KernelIdeal : Prop :=
  True

def algebraic_KernelIdeal_ReferenceIdeal_on_on_rows_pre_dt_below_inf [hKernelIdeal : Cert.KernelIdeal.Facts] [hReferenceIdeal : Cert.ReferenceIdeal.Facts] [hPre_dt_below_inf : Cert.Pre_dt_below_inf.Facts] [hOn_on_rows : Cert.On_on_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dt_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8320, 4096]⟩ : Shape).Idx, (Cert.On_on_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v38_0) i = v0 c i)
          ∧ (∀ i : (⟨4, ![2, 64, 64, 128]⟩ : Shape).Idx, (Cert.On_on_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v38_1) i = v1 c i)
          ∧ (∀ i : (⟨3, ![2, 8, 6144]⟩ : Shape).Idx, (Cert.On_on_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 i = 1#1 → r.2.mem ((c.tc : Thread Cert.KernelIdeal.nD Cert.KernelIdeal.τ).loc Cert.KernelIdeal.main_v38_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8320, 4096]⟩ : Shape).Idx, (Cert.On_on_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v88) i = v0 c i)
          ∧ (∀ i : (⟨4, ![2, 64, 64, 128]⟩ : Shape).Idx, (Cert.On_on_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v89) i = v1 c i)
          ∧ (∀ i : (⟨3, ![2, 8, 6144]⟩ : Shape).Idx, (Cert.On_on_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 i = 1#1 → r.2.mem ((c.tc : Thread Cert.ReferenceIdeal.nD Cert.ReferenceIdeal.τ).loc Cert.ReferenceIdeal.main_v85) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v4) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_Q_QIdeal : Prop :=
  True

def algebraic_QIdeal_QReferenceIdeal [hQIdeal : Cert.QIdeal.Facts] [hQReferenceIdeal : Cert.QReferenceIdeal.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.QReferenceIdeal.nD Cert.QReferenceIdeal.τ Cert.QReferenceIdeal.sig) → Buf (Elt Ideal) ℓ) (g' : Dev Cert.QReferenceIdeal.nD → PrngReg), Pre_QIdeal m →
    (∀ c : Dev Cert.QIdeal.nD,
      m' ((c.tc : Thread Cert.QReferenceIdeal.nD Cert.QReferenceIdeal.τ).loc Cert.QReferenceIdeal.main_arg0) = m ((c.tc : Thread Cert.QIdeal.nD Cert.QIdeal.τ).loc Cert.QIdeal.main_arg0)
      ∧ m' ((c.tc : Thread Cert.QReferenceIdeal.nD Cert.QReferenceIdeal.τ).loc Cert.QReferenceIdeal.main_arg1) = m ((c.tc : Thread Cert.QIdeal.nD Cert.QIdeal.τ).loc Cert.QIdeal.main_arg1)) →
    ∃ (v0 : (c : Dev Cert.QIdeal.nD) → Buf (Elt Ideal) ((c.tc : Thread Cert.QIdeal.nD Cert.QIdeal.τ).loc Cert.QIdeal.main_v1)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v1) = v0 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1))
      ∧ θ_run (Cert.QReferenceIdeal.defs (F := Ideal)) (onTc (τ := Cert.QReferenceIdeal.τ) (Cert.QReferenceIdeal.main (F := Ideal))) ⟨m', fun _ => 0, g'⟩ (fun r => ∀ c : Dev Cert.QReferenceIdeal.nD,
          r.2.mem ((c.tc : Thread Cert.QReferenceIdeal.nD Cert.QReferenceIdeal.τ).loc Cert.QReferenceIdeal.main_v2) = v0 c
          ∧ r.2.mem ((c.tc : Thread Cert.QReferenceIdeal.nD Cert.QReferenceIdeal.τ).loc Cert.QReferenceIdeal.main_arg0) = m' ((c.tc : Thread Cert.QReferenceIdeal.nD Cert.QReferenceIdeal.τ).loc Cert.QReferenceIdeal.main_arg0)
          ∧ r.2.mem ((c.tc : Thread Cert.QReferenceIdeal.nD Cert.QReferenceIdeal.τ).loc Cert.QReferenceIdeal.main_arg1) = m' ((c.tc : Thread Cert.QReferenceIdeal.nD Cert.QReferenceIdeal.τ).loc Cert.QReferenceIdeal.main_arg1))

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v1) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v2) = v0 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1))

def preserves_Z_ZIdeal : Prop :=
  True

def algebraic_ZIdeal_ZReferenceIdeal [hZIdeal : Cert.ZIdeal.Facts] [hZReferenceIdeal : Cert.ZReferenceIdeal.Facts] : Prop :=
  ∀ (m : (ℓ : Loc Cert.ZIdeal.nD Cert.ZIdeal.τ Cert.ZIdeal.sig) → Buf (Elt Ideal) ℓ) (g : Dev Cert.ZIdeal.nD → PrngReg)
    (m' : (ℓ : Loc Cert.ZReferenceIdeal.nD Cert.ZReferenceIdeal.τ Cert.ZReferenceIdeal.sig) → Buf (Elt Ideal) ℓ) (g' : Dev Cert.ZReferenceIdeal.nD → PrngReg), Pre_ZIdeal m →
    (∀ c : Dev Cert.ZIdeal.nD,
      m' ((c.tc : Thread Cert.ZReferenceIdeal.nD Cert.ZReferenceIdeal.τ).loc Cert.ZReferenceIdeal.main_arg0) = m ((c.tc : Thread Cert.ZIdeal.nD Cert.ZIdeal.τ).loc Cert.ZIdeal.main_arg0)
      ∧ m' ((c.tc : Thread Cert.ZReferenceIdeal.nD Cert.ZReferenceIdeal.τ).loc Cert.ZReferenceIdeal.main_arg1) = m ((c.tc : Thread Cert.ZIdeal.nD Cert.ZIdeal.τ).loc Cert.ZIdeal.main_arg1)) →
    ∃ (v0 : (c : Dev Cert.ZIdeal.nD) → Buf (Elt Ideal) ((c.tc : Thread Cert.ZIdeal.nD Cert.ZIdeal.τ).loc Cert.ZIdeal.main_v1)),
      θ_run (Cert.ZIdeal.defs (F := Ideal)) (onTc (τ := Cert.ZIdeal.τ) (Cert.ZIdeal.main (F := Ideal))) ⟨m, fun _ => 0, g⟩ (fun r => ∀ c : Dev Cert.ZIdeal.nD,
          r.2.mem ((c.tc : Thread Cert.ZIdeal.nD Cert.ZIdeal.τ).loc Cert.ZIdeal.main_v1) = v0 c
          ∧ r.2.mem ((c.tc : Thread Cert.ZIdeal.nD Cert.ZIdeal.τ).loc Cert.ZIdeal.main_arg0) = m ((c.tc : Thread Cert.ZIdeal.nD Cert.ZIdeal.τ).loc Cert.ZIdeal.main_arg0)
          ∧ r.2.mem ((c.tc : Thread Cert.ZIdeal.nD Cert.ZIdeal.τ).loc Cert.ZIdeal.main_arg1) = m ((c.tc : Thread Cert.ZIdeal.nD Cert.ZIdeal.τ).loc Cert.ZIdeal.main_arg1))
      ∧ θ_run (Cert.ZReferenceIdeal.defs (F := Ideal)) (onTc (τ := Cert.ZReferenceIdeal.τ) (Cert.ZReferenceIdeal.main (F := Ideal))) ⟨m', fun _ => 0, g'⟩ (fun r => ∀ c : Dev Cert.ZReferenceIdeal.nD,
          r.2.mem ((c.tc : Thread Cert.ZReferenceIdeal.nD Cert.ZReferenceIdeal.τ).loc Cert.ZReferenceIdeal.main_v2) = v0 c
          ∧ r.2.mem ((c.tc : Thread Cert.ZReferenceIdeal.nD Cert.ZReferenceIdeal.τ).loc Cert.ZReferenceIdeal.main_arg0) = m' ((c.tc : Thread Cert.ZReferenceIdeal.nD Cert.ZReferenceIdeal.τ).loc Cert.ZReferenceIdeal.main_arg0)
          ∧ r.2.mem ((c.tc : Thread Cert.ZReferenceIdeal.nD Cert.ZReferenceIdeal.τ).loc Cert.ZReferenceIdeal.main_arg1) = m' ((c.tc : Thread Cert.ZReferenceIdeal.nD Cert.ZReferenceIdeal.τ).loc Cert.ZReferenceIdeal.main_arg1))

def preserves_Xbc_XbcIdeal : Prop :=
  True

def algebraic_XbcIdeal_XbcReferenceIdeal [hXbcIdeal : Cert.XbcIdeal.Facts] [hXbcReferenceIdeal : Cert.XbcReferenceIdeal.Facts] : Prop :=
  ∀ (m : (ℓ : Loc Cert.XbcIdeal.nD Cert.XbcIdeal.τ Cert.XbcIdeal.sig) → Buf (Elt Ideal) ℓ) (g : Dev Cert.XbcIdeal.nD → PrngReg)
    (m' : (ℓ : Loc Cert.XbcReferenceIdeal.nD Cert.XbcReferenceIdeal.τ Cert.XbcReferenceIdeal.sig) → Buf (Elt Ideal) ℓ) (g' : Dev Cert.XbcReferenceIdeal.nD → PrngReg), Pre_XbcIdeal m →
    (∀ c : Dev Cert.XbcIdeal.nD,
      m' ((c.tc : Thread Cert.XbcReferenceIdeal.nD Cert.XbcReferenceIdeal.τ).loc Cert.XbcReferenceIdeal.main_arg0) = m ((c.tc : Thread Cert.XbcIdeal.nD Cert.XbcIdeal.τ).loc Cert.XbcIdeal.main_arg0)
      ∧ m' ((c.tc : Thread Cert.XbcReferenceIdeal.nD Cert.XbcReferenceIdeal.τ).loc Cert.XbcReferenceIdeal.main_arg1) = m ((c.tc : Thread Cert.XbcIdeal.nD Cert.XbcIdeal.τ).loc Cert.XbcIdeal.main_arg1)) →
    ∃ (v0 : (c : Dev Cert.XbcIdeal.nD) → Buf (Elt Ideal) ((c.tc : Thread Cert.XbcIdeal.nD Cert.XbcIdeal.τ).loc Cert.XbcIdeal.main_v1)),
      θ_run (Cert.XbcIdeal.defs (F := Ideal)) (onTc (τ := Cert.XbcIdeal.τ) (Cert.XbcIdeal.main (F := Ideal))) ⟨m, fun _ => 0, g⟩ (fun r => ∀ c : Dev Cert.XbcIdeal.nD,
          r.2.mem ((c.tc : Thread Cert.XbcIdeal.nD Cert.XbcIdeal.τ).loc Cert.XbcIdeal.main_v1) = v0 c
          ∧ r.2.mem ((c.tc : Thread Cert.XbcIdeal.nD Cert.XbcIdeal.τ).loc Cert.XbcIdeal.main_arg0) = m ((c.tc : Thread Cert.XbcIdeal.nD Cert.XbcIdeal.τ).loc Cert.XbcIdeal.main_arg0)
          ∧ r.2.mem ((c.tc : Thread Cert.XbcIdeal.nD Cert.XbcIdeal.τ).loc Cert.XbcIdeal.main_arg1) = m ((c.tc : Thread Cert.XbcIdeal.nD Cert.XbcIdeal.τ).loc Cert.XbcIdeal.main_arg1))
      ∧ θ_run (Cert.XbcReferenceIdeal.defs (F := Ideal)) (onTc (τ := Cert.XbcReferenceIdeal.τ) (Cert.XbcReferenceIdeal.main (F := Ideal))) ⟨m', fun _ => 0, g'⟩ (fun r => ∀ c : Dev Cert.XbcReferenceIdeal.nD,
          r.2.mem ((c.tc : Thread Cert.XbcReferenceIdeal.nD Cert.XbcReferenceIdeal.τ).loc Cert.XbcReferenceIdeal.main_v2) = v0 c
          ∧ r.2.mem ((c.tc : Thread Cert.XbcReferenceIdeal.nD Cert.XbcReferenceIdeal.τ).loc Cert.XbcReferenceIdeal.main_arg0) = m' ((c.tc : Thread Cert.XbcReferenceIdeal.nD Cert.XbcReferenceIdeal.τ).loc Cert.XbcReferenceIdeal.main_arg0)
          ∧ r.2.mem ((c.tc : Thread Cert.XbcReferenceIdeal.nD Cert.XbcReferenceIdeal.τ).loc Cert.XbcReferenceIdeal.main_arg1) = m' ((c.tc : Thread Cert.XbcReferenceIdeal.nD Cert.XbcReferenceIdeal.τ).loc Cert.XbcReferenceIdeal.main_arg1))

def preserves_Dt_DtIdeal : Prop :=
  True

def algebraic_DtIdeal_DtReferenceIdeal [hDtIdeal : Cert.DtIdeal.Facts] [hDtReferenceIdeal : Cert.DtReferenceIdeal.Facts] : Prop :=
  ∀ (m : (ℓ : Loc Cert.DtIdeal.nD Cert.DtIdeal.τ Cert.DtIdeal.sig) → Buf (Elt Ideal) ℓ) (g : Dev Cert.DtIdeal.nD → PrngReg)
    (m' : (ℓ : Loc Cert.DtReferenceIdeal.nD Cert.DtReferenceIdeal.τ Cert.DtReferenceIdeal.sig) → Buf (Elt Ideal) ℓ) (g' : Dev Cert.DtReferenceIdeal.nD → PrngReg), Pre_DtIdeal m →
    (∀ c : Dev Cert.DtIdeal.nD,
      m' ((c.tc : Thread Cert.DtReferenceIdeal.nD Cert.DtReferenceIdeal.τ).loc Cert.DtReferenceIdeal.main_arg0) = m ((c.tc : Thread Cert.DtIdeal.nD Cert.DtIdeal.τ).loc Cert.DtIdeal.main_arg0)
      ∧ m' ((c.tc : Thread Cert.DtReferenceIdeal.nD Cert.DtReferenceIdeal.τ).loc Cert.DtReferenceIdeal.main_arg1) = m ((c.tc : Thread Cert.DtIdeal.nD Cert.DtIdeal.τ).loc Cert.DtIdeal.main_arg1)) →
    ∃ (v0 : (c : Dev Cert.DtIdeal.nD) → Buf (Elt Ideal) ((c.tc : Thread Cert.DtIdeal.nD Cert.DtIdeal.τ).loc Cert.DtIdeal.main_v1)),
      θ_run (Cert.DtIdeal.defs (F := Ideal)) (onTc (τ := Cert.DtIdeal.τ) (Cert.DtIdeal.main (F := Ideal))) ⟨m, fun _ => 0, g⟩ (fun r => ∀ c : Dev Cert.DtIdeal.nD,
          r.2.mem ((c.tc : Thread Cert.DtIdeal.nD Cert.DtIdeal.τ).loc Cert.DtIdeal.main_v1) = v0 c
          ∧ r.2.mem ((c.tc : Thread Cert.DtIdeal.nD Cert.DtIdeal.τ).loc Cert.DtIdeal.main_arg0) = m ((c.tc : Thread Cert.DtIdeal.nD Cert.DtIdeal.τ).loc Cert.DtIdeal.main_arg0)
          ∧ r.2.mem ((c.tc : Thread Cert.DtIdeal.nD Cert.DtIdeal.τ).loc Cert.DtIdeal.main_arg1) = m ((c.tc : Thread Cert.DtIdeal.nD Cert.DtIdeal.τ).loc Cert.DtIdeal.main_arg1))
      ∧ θ_run (Cert.DtReferenceIdeal.defs (F := Ideal)) (onTc (τ := Cert.DtReferenceIdeal.τ) (Cert.DtReferenceIdeal.main (F := Ideal))) ⟨m', fun _ => 0, g'⟩ (fun r => ∀ c : Dev Cert.DtReferenceIdeal.nD,
          r.2.mem ((c.tc : Thread Cert.DtReferenceIdeal.nD Cert.DtReferenceIdeal.τ).loc Cert.DtReferenceIdeal.main_v2) = v0 c
          ∧ r.2.mem ((c.tc : Thread Cert.DtReferenceIdeal.nD Cert.DtReferenceIdeal.τ).loc Cert.DtReferenceIdeal.main_arg0) = m' ((c.tc : Thread Cert.DtReferenceIdeal.nD Cert.DtReferenceIdeal.τ).loc Cert.DtReferenceIdeal.main_arg0)
          ∧ r.2.mem ((c.tc : Thread Cert.DtReferenceIdeal.nD Cert.DtReferenceIdeal.τ).loc Cert.DtReferenceIdeal.main_arg1) = m' ((c.tc : Thread Cert.DtReferenceIdeal.nD Cert.DtReferenceIdeal.τ).loc Cert.DtReferenceIdeal.main_arg1))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v1) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v8) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1))

def preserves_AttnOut_AttnOutIdeal : Prop :=
  True

def algebraic_AttnOutIdeal_AttnOutReferenceIdeal [hAttnOutIdeal : Cert.AttnOutIdeal.Facts] [hAttnOutReferenceIdeal : Cert.AttnOutReferenceIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutIdeal m →
    (∀ c : Dev Cert.AttnOutIdeal.nD,
      m' ((c.tc : Thread Cert.AttnOutReferenceIdeal.nD Cert.AttnOutReferenceIdeal.τ).loc Cert.AttnOutReferenceIdeal.main_arg0) = m ((c.tc : Thread Cert.AttnOutIdeal.nD Cert.AttnOutIdeal.τ).loc Cert.AttnOutIdeal.main_arg0)
      ∧ m' ((c.tc : Thread Cert.AttnOutReferenceIdeal.nD Cert.AttnOutReferenceIdeal.τ).loc Cert.AttnOutReferenceIdeal.main_arg1) = m ((c.tc : Thread Cert.AttnOutIdeal.nD Cert.AttnOutIdeal.τ).loc Cert.AttnOutIdeal.main_arg1)
      ∧ m' ((c.tc : Thread Cert.AttnOutReferenceIdeal.nD Cert.AttnOutReferenceIdeal.τ).loc Cert.AttnOutReferenceIdeal.main_arg2) = m ((c.tc : Thread Cert.AttnOutIdeal.nD Cert.AttnOutIdeal.τ).loc Cert.AttnOutIdeal.main_arg2)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v3) = v0 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1)
          ∧ r.2.mem ((c.tc : Thread Cert.AttnOutReferenceIdeal.nD Cert.AttnOutReferenceIdeal.τ).loc Cert.AttnOutReferenceIdeal.main_arg2) = m' ((c.tc : Thread Cert.AttnOutReferenceIdeal.nD Cert.AttnOutReferenceIdeal.τ).loc Cert.AttnOutReferenceIdeal.main_arg2))

def preserves_SsmOut_SsmOutIdeal : Prop :=
  True

def algebraic_SsmOutIdeal_SsmOutReferenceIdeal [hSsmOutIdeal : Cert.SsmOutIdeal.Facts] [hSsmOutReferenceIdeal : Cert.SsmOutReferenceIdeal.Facts] : Prop :=
  ∀ (m : (ℓ : Loc Cert.SsmOutIdeal.nD Cert.SsmOutIdeal.τ Cert.SsmOutIdeal.sig) → Buf (Elt Ideal) ℓ) (g : Dev Cert.SsmOutIdeal.nD → PrngReg)
    (m' : (ℓ : Loc Cert.SsmOutReferenceIdeal.nD Cert.SsmOutReferenceIdeal.τ Cert.SsmOutReferenceIdeal.sig) → Buf (Elt Ideal) ℓ) (g' : Dev Cert.SsmOutReferenceIdeal.nD → PrngReg), Pre_SsmOutIdeal m →
    (∀ c : Dev Cert.SsmOutIdeal.nD,
      m' ((c.tc : Thread Cert.SsmOutReferenceIdeal.nD Cert.SsmOutReferenceIdeal.τ).loc Cert.SsmOutReferenceIdeal.main_arg0) = m ((c.tc : Thread Cert.SsmOutIdeal.nD Cert.SsmOutIdeal.τ).loc Cert.SsmOutIdeal.main_arg0)
      ∧ m' ((c.tc : Thread Cert.SsmOutReferenceIdeal.nD Cert.SsmOutReferenceIdeal.τ).loc Cert.SsmOutReferenceIdeal.main_arg1) = m ((c.tc : Thread Cert.SsmOutIdeal.nD Cert.SsmOutIdeal.τ).loc Cert.SsmOutIdeal.main_arg1)
      ∧ m' ((c.tc : Thread Cert.SsmOutReferenceIdeal.nD Cert.SsmOutReferenceIdeal.τ).loc Cert.SsmOutReferenceIdeal.main_arg2) = m ((c.tc : Thread Cert.SsmOutIdeal.nD Cert.SsmOutIdeal.τ).loc Cert.SsmOutIdeal.main_arg2)
      ∧ m' ((c.tc : Thread Cert.SsmOutReferenceIdeal.nD Cert.SsmOutReferenceIdeal.τ).loc Cert.SsmOutReferenceIdeal.main_arg3) = m ((c.tc : Thread Cert.SsmOutIdeal.nD Cert.SsmOutIdeal.τ).loc Cert.SsmOutIdeal.main_arg3)) →
    ∃ (v0 : (c : Dev Cert.SsmOutIdeal.nD) → Buf (Elt Ideal) ((c.tc : Thread Cert.SsmOutIdeal.nD Cert.SsmOutIdeal.τ).loc Cert.SsmOutIdeal.main_v0)),
      θ_run (Cert.SsmOutIdeal.defs (F := Ideal)) (onTc (τ := Cert.SsmOutIdeal.τ) (Cert.SsmOutIdeal.main (F := Ideal))) ⟨m, fun _ => 0, g⟩ (fun r => ∀ c : Dev Cert.SsmOutIdeal.nD,
          r.2.mem ((c.tc : Thread Cert.SsmOutIdeal.nD Cert.SsmOutIdeal.τ).loc Cert.SsmOutIdeal.main_v0) = v0 c
          ∧ r.2.mem ((c.tc : Thread Cert.SsmOutIdeal.nD Cert.SsmOutIdeal.τ).loc Cert.SsmOutIdeal.main_arg0) = m ((c.tc : Thread Cert.SsmOutIdeal.nD Cert.SsmOutIdeal.τ).loc Cert.SsmOutIdeal.main_arg0)
          ∧ r.2.mem ((c.tc : Thread Cert.SsmOutIdeal.nD Cert.SsmOutIdeal.τ).loc Cert.SsmOutIdeal.main_arg1) = m ((c.tc : Thread Cert.SsmOutIdeal.nD Cert.SsmOutIdeal.τ).loc Cert.SsmOutIdeal.main_arg1)
          ∧ r.2.mem ((c.tc : Thread Cert.SsmOutIdeal.nD Cert.SsmOutIdeal.τ).loc Cert.SsmOutIdeal.main_arg2) = m ((c.tc : Thread Cert.SsmOutIdeal.nD Cert.SsmOutIdeal.τ).loc Cert.SsmOutIdeal.main_arg2)
          ∧ r.2.mem ((c.tc : Thread Cert.SsmOutIdeal.nD Cert.SsmOutIdeal.τ).loc Cert.SsmOutIdeal.main_arg3) = m ((c.tc : Thread Cert.SsmOutIdeal.nD Cert.SsmOutIdeal.τ).loc Cert.SsmOutIdeal.main_arg3))
      ∧ θ_run (Cert.SsmOutReferenceIdeal.defs (F := Ideal)) (onTc (τ := Cert.SsmOutReferenceIdeal.τ) (Cert.SsmOutReferenceIdeal.main (F := Ideal))) ⟨m', fun _ => 0, g'⟩ (fun r => ∀ c : Dev Cert.SsmOutReferenceIdeal.nD,
          r.2.mem ((c.tc : Thread Cert.SsmOutReferenceIdeal.nD Cert.SsmOutReferenceIdeal.τ).loc Cert.SsmOutReferenceIdeal.main_v5) = v0 c
          ∧ r.2.mem ((c.tc : Thread Cert.SsmOutReferenceIdeal.nD Cert.SsmOutReferenceIdeal.τ).loc Cert.SsmOutReferenceIdeal.main_arg0) = m' ((c.tc : Thread Cert.SsmOutReferenceIdeal.nD Cert.SsmOutReferenceIdeal.τ).loc Cert.SsmOutReferenceIdeal.main_arg0)
          ∧ r.2.mem ((c.tc : Thread Cert.SsmOutReferenceIdeal.nD Cert.SsmOutReferenceIdeal.τ).loc Cert.SsmOutReferenceIdeal.main_arg1) = m' ((c.tc : Thread Cert.SsmOutReferenceIdeal.nD Cert.SsmOutReferenceIdeal.τ).loc Cert.SsmOutReferenceIdeal.main_arg1)
          ∧ r.2.mem ((c.tc : Thread Cert.SsmOutReferenceIdeal.nD Cert.SsmOutReferenceIdeal.τ).loc Cert.SsmOutReferenceIdeal.main_arg2) = m' ((c.tc : Thread Cert.SsmOutReferenceIdeal.nD Cert.SsmOutReferenceIdeal.τ).loc Cert.SsmOutReferenceIdeal.main_arg2)
          ∧ r.2.mem ((c.tc : Thread Cert.SsmOutReferenceIdeal.nD Cert.SsmOutReferenceIdeal.τ).loc Cert.SsmOutReferenceIdeal.main_arg3) = m' ((c.tc : Thread Cert.SsmOutReferenceIdeal.nD Cert.SsmOutReferenceIdeal.τ).loc Cert.SsmOutReferenceIdeal.main_arg3))

def preserves_Ks_KsIdeal : Prop :=
  True

def algebraic_KsIdeal_KsReferenceIdeal [hKsIdeal : Cert.KsIdeal.Facts] [hKsReferenceIdeal : Cert.KsReferenceIdeal.Facts] : Prop :=
  ∀ (m : (ℓ : Loc Cert.KsIdeal.nD Cert.KsIdeal.τ Cert.KsIdeal.sig) → Buf (Elt Ideal) ℓ) (g : Dev Cert.KsIdeal.nD → PrngReg)
    (m' : (ℓ : Loc Cert.KsReferenceIdeal.nD Cert.KsReferenceIdeal.τ Cert.KsReferenceIdeal.sig) → Buf (Elt Ideal) ℓ) (g' : Dev Cert.KsReferenceIdeal.nD → PrngReg), Pre_KsIdeal m →
    (∀ c : Dev Cert.KsIdeal.nD,
      m' ((c.tc : Thread Cert.KsReferenceIdeal.nD Cert.KsReferenceIdeal.τ).loc Cert.KsReferenceIdeal.main_arg0) = m ((c.tc : Thread Cert.KsIdeal.nD Cert.KsIdeal.τ).loc Cert.KsIdeal.main_arg0)
      ∧ m' ((c.tc : Thread Cert.KsReferenceIdeal.nD Cert.KsReferenceIdeal.τ).loc Cert.KsReferenceIdeal.main_arg1) = m ((c.tc : Thread Cert.KsIdeal.nD Cert.KsIdeal.τ).loc Cert.KsIdeal.main_arg1)) →
    ∃ (v0 : (c : Dev Cert.KsIdeal.nD) → Buf (Elt Ideal) ((c.tc : Thread Cert.KsIdeal.nD Cert.KsIdeal.τ).loc Cert.KsIdeal.main_v22)),
      θ_run (Cert.KsIdeal.defs (F := Ideal)) (onTc (τ := Cert.KsIdeal.τ) (Cert.KsIdeal.main (F := Ideal))) ⟨m, fun _ => 0, g⟩ (fun r => ∀ c : Dev Cert.KsIdeal.nD,
          r.2.mem ((c.tc : Thread Cert.KsIdeal.nD Cert.KsIdeal.τ).loc Cert.KsIdeal.main_v22) = v0 c
          ∧ r.2.mem ((c.tc : Thread Cert.KsIdeal.nD Cert.KsIdeal.τ).loc Cert.KsIdeal.main_arg0) = m ((c.tc : Thread Cert.KsIdeal.nD Cert.KsIdeal.τ).loc Cert.KsIdeal.main_arg0)
          ∧ r.2.mem ((c.tc : Thread Cert.KsIdeal.nD Cert.KsIdeal.τ).loc Cert.KsIdeal.main_arg1) = m ((c.tc : Thread Cert.KsIdeal.nD Cert.KsIdeal.τ).loc Cert.KsIdeal.main_arg1))
      ∧ θ_run (Cert.KsReferenceIdeal.defs (F := Ideal)) (onTc (τ := Cert.KsReferenceIdeal.τ) (Cert.KsReferenceIdeal.main (F := Ideal))) ⟨m', fun _ => 0, g'⟩ (fun r => ∀ c : Dev Cert.KsReferenceIdeal.nD,
          r.2.mem ((c.tc : Thread Cert.KsReferenceIdeal.nD Cert.KsReferenceIdeal.τ).loc Cert.KsReferenceIdeal.main_v47) = v0 c
          ∧ r.2.mem ((c.tc : Thread Cert.KsReferenceIdeal.nD Cert.KsReferenceIdeal.τ).loc Cert.KsReferenceIdeal.main_arg0) = m' ((c.tc : Thread Cert.KsReferenceIdeal.nD Cert.KsReferenceIdeal.τ).loc Cert.KsReferenceIdeal.main_arg0)
          ∧ r.2.mem ((c.tc : Thread Cert.KsReferenceIdeal.nD Cert.KsReferenceIdeal.τ).loc Cert.KsReferenceIdeal.main_arg1) = m' ((c.tc : Thread Cert.KsReferenceIdeal.nD Cert.KsReferenceIdeal.τ).loc Cert.KsReferenceIdeal.main_arg1))

def preserves_Kp_KpIdeal : Prop :=
  True

def algebraic_KpIdeal_KpReferenceIdeal [hKpIdeal : Cert.KpIdeal.Facts] [hKpReferenceIdeal : Cert.KpReferenceIdeal.Facts] : Prop :=
  ∀ (m : (ℓ : Loc Cert.KpIdeal.nD Cert.KpIdeal.τ Cert.KpIdeal.sig) → Buf (Elt Ideal) ℓ) (g : Dev Cert.KpIdeal.nD → PrngReg)
    (m' : (ℓ : Loc Cert.KpReferenceIdeal.nD Cert.KpReferenceIdeal.τ Cert.KpReferenceIdeal.sig) → Buf (Elt Ideal) ℓ) (g' : Dev Cert.KpReferenceIdeal.nD → PrngReg), Pre_KpIdeal m →
    (∀ c : Dev Cert.KpIdeal.nD,
      m' ((c.tc : Thread Cert.KpReferenceIdeal.nD Cert.KpReferenceIdeal.τ).loc Cert.KpReferenceIdeal.main_arg0) = m ((c.tc : Thread Cert.KpIdeal.nD Cert.KpIdeal.τ).loc Cert.KpIdeal.main_arg0)
      ∧ m' ((c.tc : Thread Cert.KpReferenceIdeal.nD Cert.KpReferenceIdeal.τ).loc Cert.KpReferenceIdeal.main_arg1) = m ((c.tc : Thread Cert.KpIdeal.nD Cert.KpIdeal.τ).loc Cert.KpIdeal.main_arg1)) →
    ∃ (v0 : (c : Dev Cert.KpIdeal.nD) → Buf (Elt Ideal) ((c.tc : Thread Cert.KpIdeal.nD Cert.KpIdeal.τ).loc Cert.KpIdeal.main_v19_0)),
      θ_run (Cert.KpIdeal.defs (F := Ideal)) (onTc (τ := Cert.KpIdeal.τ) (Cert.KpIdeal.main (F := Ideal))) ⟨m, fun _ => 0, g⟩ (fun r => ∀ c : Dev Cert.KpIdeal.nD,
          r.2.mem ((c.tc : Thread Cert.KpIdeal.nD Cert.KpIdeal.τ).loc Cert.KpIdeal.main_v19_0) = v0 c
          ∧ r.2.mem ((c.tc : Thread Cert.KpIdeal.nD Cert.KpIdeal.τ).loc Cert.KpIdeal.main_arg0) = m ((c.tc : Thread Cert.KpIdeal.nD Cert.KpIdeal.τ).loc Cert.KpIdeal.main_arg0)
          ∧ r.2.mem ((c.tc : Thread Cert.KpIdeal.nD Cert.KpIdeal.τ).loc Cert.KpIdeal.main_arg1) = m ((c.tc : Thread Cert.KpIdeal.nD Cert.KpIdeal.τ).loc Cert.KpIdeal.main_arg1))
      ∧ θ_run (Cert.KpReferenceIdeal.defs (F := Ideal)) (onTc (τ := Cert.KpReferenceIdeal.τ) (Cert.KpReferenceIdeal.main (F := Ideal))) ⟨m', fun _ => 0, g'⟩ (fun r => ∀ c : Dev Cert.KpReferenceIdeal.nD,
          r.2.mem ((c.tc : Thread Cert.KpReferenceIdeal.nD Cert.KpReferenceIdeal.τ).loc Cert.KpReferenceIdeal.main_v45) = v0 c
          ∧ r.2.mem ((c.tc : Thread Cert.KpReferenceIdeal.nD Cert.KpReferenceIdeal.τ).loc Cert.KpReferenceIdeal.main_arg0) = m' ((c.tc : Thread Cert.KpReferenceIdeal.nD Cert.KpReferenceIdeal.τ).loc Cert.KpReferenceIdeal.main_arg0)
          ∧ r.2.mem ((c.tc : Thread Cert.KpReferenceIdeal.nD Cert.KpReferenceIdeal.τ).loc Cert.KpReferenceIdeal.main_arg1) = m' ((c.tc : Thread Cert.KpReferenceIdeal.nD Cert.KpReferenceIdeal.τ).loc Cert.KpReferenceIdeal.main_arg1))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hQ : Cert.Q.Facts) (hQIdeal : Cert.QIdeal.Facts) (hQReferenceIdeal : Cert.QReferenceIdeal.Facts) (hKv : Cert.Kv.Facts) (hKvIdeal : Cert.KvIdeal.Facts) (hKvReferenceIdeal : Cert.KvReferenceIdeal.Facts) (hZ : Cert.Z.Facts) (hZIdeal : Cert.ZIdeal.Facts) (hZReferenceIdeal : Cert.ZReferenceIdeal.Facts) (hXbc : Cert.Xbc.Facts) (hXbcIdeal : Cert.XbcIdeal.Facts) (hXbcReferenceIdeal : Cert.XbcReferenceIdeal.Facts) (hDt : Cert.Dt.Facts) (hDtIdeal : Cert.DtIdeal.Facts) (hDtReferenceIdeal : Cert.DtReferenceIdeal.Facts) (hGates : Cert.Gates.Facts) (hGatesIdeal : Cert.GatesIdeal.Facts) (hGatesReferenceIdeal : Cert.GatesReferenceIdeal.Facts) (hAttnOut : Cert.AttnOut.Facts) (hAttnOutIdeal : Cert.AttnOutIdeal.Facts) (hAttnOutReferenceIdeal : Cert.AttnOutReferenceIdeal.Facts) (hSsmOut : Cert.SsmOut.Facts) (hSsmOutIdeal : Cert.SsmOutIdeal.Facts) (hSsmOutReferenceIdeal : Cert.SsmOutReferenceIdeal.Facts) (hKs : Cert.Ks.Facts) (hKsIdeal : Cert.KsIdeal.Facts) (hKsReferenceIdeal : Cert.KsReferenceIdeal.Facts) (hKp : Cert.Kp.Facts) (hKpIdeal : Cert.KpIdeal.Facts) (hKpReferenceIdeal : Cert.KpReferenceIdeal.Facts) (hPre_dt_below_inf : Cert.Pre_dt_below_inf.Facts) (hOn_on_rows : Cert.On_on_rows.Facts),
    quiescent_Kernel (hKernel := hKernel)
    ∧ quiescent_KernelIdeal (hKernelIdeal := hKernelIdeal)
    ∧ quiescent_KernelIdeal_pre_dt_below_inf (hKernelIdeal := hKernelIdeal) (hPre_dt_below_inf := hPre_dt_below_inf)
    ∧ quiescent_ReferenceIdeal (hReferenceIdeal := hReferenceIdeal)
    ∧ quiescent_ReferenceIdeal_pre_dt_below_inf (hReferenceIdeal := hReferenceIdeal) (hPre_dt_below_inf := hPre_dt_below_inf)
    ∧ quiescent_Up (hUp := hUp)
    ∧ quiescent_UpIdeal (hUpIdeal := hUpIdeal)
    ∧ quiescent_UpReferenceIdeal (hUpReferenceIdeal := hUpReferenceIdeal)
    ∧ quiescent_Q (hQ := hQ)
    ∧ quiescent_QIdeal (hQIdeal := hQIdeal)
    ∧ quiescent_QReferenceIdeal (hQReferenceIdeal := hQReferenceIdeal)
    ∧ quiescent_Kv (hKv := hKv)
    ∧ quiescent_KvIdeal (hKvIdeal := hKvIdeal)
    ∧ quiescent_KvReferenceIdeal (hKvReferenceIdeal := hKvReferenceIdeal)
    ∧ quiescent_Z (hZ := hZ)
    ∧ quiescent_ZIdeal (hZIdeal := hZIdeal)
    ∧ quiescent_ZReferenceIdeal (hZReferenceIdeal := hZReferenceIdeal)
    ∧ quiescent_Xbc (hXbc := hXbc)
    ∧ quiescent_XbcIdeal (hXbcIdeal := hXbcIdeal)
    ∧ quiescent_XbcReferenceIdeal (hXbcReferenceIdeal := hXbcReferenceIdeal)
    ∧ quiescent_Dt (hDt := hDt)
    ∧ quiescent_DtIdeal (hDtIdeal := hDtIdeal)
    ∧ quiescent_DtReferenceIdeal (hDtReferenceIdeal := hDtReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_AttnOut (hAttnOut := hAttnOut)
    ∧ quiescent_AttnOutIdeal (hAttnOutIdeal := hAttnOutIdeal)
    ∧ quiescent_AttnOutReferenceIdeal (hAttnOutReferenceIdeal := hAttnOutReferenceIdeal)
    ∧ quiescent_SsmOut (hSsmOut := hSsmOut)
    ∧ quiescent_SsmOutIdeal (hSsmOutIdeal := hSsmOutIdeal)
    ∧ quiescent_SsmOutReferenceIdeal (hSsmOutReferenceIdeal := hSsmOutReferenceIdeal)
    ∧ quiescent_Ks (hKs := hKs)
    ∧ quiescent_KsIdeal (hKsIdeal := hKsIdeal)
    ∧ quiescent_KsReferenceIdeal (hKsReferenceIdeal := hKsReferenceIdeal)
    ∧ quiescent_Kp (hKp := hKp)
    ∧ quiescent_KpIdeal (hKpIdeal := hKpIdeal)
    ∧ quiescent_KpReferenceIdeal (hKpReferenceIdeal := hKpReferenceIdeal)
    ∧ preserves_Kernel_KernelIdeal
    ∧ algebraic_KernelIdeal_ReferenceIdeal_on_on_rows_pre_dt_below_inf (hKernelIdeal := hKernelIdeal) (hReferenceIdeal := hReferenceIdeal) (hPre_dt_below_inf := hPre_dt_below_inf) (hOn_on_rows := hOn_on_rows)
    ∧ preserves_Up_UpIdeal
    ∧ algebraic_UpIdeal_UpReferenceIdeal (hUpIdeal := hUpIdeal) (hUpReferenceIdeal := hUpReferenceIdeal)
    ∧ preserves_Q_QIdeal
    ∧ algebraic_QIdeal_QReferenceIdeal (hQIdeal := hQIdeal) (hQReferenceIdeal := hQReferenceIdeal)
    ∧ preserves_Kv_KvIdeal
    ∧ algebraic_KvIdeal_KvReferenceIdeal (hKvIdeal := hKvIdeal) (hKvReferenceIdeal := hKvReferenceIdeal)
    ∧ preserves_Z_ZIdeal
    ∧ algebraic_ZIdeal_ZReferenceIdeal (hZIdeal := hZIdeal) (hZReferenceIdeal := hZReferenceIdeal)
    ∧ preserves_Xbc_XbcIdeal
    ∧ algebraic_XbcIdeal_XbcReferenceIdeal (hXbcIdeal := hXbcIdeal) (hXbcReferenceIdeal := hXbcReferenceIdeal)
    ∧ preserves_Dt_DtIdeal
    ∧ algebraic_DtIdeal_DtReferenceIdeal (hDtIdeal := hDtIdeal) (hDtReferenceIdeal := hDtReferenceIdeal)
    ∧ preserves_Gates_GatesIdeal
    ∧ algebraic_GatesIdeal_GatesReferenceIdeal (hGatesIdeal := hGatesIdeal) (hGatesReferenceIdeal := hGatesReferenceIdeal)
    ∧ preserves_AttnOut_AttnOutIdeal
    ∧ algebraic_AttnOutIdeal_AttnOutReferenceIdeal (hAttnOutIdeal := hAttnOutIdeal) (hAttnOutReferenceIdeal := hAttnOutReferenceIdeal)
    ∧ preserves_SsmOut_SsmOutIdeal
    ∧ algebraic_SsmOutIdeal_SsmOutReferenceIdeal (hSsmOutIdeal := hSsmOutIdeal) (hSsmOutReferenceIdeal := hSsmOutReferenceIdeal)
    ∧ preserves_Ks_KsIdeal
    ∧ algebraic_KsIdeal_KsReferenceIdeal (hKsIdeal := hKsIdeal) (hKsReferenceIdeal := hKsReferenceIdeal)
    ∧ preserves_Kp_KpIdeal
    ∧ algebraic_KpIdeal_KpReferenceIdeal (hKpIdeal := hKpIdeal) (hKpReferenceIdeal := hKpReferenceIdeal)
-- ==== On_on_rows.lean ====
abbrev S8320x6144 : Shape := ⟨2, ![8320, 6144]⟩
abbrev S8320x4096 : Shape := ⟨2, ![8320, 4096]⟩
abbrev S8320x128 : Shape := ⟨2, ![8320, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S_ : Shape := ⟨0, ![]⟩
abbrev S2x64x64x128 : Shape := ⟨4, ![2, 64, 64, 128]⟩
abbrev S2x8x6144 : Shape := ⟨3, ![2, 8, 6144]⟩

class Facts : Prop where
  bcast_S_S8320x4096 : S_.BroadcastsInDim S8320x4096 (![] : Fin 0 → Fin S8320x4096.rank)
  bcast_S_S2x64x64x128 : S_.BroadcastsInDim S2x64x64x128 (![] : Fin 0 → Fin S2x64x64x128.rank)
  bcast_S_S2x8x6144 : S_.BroadcastsInDim S2x8x6144 (![] : Fin 0 → Fin S2x8x6144.rank)

variable [Facts]

def fn {F : FTy → Type} [FloatOps F] (main_arg0 : FVec F S8320x6144 .f32) (main_arg1 : FVec F S8320x4096 .f32) (main_arg2 : FVec F S8320x128 .f32) (main_arg3 : FVec F S4x6144 .f32) (main_arg4 : FVec F S6144 .f32) (main_arg5 : FVec F S64 .f32) (main_arg6 : FVec F S64 .f32) (main_arg7 : FVec F S64 .f32) (main_arg8 : FVec F S4096 .f32) : IVec S8320x4096 1 × IVec S2x64x64x128 1 × IVec S2x8x6144 1 :=
  let main_v0 : IVec S8320x4096 32 := iotaInDim S8320x4096 32 0
  let main_c : IVec S_ 32 := constantI S_ 32 8192#32
  let main_v1 : IVec S8320x4096 32 := broadcastInDim S8320x4096 ![] bcast_S_S8320x4096 main_c
  let main_v2 : IVec S8320x4096 1 := cmpi .slt main_v0 main_v1
  let main_c_0 : IVec S_ 1 := constantI S_ 1 1#1
  let main_v3 : IVec S2x64x64x128 1 := broadcastInDim S2x64x64x128 ![] bcast_S_S2x64x64x128 main_c_0
  let main_v4 : IVec S2x8x6144 32 := iotaInDim S2x8x6144 32 1
  let main_c_1 : IVec S_ 32 := constantI S_ 32 5#32
  let main_v5 : IVec S2x8x6144 32 := broadcastInDim S2x8x6144 ![] bcast_S_S2x8x6144 main_c_1
  let main_v6 : IVec S2x8x6144 1 := cmpi .sge main_v4 main_v5
  (main_v2, main_v3, main_v6)
-- ==== Pre_dt_below_inf.lean ====
abbrev S8320x6144 : Shape := ⟨2, ![8320, 6144]⟩
abbrev S8320x4096 : Shape := ⟨2, ![8320, 4096]⟩
abbrev S8320x128 : Shape := ⟨2, ![8320, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S8192x64 : Shape := ⟨2, ![8192, 64]⟩
abbrev S1x64 : Shape := ⟨2, ![1, 64]⟩
abbrev S_ : Shape := ⟨0, ![]⟩

class Facts : Prop where
  slices_S8320x128_S8192x64_0_0 : S8320x128.Slices ![0, 0] S8192x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8320x6144 .f32) (main_arg1 : FVec F S8320x4096 .f32) (main_arg2 : FVec F S8320x128 .f32) (main_arg3 : FVec F S4x6144 .f32) (main_arg4 : FVec F S6144 .f32) (main_arg5 : FVec F S64 .f32) (main_arg6 : FVec F S64 .f32) (main_arg7 : FVec F S64 .f32) (main_arg8 : FVec F S4096 .f32) : IVec S_ 1 :=
  let main_v0 : FVec F S8192x64 .f32 := (extractStridedSlice S8192x64 ![0, 0] · slices_S8320x128_S8192x64_0_0) main_arg2
  let main_v1 : FVec F S1x64 .f32 := broadcastInDim S1x64 ![1] bcast_S64_S1x64_1 main_arg5
  let main_v2 : FVec F S8192x64 .f32 := broadcastInDim S8192x64 ![0, 1] bcast_S1x64_S8192x64_0_1 main_v1
  let main_v3 : FVec F S8192x64 .f32 := addf main_v0 main_v2
  let main_cst : FVec F S_ .f32 := constant S_ .f32 0x7F800000#32
  let main_v4 : FVec F S8192x64 .f32 := broadcastInDim S8192x64 ![] bcast_S_S8192x64 main_cst
  let main_v5 : IVec S8192x64 1 := cmpf .olt main_v3 main_v4
  let main_c : IVec S_ 1 := constantI S_ 1 1#1
  let main_v6 : IVec S_ 1 := (fun x v => Host.reduce IntOp.andi x v reducesTo_S8192x64_S_d0_1 h_S_) main_v5 main_c
  main_v6
-- ==== Kernel.lean ====
abbrev S8320x6144 : Shape := ⟨2, ![8320, 6144]⟩
abbrev S8320x4096 : Shape := ⟨2, ![8320, 4096]⟩
abbrev S8320x128 : Shape := ⟨2, ![8320, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S_ : Shape := ⟨0, ![]⟩
abbrev S2x64x64x128 : Shape := ⟨4, ![2, 64, 64, 128]⟩
abbrev S2x3x6144 : Shape := ⟨3, ![2, 3, 6144]⟩
abbrev S2x8x6144 : Shape := ⟨3, ![2, 8, 6144]⟩
abbrev S8192 : Shape := ⟨1, ![8192]⟩
abbrev S128 : Shape := ⟨1, ![128]⟩
abbrev S128x1 : Shape := ⟨2, ![128, 1]⟩
abbrev S1x8192 : Shape := ⟨2, ![1, 8192]⟩
abbrev S128x8192 : Shape := ⟨2, ![128, 8192]⟩
abbrev S1x4096 : Shape := ⟨2, ![1, 4096]⟩
abbrev S128x4096 : Shape := ⟨2, ![128, 4096]⟩
abbrev S1x128 : Shape := ⟨2, ![1, 128]⟩
abbrev S128x128 : Shape := ⟨2, ![128, 128]⟩
abbrev S64x64 : Shape := ⟨2, ![64, 64]⟩
abbrev S1x6144 : Shape := ⟨2, ![1, 6144]⟩
abbrev S1x64 : Shape := ⟨2, ![1, 64]⟩
abbrev S128x6144 : Shape := ⟨2, ![128, 6144]⟩
abbrev S1x8x6144 : Shape := ⟨3, ![1, 8, 6144]⟩
abbrev S1x64x64x128 : Shape := ⟨4, ![1, 64, 64, 128]⟩
abbrev S8x128x512 : Shape := ⟨3, ![8, 128, 512]⟩
abbrev S136x6144 : Shape := ⟨2, ![136, 6144]⟩
abbrev S8x6144 : Shape := ⟨2, ![8, 6144]⟩
abbrev S1x8x64x128 : Shape := ⟨4, ![1, 8, 64, 128]⟩
abbrev S8x64x128 : Shape := ⟨3, ![8, 64, 128]⟩
abbrev S512x128 : Shape := ⟨2, ![512, 128]⟩
abbrev S128x512 : Shape := ⟨2, ![128, 512]⟩
abbrev S1x128x512 : Shape := ⟨3, ![1, 128, 512]⟩
abbrev S3x6144 : Shape := ⟨2, ![3, 6144]⟩
abbrev S128x1024 : Shape := ⟨2, ![128, 1024]⟩
abbrev S128x64 : Shape := ⟨2, ![128, 64]⟩
abbrev S1x512 : Shape := ⟨2, ![1, 512]⟩

abbrev nBuf : Space → Nat
  | .hbm => 92
  | .vmem => 27
  | .smem => 0
  | _ => 0

abbrev bufTy : (tb : Table) → Fin (tcTables nBuf tb) → BufTy
  | .hbm, ⟨0, _⟩ => ⟨S8320x6144, .f32⟩
  | .hbm, ⟨1, _⟩ => ⟨S8320x4096, .f32⟩
  | .hbm, ⟨2, _⟩ => ⟨S8320x128, .f32⟩
  | .hbm, ⟨3, _⟩ => ⟨S4x6144, .f32⟩
  | .hbm, ⟨4, _⟩ => ⟨S6144, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S4096, .f32⟩
  | .hbm, ⟨9, _⟩ => ⟨S_, .f32⟩
  | .hbm, ⟨10, _⟩ => ⟨S2x64x64x128, .f32⟩
  | .hbm, ⟨11, _⟩ => ⟨S_, .f32⟩
  | .hbm, ⟨12, _⟩ => ⟨S2x3x6144, .f32⟩
  | .hbm, ⟨13, _⟩ => ⟨S_, .i32⟩
  | .hbm, ⟨14, _⟩ => ⟨S_, .f32⟩
  | .hbm, ⟨15, _⟩ => ⟨S2x8x6144, .f32⟩
  | .hbm, ⟨16, _⟩ => ⟨S8192, .i32⟩
  | .hbm, ⟨17, _⟩ => ⟨S_, .i32⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i1⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S128, .i32⟩
  | .hbm, ⟨36, _⟩ => ⟨S128x1, .i32⟩
  | .hbm, ⟨37, _⟩ => ⟨S1x8192, .i32⟩
  | .hbm, ⟨38, _⟩ => ⟨S128x8192, .i32⟩
  | .hbm, ⟨39, _⟩ => ⟨S128x8192, .i32⟩
  | .hbm, ⟨40, _⟩ => ⟨S128x8192, .i1⟩
  | .hbm, ⟨41, _⟩ => ⟨S128x8192, .bf16⟩
  | .hbm, ⟨42, _⟩ => ⟨S4096, .i32⟩
  | .hbm, ⟨43, _⟩ => ⟨S_, .i32⟩
  | .hbm, ⟨44, _⟩ => ⟨S_, .i32⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S4096, .i1⟩
  | .hbm, ⟨57, _⟩ => ⟨S_, .i32⟩
  | .hbm, ⟨58, _⟩ => ⟨S4096, .i32⟩
  | .hbm, ⟨59, _⟩ => ⟨S4096, .i32⟩
  | .hbm, ⟨60, _⟩ => ⟨S4096, .i32⟩
  | .hbm, ⟨61, _⟩ => ⟨S128, .i32⟩
  | .hbm, ⟨62, _⟩ => ⟨S128x1, .i32⟩
  | .hbm, ⟨63, _⟩ => ⟨S1x4096, .i32⟩
  | .hbm, ⟨64, _⟩ => ⟨S128x4096, .i32⟩
  | .hbm, ⟨65, _⟩ => ⟨S128x4096, .i32⟩
  | .hbm, ⟨66, _⟩ => ⟨S128x4096, .i1⟩
  | .hbm, ⟨67, _⟩ => ⟨S128x4096, .bf16⟩
  | .hbm, ⟨68, _⟩ => ⟨S128, .i32⟩
  | .hbm, ⟨69, _⟩ => ⟨S128x1, .i32⟩
  | .hbm, ⟨70, _⟩ => ⟨S128, .i32⟩
  | .hbm, ⟨71, _⟩ => ⟨S1x128, .i32⟩
  | .hbm, ⟨72, _⟩ => ⟨S128x128, .i32⟩
  | .hbm, ⟨73, _⟩ => ⟨S128x128, .i32⟩
  | .hbm, ⟨74, _⟩ => ⟨S128x128, .i1⟩
  | .hbm, ⟨75, _⟩ => ⟨S128x128, .bf16⟩
  | .hbm, ⟨76, _⟩ => ⟨S64x64, .f32⟩
  | .hbm, ⟨77, _⟩ => ⟨S4096, .f32⟩
  | .hbm, ⟨78, _⟩ => ⟨S1x4096, .f32⟩
  | .hbm, ⟨79, _⟩ => ⟨S1x6144, .f32⟩
  | .hbm, ⟨80, _⟩ => ⟨S1x64, .f32⟩
  | .hbm, ⟨81, _⟩ => ⟨S_, .i32⟩
  | .hbm, ⟨82, _⟩ => ⟨S_, .f32⟩
  | .hbm, ⟨83, _⟩ => ⟨S1x128, .f32⟩
  | .hbm, ⟨84, _⟩ => ⟨S1x64, .f32⟩
  | .hbm, ⟨85, _⟩ => ⟨S_, .i32⟩
  | .hbm, ⟨86, _⟩ => ⟨S_, .f32⟩
  | .hbm, ⟨87, _⟩ => ⟨S1x128, .f32⟩
  | .hbm, ⟨88, _⟩ => ⟨S1x4096, .f32⟩
  | .hbm, ⟨89, _⟩ => ⟨S8320x4096, .bf16⟩
  | .hbm, ⟨90, _⟩ => ⟨S2x64x64x128, .f32⟩
  | .hbm, ⟨91, _⟩ => ⟨S2x8x6144, .f32⟩
  | .local _ .vmem, ⟨0, _⟩ => ⟨S128x6144, .f32⟩
  | .local _ .vmem, ⟨1, _⟩ => ⟨S128x6144, .f32⟩
  | .local _ .vmem, ⟨2, _⟩ => ⟨S128x4096, .f32⟩
  | .local _ .vmem, ⟨3, _⟩ => ⟨S128x4096, .f32⟩
  | .local _ .vmem, ⟨4, _⟩ => ⟨S128x128, .f32⟩
  | .local _ .vmem, ⟨5, _⟩ => ⟨S128x128, .f32⟩
  | .local _ .vmem, ⟨6, _⟩ => ⟨S1x8x6144, .f32⟩
  | .local _ .vmem, ⟨7, _⟩ => ⟨S1x8x6144, .f32⟩
  | .local _ .vmem, ⟨8, _⟩ => ⟨S1x64x64x128, .f32⟩
  | .local _ .vmem, ⟨9, _⟩ => ⟨S1x64x64x128, .f32⟩
  | .local _ .vmem, ⟨10, _⟩ => ⟨S4x6144, .f32⟩
  | .local _ .vmem, ⟨11, _⟩ => ⟨S1x6144, .f32⟩
  | .local _ .vmem, ⟨12, _⟩ => ⟨S1x128, .f32⟩
  | .local _ .vmem, ⟨13, _⟩ => ⟨S1x128, .f32⟩
  | .local _ .vmem, ⟨14, _⟩ => ⟨S1x4096, .f32⟩
  | .local _ .vmem, ⟨15, _⟩ => ⟨S1x4096, .f32⟩
  | .local _ .vmem, ⟨16, _⟩ => ⟨S128x8192, .bf16⟩
  | .local _ .vmem, ⟨17, _⟩ => ⟨S128x4096, .bf16⟩
  | .local _ .vmem, ⟨18, _⟩ => ⟨S128x128, .bf16⟩
  | .local _ .vmem, ⟨19, _⟩ => ⟨S128x4096, .bf16⟩
  | .local _ .vmem, ⟨20, _⟩ => ⟨S128x4096, .bf16⟩
  | .local _ .vmem, ⟨21, _⟩ => ⟨S1x64x64x128, .f32⟩
  | .local _ .vmem, ⟨22, _⟩ => ⟨S1x64x64x128, .f32⟩
  | .local _ .vmem, ⟨23, _⟩ => ⟨S1x8x6144, .f32⟩
  | .local _ .vmem, ⟨24, _⟩ => ⟨S1x8x6144, .f32⟩
  | .local _ .vmem, ⟨25, _⟩ => ⟨S8x128x512, .f32⟩
  | .local _ .vmem, ⟨26, _⟩ => ⟨S136x6144, .f32⟩
  | _, _ => ⟨S8320x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_0 : Ref sig .tc := ⟨.hbm, 31, rfl⟩
abbrev main_call1_v12 : Ref sig .tc := ⟨.hbm, 32, rfl⟩
abbrev main_call1_v13 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_c_2 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_v6 : Ref sig .tc := ⟨.hbm, 50, rfl⟩
abbrev main_call2_v7 : Ref sig .tc := ⟨.hbm, 51, rfl⟩
abbrev main_call2_v8 : Ref sig .tc := ⟨.hbm, 52, rfl⟩
abbrev main_call2_c : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_0 : Ref sig .tc := ⟨.hbm, 57, rfl⟩
abbrev main_call2_v12 : Ref sig .tc := ⟨.hbm, 58, rfl⟩
abbrev main_call2_v13 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_c_3 : Ref sig .tc := ⟨.hbm, 81, rfl⟩
abbrev main_call3_v0 : Ref sig .tc := ⟨.hbm, 82, rfl⟩
abbrev main_v34 : Ref sig .tc := ⟨.hbm, 83, rfl⟩
abbrev main_v35 : Ref sig .tc := ⟨.hbm, 84, rfl⟩
abbrev main_c_4 : Ref sig .tc := ⟨.hbm, 85, rfl⟩
abbrev main_call4_v0 : Ref sig .tc := ⟨.hbm, 86, rfl⟩
abbrev main_v36 : Ref sig .tc := ⟨.hbm, 87, rfl⟩
abbrev main_v37 : Ref sig .tc := ⟨.hbm, 88, rfl⟩
abbrev main_v38_0 : Ref sig .tc := ⟨.hbm, 89, rfl⟩
abbrev main_v38_1 : Ref sig .tc := ⟨.hbm, 90, rfl⟩
abbrev main_v38_2 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v1835 : BitVec 1 := Scalar.cmpi .eq arg1 c31_i32
  let v1836 : BitVec 32 := Scalar.extui v1835
  let c0_i32_400 : BitVec 32 := 0#32
  let v1837 : BitVec 1 := Scalar.cmpi .ne v1836 c0_i32_400
  v1837

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x8192 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S128x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x64x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x8x6144 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== ReferenceIdeal.lean ====
abbrev S8320x6144 : Shape := ⟨2, ![8320, 6144]⟩
abbrev S8320x4096 : Shape := ⟨2, ![8320, 4096]⟩
abbrev S8320x128 : Shape := ⟨2, ![8320, 128]⟩
abbrev S4x6144 : Shape := ⟨2, ![4, 6144]⟩
abbrev S6144 : Shape := ⟨1, ![6144]⟩
abbrev S64 : Shape := ⟨1, ![64]⟩
abbrev S4096 : Shape := ⟨1, ![4096]⟩
abbrev S8192x6144 : Shape := ⟨2, ![8192, 6144]⟩
abbrev S2x4096x6144 : Shape := ⟨3, ![2, 4096, 6144]⟩
abbrev S8192x64 : Shape := ⟨2, ![8192, 64]⟩
abbrev S2x4096x64 : Shape := ⟨3, ![2, 4096, 64]⟩
abbrev S_ : Shape := ⟨0, ![]⟩
abbrev S2x3x6144 : Shape := ⟨3, ![2, 3, 6144]⟩
abbrev S2x4099x6144 : Shape := ⟨3, ![2, 4099, 6144]⟩
abbrev S1x6144 : Shape := ⟨2, ![1, 6144]⟩
abbrev S1x1x6144 : Shape := ⟨3, ![1, 1, 6144]⟩
abbrev S2x4096x4096 : Shape := ⟨3, ![2, 4096, 4096]⟩
abbrev S2x4096x1024 : Shape := ⟨3, ![2, 4096, 1024]⟩
abbrev S1x1x64 : Shape := ⟨3, ![1, 1, 64]⟩
abbrev S2x32x128x8x8x64 : Shape := ⟨6, ![2, 32, 128, 8, 8, 64]⟩
abbrev S32x2x128x8x8x64 : Shape := ⟨6, ![32, 2, 128, 8, 8, 64]⟩
abbrev S2x32x128x8x8 : Shape := ⟨5, ![2, 32, 128, 8, 8]⟩
abbrev S32x2x128x8x8 : Shape := ⟨5, ![32, 2, 128, 8, 8]⟩
abbrev S2x32x128x8x128 : Shape := ⟨5, ![2, 32, 128, 8, 128]⟩
abbrev S32x2x128x8x128 : Shape := ⟨5, ![32, 2, 128, 8, 128]⟩
abbrev S8x8 : Shape := ⟨2, ![8, 8]⟩
abbrev S128x128 : Shape := ⟨2, ![128, 128]⟩
abbrev S2x8x8x64x128 : Shape := ⟨5, ![2, 8, 8, 64, 128]⟩
abbrev S1x2x128x8x8x64 : Shape := ⟨6, ![1, 2, 128, 8, 8, 64]⟩
abbrev S2x128x8x8x64 : Shape := ⟨5, ![2, 128, 8, 8, 64]⟩
abbrev S1x2x128x8x8 : Shape := ⟨5, ![1, 2, 128, 8, 8]⟩
abbrev S2x128x8x8 : Shape := ⟨4, ![2, 128, 8, 8]⟩
abbrev S1x2x128x8x128 : Shape := ⟨5, ![1, 2, 128, 8, 128]⟩
abbrev S2x128x8x128 : Shape := ⟨4, ![2, 128, 8, 128]⟩
abbrev S1x1x8x8 : Shape := ⟨4, ![1, 1, 8, 8]⟩
abbrev S2x128x1x8x8 : Shape := ⟨5, ![2, 128, 1, 8, 8]⟩
abbrev S2x1x128x8x8 : Shape := ⟨5, ![2, 1, 128, 8, 8]⟩
abbrev S2x128x128x8x8 : Shape := ⟨5, ![2, 128, 128, 8, 8]⟩
abbrev S1x128x128x1x1 : Shape := ⟨5, ![1, 128, 128, 1, 1]⟩
abbrev S2x8x128x128 : Shape := ⟨4, ![2, 8, 128, 128]⟩
abbrev S2x128x128x8 : Shape := ⟨4, ![2, 128, 128, 8]⟩
abbrev S2x128x128x8x1 : Shape := ⟨5, ![2, 128, 128, 8, 1]⟩
abbrev S2x128x8x8x1 : Shape := ⟨5, ![2, 128, 8, 8, 1]⟩
abbrev S8x8x1 : Shape := ⟨3, ![8, 8, 1]⟩
abbrev S1x1x8x8x1 : Shape := ⟨5, ![1, 1, 8, 8, 1]⟩
abbrev S2x1x8x8 : Shape := ⟨4, ![2, 1, 8, 8]⟩
abbrev S2x8x8 : Shape := ⟨3, ![2, 8, 8]⟩
abbrev S2x8x8x1x1 : Shape := ⟨5, ![2, 8, 8, 1, 1]⟩
abbrev S2x4096x64x64 : Shape := ⟨4, ![2, 4096, 64, 64]⟩
abbrev S8192x4096 : Shape := ⟨2, ![8192, 4096]⟩
abbrev S2x4096x8x512 : Shape := ⟨4, ![2, 4096, 8, 512]⟩
abbrev S2x4096x8 : Shape := ⟨3, ![2, 4096, 8]⟩
abbrev S2x4096x8x1 : Shape := ⟨4, ![2, 4096, 8, 1]⟩
abbrev S8x512 : Shape := ⟨2, ![8, 512]⟩
abbrev S1x1x8x512 : Shape := ⟨4, ![1, 1, 8, 512]⟩
abbrev S2x8x6144 : Shape := ⟨3, ![2, 8, 6144]⟩
abbrev S2x64x64x128 : Shape := ⟨4, ![2, 64, 64, 128]⟩

abbrev nBuf : Space → Nat
  | .hbm => 250
  | .vmem => 0
  | .smem => 0
  | _ => 0

abbrev hbmTy0_0 (i : Nat) : BufTy := match i % 128 with
  | 0 => ⟨S8320x6144, .f32⟩
  | 1 => ⟨S8320x4096, .f32⟩
  | 2 => ⟨S8320x128, .f32⟩
  | 3 => ⟨S4x6144, .f32⟩
  | 4 => ⟨S6144, .f32⟩
  | 5 => ⟨S64, .f32⟩
  | 6 => ⟨S64, .f32⟩
  | 7 => ⟨S64, .f32⟩
  | 8 => ⟨S4096, .f32⟩
  | 9 => ⟨S8192x6144, .f32⟩
  | 10 => ⟨S2x4096x6144, .f32⟩
  | 11 => ⟨S8192x64, .f32⟩
  | 12 => ⟨S2x4096x64, .f32⟩
  | 13 => ⟨S_, .f32⟩
  | 14 => ⟨S2x3x6144, .f32⟩
  | 15 => ⟨S2x4099x6144, .f32⟩
  | 16 => ⟨S2x4096x6144, .f32⟩
  | 17 => ⟨S1x6144, .f32⟩
  | 18 => ⟨S6144, .f32⟩
  | 19 => ⟨S1x1x6144, .f32⟩
  | 20 => ⟨S2x4096x6144, .f32⟩
  | 21 => ⟨S2x4096x6144, .f32⟩
  | 22 => ⟨S1x1x6144, .f32⟩
  | 23 => ⟨S2x4096x6144, .f32⟩
  | 24 => ⟨S2x4096x6144, .f32⟩
  | 25 => ⟨S2x4096x6144, .f32⟩
  | 26 => ⟨S1x6144, .f32⟩
  | 27 => ⟨S6144, .f32⟩
  | 28 => ⟨S1x1x6144, .f32⟩
  | 29 => ⟨S2x4096x6144, .f32⟩
  | 30 => ⟨S2x4096x6144, .f32⟩
  | 31 => ⟨S2x4096x6144, .f32⟩
  | 32 => ⟨S2x4096x6144, .f32⟩
  | 33 => ⟨S1x6144, .f32⟩
  | 34 => ⟨S6144, .f32⟩
  | 35 => ⟨S1x1x6144, .f32⟩
  | 36 => ⟨S2x4096x6144, .f32⟩
  | 37 => ⟨S2x4096x6144, .f32⟩
  | 38 => ⟨S2x4096x6144, .f32⟩
  | 39 => ⟨S2x4096x6144, .f32⟩
  | 40 => ⟨S1x6144, .f32⟩
  | 41 => ⟨S6144, .f32⟩
  | 42 => ⟨S1x1x6144, .f32⟩
  | 43 => ⟨S2x4096x6144, .f32⟩
  | 44 => ⟨S2x4096x6144, .f32⟩
  | 45 => ⟨S2x4096x6144, .f32⟩
  | 46 => ⟨S2x4096x6144, .f32⟩
  | 47 => ⟨S2x4096x6144, .f32⟩
  | 48 => ⟨S_, .f32⟩
  | 49 => ⟨S2x4096x6144, .f32⟩
  | 50 => ⟨S2x4096x6144, .f32⟩
  | 51 => ⟨S_, .f32⟩
  | 52 => ⟨S2x4096x6144, .f32⟩
  | 53 => ⟨S2x4096x6144, .f32⟩
  | 54 => ⟨S2x4096x6144, .f32⟩
  | 55 => ⟨S2x4096x4096, .f32⟩
  | 56 => ⟨S2x4096x1024, .f32⟩
  | 57 => ⟨S2x4096x1024, .f32⟩
  | 58 => ⟨S1x1x64, .f32⟩
  | 59 => ⟨S2x4096x64, .f32⟩
  | 60 => ⟨S2x4096x64, .f32⟩
  | 61 => ⟨S_, .f32⟩
  | 62 => ⟨S2x4096x64, .f32⟩
  | 63 => ⟨S2x4096x64, .f32⟩
  | 64 => ⟨S2x4096x64, .f32⟩
  | 65 => ⟨S2x4096x64, .f32⟩
  | 66 => ⟨S2x4096x64, .i1⟩
  | 67 => ⟨S2x4096x64, .f32⟩
  | 68 => ⟨S2x4096x64, .f32⟩
  | 69 => ⟨S2x4096x64, .f32⟩
  | 70 => ⟨S2x4096x64, .f32⟩
  | 71 => ⟨S2x4096x64, .f32⟩
  | 72 => ⟨S2x4096x64, .f32⟩
  | 73 => ⟨S2x4096x64, .f32⟩
  | 74 => ⟨S2x4096x64, .f32⟩
  | 75 => ⟨S64, .f32⟩
  | 76 => ⟨S64, .f32⟩
  | 77 => ⟨S2x32x128x8x8x64, .f32⟩
  | 78 => ⟨S32x2x128x8x8x64, .f32⟩
  | 79 => ⟨S2x32x128x8x8, .f32⟩
  | 80 => ⟨S32x2x128x8x8, .f32⟩
  | 81 => ⟨S2x32x128x8x128, .f32⟩
  | 82 => ⟨S32x2x128x8x128, .f32⟩
  | 83 => ⟨S2x32x128x8x128, .f32⟩
  | 84 => ⟨S32x2x128x8x128, .f32⟩
  | 85 => ⟨S8x8, .f32⟩
  | 86 => ⟨S_, .i1⟩
  | 87 => ⟨S128x128, .i1⟩
  | 88 => ⟨S128x128, .i32⟩
  | 89 => ⟨S_, .i32⟩
  | 90 => ⟨S128x128, .i32⟩
  | 91 => ⟨S128x128, .i32⟩
  | 92 => ⟨S128x128, .i32⟩
  | 93 => ⟨S128x128, .i1⟩
  | 94 => ⟨S_, .i1⟩
  | 95 => ⟨S128x128, .i1⟩
  | 96 => ⟨S128x128, .i1⟩
  | 97 => ⟨S_, .f32⟩
  | 98 => ⟨S2x8x8x64x128, .f32⟩
  | 99 => ⟨S_, .f32⟩
  | 100 => ⟨S32x2x128x8x8x64, .f32⟩
  | 101 => ⟨S_, .i32⟩
  | 102 => ⟨S32x2x128x8x8x64, .f32⟩
  | 103 => ⟨S32x2x128x8x8, .f32⟩
  | 104 => ⟨S32x2x128x8x128, .f32⟩
  | 105 => ⟨S32x2x128x8x128, .f32⟩
  | 106 => ⟨S8x8, .f32⟩
  | 107 => ⟨S128x128, .i1⟩
  | 108 => ⟨S64, .f32⟩
  | 109 => ⟨S_, .i32⟩
  | 110 => ⟨S2x8x8x64x128, .f32⟩
  | 111 => ⟨S32x2x128x8x8x64, .f32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S1x2x128x8x8x64, .f32⟩
  | 120 => ⟨S2x128x8x8x64, .f32⟩
  | 121 => ⟨S_, .i32⟩
  | 122 => ⟨S_, .i32⟩
  | 123 => ⟨S_, .i32⟩
  | 124 => ⟨S_, .i32⟩
  | 125 => ⟨S1x2x128x8x8, .f32⟩
  | 126 => ⟨S2x128x8x8, .f32⟩
  | 127 => ⟨S_, .i32⟩
  | _ => ⟨S8320x6144, .f32⟩

abbrev hbmTy0_1 (i : Nat) : BufTy := match i % 128 with
  | 0 => ⟨S_, .i32⟩
  | 1 => ⟨S_, .i32⟩
  | 2 => ⟨S_, .i32⟩
  | 3 => ⟨S1x2x128x8x128, .f32⟩
  | 4 => ⟨S2x128x8x128, .f32⟩
  | 5 => ⟨S_, .i32⟩
  | 6 => ⟨S_, .i32⟩
  | 7 => ⟨S_, .i32⟩
  | 8 => ⟨S_, .i32⟩
  | 9 => ⟨S1x2x128x8x128, .f32⟩
  | 10 => ⟨S2x128x8x128, .f32⟩
  | 11 => ⟨S1x1x8x8, .f32⟩
  | 12 => ⟨S2x128x8x8, .f32⟩
  | 13 => ⟨S2x128x8x8, .f32⟩
  | 14 => ⟨S_, .f32⟩
  | 15 => ⟨S_, .f32⟩
  | 16 => ⟨S2x128x8x8, .f32⟩
  | 17 => ⟨S2x128x1x8x8, .f32⟩
  | 18 => ⟨S2x1x128x8x8, .f32⟩
  | 19 => ⟨S2x128x128x8x8, .f32⟩
  | 20 => ⟨S2x128x128x8x8, .f32⟩
  | 21 => ⟨S2x128x128x8x8, .f32⟩
  | 22 => ⟨S1x128x128x1x1, .i1⟩
  | 23 => ⟨S_, .f32⟩
  | 24 => ⟨S_, .f32⟩
  | 25 => ⟨S2x128x128x8x8, .i1⟩
  | 26 => ⟨S2x128x128x8x8, .f32⟩
  | 27 => ⟨S2x128x128x8x8, .f32⟩
  | 28 => ⟨S2x128x128x8x8, .f32⟩
  | 29 => ⟨S2x8x128x128, .f32⟩
  | 30 => ⟨S2x128x128x8, .f32⟩
  | 31 => ⟨S2x128x128x8x1, .f32⟩
  | 32 => ⟨S2x128x128x8x8, .f32⟩
  | 33 => ⟨S2x128x128x8x8, .f32⟩
  | 34 => ⟨S2x1x128x8x8, .f32⟩
  | 35 => ⟨S2x128x128x8x8, .f32⟩
  | 36 => ⟨S2x128x128x8x8, .f32⟩
  | 37 => ⟨S2x8x8x64x128, .f32⟩
  | 38 => ⟨S2x128x8x8x64, .f32⟩
  | 39 => ⟨S2x8x8x64x128, .f32⟩
  | 40 => ⟨S2x128x8x8x64, .f32⟩
  | 41 => ⟨S2x128x8x8, .f32⟩
  | 42 => ⟨S2x128x8x8x1, .f32⟩
  | 43 => ⟨S2x128x8x8x64, .f32⟩
  | 44 => ⟨S2x128x8x8x64, .f32⟩
  | 45 => ⟨S2x128x8x8x64, .f32⟩
  | 46 => ⟨S8x8, .f32⟩
  | 47 => ⟨S8x8x1, .f32⟩
  | 48 => ⟨S1x1x8x8x1, .f32⟩
  | 49 => ⟨S2x128x8x8x64, .f32⟩
  | 50 => ⟨S2x128x8x8x64, .f32⟩
  | 51 => ⟨S2x128x8x8x64, .f32⟩
  | 52 => ⟨S2x1x8x8, .f32⟩
  | 53 => ⟨S2x128x8x8, .f32⟩
  | 54 => ⟨S2x128x8x8, .f32⟩
  | 55 => ⟨S2x128x8x8, .f32⟩
  | 56 => ⟨S2x128x8x8, .f32⟩
  | 57 => ⟨S2x1x8x8, .f32⟩
  | 58 => ⟨S2x8x8, .f32⟩
  | 59 => ⟨S2x8x8, .f32⟩
  | 60 => ⟨S2x8x8x1x1, .f32⟩
  | 61 => ⟨S2x8x8x64x128, .f32⟩
  | 62 => ⟨S2x8x8x64x128, .f32⟩
  | 63 => ⟨S2x128x8x8x1, .f32⟩
  | 64 => ⟨S2x128x8x8x64, .f32⟩
  | 65 => ⟨S2x128x8x8x64, .f32⟩
  | 66 => ⟨S2x8x8x64x128, .f32⟩
  | 67 => ⟨S2x8x8x64x128, .f32⟩
  | 68 => ⟨S1x2x128x8x8x64, .f32⟩
  | 69 => ⟨S_, .i32⟩
  | 70 => ⟨S_, .i32⟩
  | 71 => ⟨S_, .i32⟩
  | 72 => ⟨S_, .i32⟩
  | 73 => ⟨S_, .i32⟩
  | 74 => ⟨S32x2x128x8x8x64, .f32⟩
  | 75 => ⟨S_, .i32⟩
  | 76 => ⟨S_, .i32⟩
  | 77 => ⟨S2x32x128x8x8x64, .f32⟩
  | 78 => ⟨S2x4096x64x64, .f32⟩
  | 79 => ⟨S2x4096x4096, .f32⟩
  | 80 => ⟨S8192x4096, .f32⟩
  | 81 => ⟨S2x4096x4096, .f32⟩
  | 82 => ⟨S2x4096x4096, .f32⟩
  | 83 => ⟨S2x4096x4096, .f32⟩
  | 84 => ⟨S_, .f32⟩
  | 85 => ⟨S2x4096x4096, .f32⟩
  | 86 => ⟨S2x4096x4096, .f32⟩
  | 87 => ⟨S_, .f32⟩
  | 88 => ⟨S2x4096x4096, .f32⟩
  | 89 => ⟨S2x4096x4096, .f32⟩
  | 90 => ⟨S2x4096x4096, .f32⟩
  | 91 => ⟨S2x4096x4096, .f32⟩
  | 92 => ⟨S2x4096x8x512, .f32⟩
  | 93 => ⟨S2x4096x8x512, .f32⟩
  | 94 => ⟨S_, .f32⟩
  | 95 => ⟨S2x4096x8, .f32⟩
  | 96 => ⟨S2x4096x8x1, .f32⟩
  | 97 => ⟨S_, .f32⟩
  | 98 => ⟨S2x4096x8x1, .f32⟩
  | 99 => ⟨S2x4096x8x1, .f32⟩
  | 100 => ⟨S_, .f32⟩
  | 101 => ⟨S2x4096x8x1, .f32⟩
  | 102 => ⟨S2x4096x8x1, .f32⟩
  | 103 => ⟨S2x4096x8x1, .f32⟩
  | 104 => ⟨S2x4096x8x512, .f32⟩
  | 105 => ⟨S2x4096x8x512, .f32⟩
  | 106 => ⟨S8x512, .f32⟩
  | 107 => ⟨S1x1x8x512, .f32⟩
  | 108 => ⟨S2x4096x8x512, .f32⟩
  | 109 => ⟨S2x4096x8x512, .f32⟩
  | 110 => ⟨S8192x6144, .f32⟩
  | 111 => ⟨S2x4096x6144, .f32⟩
  | 112 => ⟨S2x3x6144, .f32⟩
  | 113 => ⟨S_, .i32⟩
  | 114 => ⟨S_, .f32⟩
  | 115 => ⟨S2x8x6144, .f32⟩
  | 116 => ⟨S8192x4096, .f32⟩
  | 117 => ⟨S_, .i32⟩
  | 118 => ⟨S_, .f32⟩
  | 119 => ⟨S8320x4096, .f32⟩
  | 120 => ⟨S8320x4096, .bf16⟩
  | 121 => ⟨S2x64x64x128, .f32⟩
  | _ => ⟨S8320x6144, .f32⟩

abbrev hbmTy (i : Nat) : BufTy := match i / 128 with
  | 0 => hbmTy0_0 i
  | 1 => hbmTy0_1 i
  | _ => ⟨S8320x6144, .f32⟩

abbrev bufTy : (tb : Table) → Fin (tcTables nBuf tb) → BufTy
  | .hbm, ⟨i, _⟩ => hbmTy i
  | _, _ => ⟨S8320x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c : Ref sig .tc := ⟨.hbm, 86, rfl⟩
abbrev main_v55 : Ref sig .tc := ⟨.hbm, 87, rfl⟩
abbrev main_call2_v0 : Ref sig .tc := ⟨.hbm, 88, rfl⟩
abbrev main_call2_c : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_c_0 : Ref sig .tc := ⟨.hbm, 94, rfl⟩
abbrev main_call2_v5 : Ref sig .tc := ⟨.hbm, 95, rfl⟩
abbrev main_v56 : Ref sig .tc := ⟨.hbm, 96, rfl⟩
abbrev main_cst_0 : Ref sig .tc := ⟨.hbm, 97, rfl⟩
abbrev main_v57 : Ref sig .tc := ⟨.hbm, 98, rfl⟩
abbrev main_cst_1 : Ref sig .tc := ⟨.hbm, 99, rfl⟩
abbrev main_v58 : Ref sig .tc := ⟨.hbm, 100, rfl⟩
abbrev main_c_2 : Ref sig .tc := ⟨.hbm, 101, rfl⟩
abbrev main_v59_0 : Ref sig .tc := ⟨.hbm, 102, rfl⟩
abbrev main_v59_1 : Ref sig .tc := ⟨.hbm, 103, rfl⟩
abbrev main_v59_2 : Ref sig .tc := ⟨.hbm, 104, rfl⟩
abbrev main_v59_3 : Ref sig .tc := ⟨.hbm, 105, rfl⟩
abbrev main_v59_4 : Ref sig .tc := ⟨.hbm, 106, rfl⟩
abbrev main_v59_5 : Ref sig .tc := ⟨.hbm, 107, rfl⟩
abbrev main_v59_6 : Ref sig .tc := ⟨.hbm, 108, rfl⟩
abbrev main_v59_7 : Ref sig .tc := ⟨.hbm, 109, rfl⟩
abbrev main_v59_8 : Ref sig .tc := ⟨.hbm, 110, rfl⟩
abbrev main_v59_9 : Ref sig .tc := ⟨.hbm, 111, rfl⟩
abbrev main_while0c_c_17 : Ref sig .tc := ⟨.hbm, 112, rfl⟩
abbrev main_while0c_v90 : Ref sig .tc := ⟨.hbm, 113, rfl⟩
abbrev main_while0b_call3_c : Ref sig .tc := ⟨.hbm, 114, rfl⟩
abbrev main_while0b_call3_c_0 : Ref sig .tc := ⟨.hbm, 115, rfl⟩
abbrev main_while0b_call3_c_1 : Ref sig .tc := ⟨.hbm, 116, rfl⟩
abbrev main_while0b_call3_c_2 : Ref sig .tc := ⟨.hbm, 117, rfl⟩
abbrev main_while0b_call3_c_3 : Ref sig .tc := ⟨.hbm, 118, rfl⟩
abbrev main_while0b_call3_v0 : Ref sig .tc := ⟨.hbm, 119, rfl⟩
abbrev main_while0b_v90 : Ref sig .tc := ⟨.hbm, 120, rfl⟩
abbrev main_while0b_call4_c : Ref sig .tc := ⟨.hbm, 121, rfl⟩
abbrev main_while0b_call4_c_0 : Ref sig .tc := ⟨.hbm, 122, rfl⟩
abbrev main_while0b_call4_c_1 : Ref sig .tc := ⟨.hbm, 123, rfl⟩
abbrev main_while0b_call4_c_2 : Ref sig .tc := ⟨.hbm, 124, rfl⟩
abbrev main_while0b_call4_v0 : Ref sig .tc := ⟨.hbm, 125, rfl⟩
abbrev main_while0b_v91 : Ref sig .tc := ⟨.hbm, 126, rfl⟩
abbrev main_while0b_call5_c : Ref sig .tc := ⟨.hbm, 127, rfl⟩
abbrev main_while0b_call5_c_0 : Ref sig .tc := ⟨.hbm, 128, rfl⟩
abbrev main_while0b_call5_c_1 : Ref sig .tc := ⟨.hbm, 129, rfl⟩
abbrev main_while0b_call5_c_2 : Ref sig .tc := ⟨.hbm, 130, rfl⟩
abbrev main_while0b_call5_v0 : Ref sig .tc := ⟨.hbm, 131, rfl⟩
abbrev main_while0b_v92 : Ref sig .tc := ⟨.hbm, 132, rfl⟩
abbrev main_while0b_call6_c : Ref sig .tc := ⟨.hbm, 133, rfl⟩
abbrev main_while0b_call6_c_0 : Ref sig .tc := ⟨.hbm, 134, rfl⟩
abbrev main_while0b_call6_c_1 : Ref sig .tc := ⟨.hbm, 135, rfl⟩
abbrev main_while0b_call6_c_2 : Ref sig .tc := ⟨.hbm, 136, rfl⟩
abbrev main_while0b_call6_v0 : Ref sig .tc := ⟨.hbm, 137, rfl⟩
abbrev main_while0b_v93 : Ref sig .tc := ⟨.hbm, 138, rfl⟩
abbrev main_while0b_v94 : Ref sig .tc := ⟨.hbm, 139, rfl⟩
abbrev main_while0b_v95 : Ref sig .tc := ⟨.hbm, 140, rfl⟩
abbrev main_while0b_v96 : Ref sig .tc := ⟨.hbm, 141, rfl⟩
abbrev main_while0b_call7_call0_cst : Ref sig .tc := ⟨.hbm, 142, rfl⟩
abbrev main_while0b_call7_call0_v0 : Ref sig .tc := ⟨.hbm, 143, rfl⟩
abbrev main_while0b_v97 : Ref sig .tc := ⟨.hbm, 144, rfl⟩
abbrev main_while0b_v98 : Ref sig .tc := ⟨.hbm, 145, rfl⟩
abbrev main_while0b_v99 : Ref sig .tc := ⟨.hbm, 146, rfl⟩
abbrev main_while0b_v100 : Ref sig .tc := ⟨.hbm, 147, rfl⟩
abbrev main_while0b_v101 : Ref sig .tc := ⟨.hbm, 148, rfl⟩
abbrev main_while0b_v102 : Ref sig .tc := ⟨.hbm, 149, rfl⟩
abbrev main_while0b_v103 : Ref sig .tc := ⟨.hbm, 150, rfl⟩
abbrev main_while0b_cst_17 : Ref sig .tc := ⟨.hbm, 151, rfl⟩
abbrev main_while0b_call8_v0 : Ref sig .tc := ⟨.hbm, 152, rfl⟩
abbrev main_while0b_call8_v1 : Ref sig .tc := ⟨.hbm, 153, rfl⟩
abbrev main_while0b_call8_v2 : Ref sig .tc := ⟨.hbm, 154, rfl⟩
abbrev main_while0b_v104 : Ref sig .tc := ⟨.hbm, 155, rfl⟩
abbrev main_while0b_v105 : Ref sig .tc := ⟨.hbm, 156, rfl⟩
abbrev main_while0b_v106 : Ref sig .tc := ⟨.hbm, 157, rfl⟩
abbrev main_while0b_v107 : Ref sig .tc := ⟨.hbm, 158, rfl⟩
abbrev main_while0b_v108 : Ref sig .tc := ⟨.hbm, 159, rfl⟩
abbrev main_while0b_v109 : Ref sig .tc := ⟨.hbm, 160, rfl⟩
abbrev main_while0b_v110 : Ref sig .tc := ⟨.hbm, 161, rfl⟩
abbrev main_while0b_v111 : Ref sig .tc := ⟨.hbm, 162, rfl⟩
abbrev main_while0b_v112 : Ref sig .tc := ⟨.hbm, 163, rfl⟩
abbrev main_while0b_v113 : Ref sig .tc := ⟨.hbm, 164, rfl⟩
abbrev main_while0b_v114 : Ref sig .tc := ⟨.hbm, 165, rfl⟩
abbrev main_while0b_v115 : Ref sig .tc := ⟨.hbm, 166, rfl⟩
abbrev main_while0b_v116 : Ref sig .tc := ⟨.hbm, 167, rfl⟩
abbrev main_while0b_v117 : Ref sig .tc := ⟨.hbm, 168, rfl⟩
abbrev main_while0b_v118 : Ref sig .tc := ⟨.hbm, 169, rfl⟩
abbrev main_while0b_v119 : Ref sig .tc := ⟨.hbm, 170, rfl⟩
abbrev main_while0b_v120 : Ref sig .tc := ⟨.hbm, 171, rfl⟩
abbrev main_while0b_v121 : Ref sig .tc := ⟨.hbm, 172, rfl⟩
abbrev main_while0b_v122 : Ref sig .tc := ⟨.hbm, 173, rfl⟩
abbrev main_while0b_v123 : Ref sig .tc := ⟨.hbm, 174, rfl⟩
abbrev main_while0b_v124 : Ref sig .tc := ⟨.hbm, 175, rfl⟩
abbrev main_while0b_v125 : Ref sig .tc := ⟨.hbm, 176, rfl⟩
abbrev main_while0b_v126 : Ref sig .tc := ⟨.hbm, 177, rfl⟩
abbrev main_while0b_v127 : Ref sig .tc := ⟨.hbm, 178, rfl⟩
abbrev main_while0b_v128 : Ref sig .tc := ⟨.hbm, 179, rfl⟩
abbrev main_while0b_v129 : Ref sig .tc := ⟨.hbm, 180, rfl⟩
abbrev main_while0b_v130 : Ref sig .tc := ⟨.hbm, 181, rfl⟩
abbrev main_while0b_v131 : Ref sig .tc := ⟨.hbm, 182, rfl⟩
abbrev main_while0b_v132 : Ref sig .tc := ⟨.hbm, 183, rfl⟩
abbrev main_while0b_v133 : Ref sig .tc := ⟨.hbm, 184, rfl⟩
abbrev main_while0b_v134 : Ref sig .tc := ⟨.hbm, 185, rfl⟩
abbrev main_while0b_v135 : Ref sig .tc := ⟨.hbm, 186, rfl⟩
abbrev main_while0b_v136 : Ref sig .tc := ⟨.hbm, 187, rfl⟩
abbrev main_while0b_v137 : Ref sig .tc := ⟨.hbm, 188, rfl⟩
abbrev main_while0b_v138 : Ref sig .tc := ⟨.hbm, 189, rfl⟩
abbrev main_while0b_v139 : Ref sig .tc := ⟨.hbm, 190, rfl⟩
abbrev main_while0b_v140 : Ref sig .tc := ⟨.hbm, 191, rfl⟩
abbrev main_while0b_v141 : Ref sig .tc := ⟨.hbm, 192, rfl⟩
abbrev main_while0b_v142 : Ref sig .tc := ⟨.hbm, 193, rfl⟩
abbrev main_while0b_v143 : Ref sig .tc := ⟨.hbm, 194, rfl⟩
abbrev main_while0b_v144 : Ref sig .tc := ⟨.hbm, 195, rfl⟩
abbrev main_while0b_call9_v0 : Ref sig .tc := ⟨.hbm, 196, rfl⟩
abbrev main_while0b_call9_c : Ref sig .tc := ⟨.hbm, 197, rfl⟩
abbrev main_while0b_call9_c_0 : Ref sig .tc := ⟨.hbm, 198, rfl⟩
abbrev main_while0b_call9_c_1 : Ref sig .tc := ⟨.hbm, 199, rfl⟩
abbrev main_while0b_call9_c_2 : Ref sig .tc := ⟨.hbm, 200, rfl⟩
abbrev main_while0b_call9_c_3 : Ref sig .tc := ⟨.hbm, 201, rfl⟩
abbrev main_while0b_v145 : Ref sig .tc := ⟨.hbm, 202, rfl⟩
abbrev main_while0b_c_18 : Ref sig .tc := ⟨.hbm, 203, rfl⟩
abbrev main_while0b_v146 : Ref sig .tc := ⟨.hbm, 204, rfl⟩
abbrev main_v60 : Ref sig .tc := ⟨.hbm, 205, rfl⟩
abbrev main_v61 : Ref sig .tc := ⟨.hbm, 206, rfl⟩
abbrev main_v62 : Ref sig .tc := ⟨.hbm, 207, rfl⟩
abbrev main_v63 : Ref sig .tc := ⟨.hbm, 208, rfl⟩
abbrev main_v64 : Ref sig .tc := ⟨.hbm, 209, rfl⟩
abbrev main_call10_v0 : Ref sig .tc := ⟨.hbm, 210, rfl⟩
abbrev main_call10_v1 : Ref sig .tc := ⟨.hbm, 211, rfl⟩
abbrev main_call10_cst : Ref sig .tc := ⟨.hbm, 212, rfl⟩
abbrev main_call10_v2 : Ref sig .tc := ⟨.hbm, 213, rfl⟩
abbrev main_call10_v3 : Ref sig .tc := ⟨.hbm, 214, rfl⟩
abbrev main_call10_cst_0 : Ref sig .tc := ⟨.hbm, 215, rfl⟩
abbrev main_call10_v4 : Ref sig .tc := ⟨.hbm, 216, rfl⟩
abbrev main_call10_v5 : Ref sig .tc := ⟨.hbm, 217, rfl⟩
abbrev main_v65 : Ref sig .tc := ⟨.hbm, 218, rfl⟩
abbrev main_v66 : Ref sig .tc := ⟨.hbm, 219, rfl⟩
abbrev main_v67 : Ref sig .tc := ⟨.hbm, 220, rfl⟩
abbrev main_v68 : Ref sig .tc := ⟨.hbm, 221, rfl⟩
abbrev main_cst_3 : Ref sig .tc := ⟨.hbm, 222, rfl⟩
abbrev main_v69 : Ref sig .tc := ⟨.hbm, 223, rfl⟩
abbrev main_v70 : Ref sig .tc := ⟨.hbm, 224, rfl⟩
abbrev main_cst_4 : Ref sig .tc := ⟨.hbm, 225, rfl⟩
abbrev main_v71 : Ref sig .tc := ⟨.hbm, 226, rfl⟩
abbrev main_v72 : Ref sig .tc := ⟨.hbm, 227, rfl⟩
abbrev main_cst_5 : Ref sig .tc := ⟨.hbm, 228, rfl⟩
abbrev main_v73 : Ref sig .tc := ⟨.hbm, 229, rfl⟩
abbrev main_v74 : Ref sig .tc := ⟨.hbm, 230, rfl⟩
abbrev main_v75 : Ref sig .tc := ⟨.hbm, 231, rfl⟩
abbrev main_v76 : Ref sig .tc := ⟨.hbm, 232, rfl⟩
abbrev main_v77 : Ref sig .tc := ⟨.hbm, 233, rfl⟩
abbrev main_v78 : Ref sig .tc := ⟨.hbm, 234, rfl⟩
abbrev main_v79 : Ref sig .tc := ⟨.hbm, 235, rfl⟩
abbrev main_v80 : Ref sig .tc := ⟨.hbm, 236, rfl⟩
abbrev main_v81 : Ref sig .tc := ⟨.hbm, 237, rfl⟩
abbrev main_v82 : Ref sig .tc := ⟨.hbm, 238, rfl⟩
abbrev main_v83 : Ref sig .tc := ⟨.hbm, 239, rfl⟩
abbrev main_v84 : Ref sig .tc := ⟨.hbm, 240, rfl⟩
abbrev main_c_6 : Ref sig .tc := ⟨.hbm, 241, rfl⟩
abbrev main_call11_v0 : Ref sig .tc := ⟨.hbm, 242, rfl⟩
abbrev main_v85 : Ref sig .tc := ⟨.hbm, 243, rfl⟩
abbrev main_v86 : Ref sig .tc := ⟨.hbm, 244, rfl⟩
abbrev main_c_7 : Ref sig .tc := ⟨.hbm, 245, rfl⟩
abbrev main_call12_v0 : Ref sig .tc := ⟨.hbm, 246, rfl⟩
abbrev main_v87 : Ref sig .tc := ⟨.hbm, 247, rfl⟩
abbrev main_v88 : Ref sig .tc := ⟨.hbm, 248, rfl⟩
abbrev main_v89 : Ref sig .tc := ⟨.hbm, 249, rfl⟩

abbrev nD : Nat := 1
abbrev τ : Topo := Topo.v7x

variable {F : FTy → Type} [FloatOps F]

abbrev main_while0_count : Scf.Loop 32 := ⟨0#32, 32#32, 1#32⟩
-- ==== Up.lean ====
abbrev S8320x4096 : Shape := ⟨2, ![8320, 4096]⟩
abbrev S4096x16384 : Shape := ⟨2, ![4096, 16384]⟩
abbrev S8320x16384 : Shape := ⟨2, ![8320, 16384]⟩
abbrev S1664x4096 : Shape := ⟨2, ![1664, 4096]⟩
abbrev S4096x512 : Shape := ⟨2, ![4096, 512]⟩
abbrev S1664x512 : Shape := ⟨2, ![1664, 512]⟩

abbrev nBuf : Space → Nat
  | .hbm => 3
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S4096x16384, .f32⟩
  | .hbm, ⟨2, _⟩ => ⟨S8320x16384, .bf16⟩
  | .local _ .vmem, ⟨0, _⟩ => ⟨S1664x4096, .bf16⟩
  | .local _ .vmem, ⟨1, _⟩ => ⟨S1664x4096, .bf16⟩
  | .local _ .vmem, ⟨2, _⟩ => ⟨S4096x512, .f32⟩
  | .local _ .vmem, ⟨3, _⟩ => ⟨S4096x512, .f32⟩
  | .local _ .vmem, ⟨4, _⟩ => ⟨S1664x512, .bf16⟩
  | .local _ .vmem, ⟨5, _⟩ => ⟨S1664x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpReferenceIdeal.lean ====
abbrev S8320x4096 : Shape := ⟨2, ![8320, 4096]⟩
abbrev S4096x16384 : Shape := ⟨2, ![4096, 16384]⟩
abbrev S8320x16384 : Shape := ⟨2, ![8320, 16384]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x16384, .f32⟩
  | .hbm, ⟨2, _⟩ => ⟨S8320x4096, .f32⟩
  | .hbm, ⟨3, _⟩ => ⟨S8320x16384, .f32⟩
  | .hbm, ⟨4, _⟩ => ⟨S_, .f32⟩
  | .hbm, ⟨5, _⟩ => ⟨S8320x16384, .f32⟩
  | .hbm, ⟨6, _⟩ => ⟨S8320x16384, .f32⟩
  | .hbm, ⟨7, _⟩ => ⟨S8320x16384, .f32⟩
  | .hbm, ⟨8, _⟩ => ⟨S8320x16384, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Q.lean ====
abbrev S8320x4096 : Shape := ⟨2, ![8320, 4096]⟩
abbrev S4096x24640 : Shape := ⟨2, ![4096, 24640]⟩
abbrev S24640x4096 : Shape := ⟨2, ![24640, 4096]⟩
abbrev S1664x4096 : Shape := ⟨2, ![1664, 4096]⟩
abbrev S512x4096 : Shape := ⟨2, ![512, 4096]⟩
abbrev S1664x512 : Shape := ⟨2, ![1664, 512]⟩

abbrev nBuf : Space → Nat
  | .hbm => 4
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S4096x24640, .f32⟩
  | .hbm, ⟨2, _⟩ => ⟨S24640x4096, .f32⟩
  | .hbm, ⟨3, _⟩ => ⟨S8320x4096, .f32⟩
  | .local _ .vmem, ⟨0, _⟩ => ⟨S1664x4096, .bf16⟩
  | .local _ .vmem, ⟨1, _⟩ => ⟨S1664x4096, .bf16⟩
  | .local _ .vmem, ⟨2, _⟩ => ⟨S512x4096, .f32⟩
  | .local _ .vmem, ⟨3, _⟩ => ⟨S512x4096, .f32⟩
  | .local _ .vmem, ⟨4, _⟩ => ⟨S1664x512, .f32⟩
  | .local _ .vmem, ⟨5, _⟩ => ⟨S1664x512, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QReferenceIdeal.lean ====
abbrev S8320x4096 : Shape := ⟨2, ![8320, 4096]⟩
abbrev S4096x24640 : Shape := ⟨2, ![4096, 24640]⟩
abbrev S8320x24640 : Shape := ⟨2, ![8320, 24640]⟩

abbrev nBuf : Space → Nat
  | .hbm => 5
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x24640, .f32⟩
  | .hbm, ⟨2, _⟩ => ⟨S8320x4096, .f32⟩
  | .hbm, ⟨3, _⟩ => ⟨S8320x24640, .f32⟩
  | .hbm, ⟨4, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kv.lean ====
abbrev S8320x4096 : Shape := ⟨2, ![8320, 4096]⟩
abbrev S4096x24640 : Shape := ⟨2, ![4096, 24640]⟩
abbrev S24640x4096 : Shape := ⟨2, ![24640, 4096]⟩
abbrev S8320x2048 : Shape := ⟨2, ![8320, 2048]⟩
abbrev S1664x4096 : Shape := ⟨2, ![1664, 4096]⟩
abbrev S512x4096 : Shape := ⟨2, ![512, 4096]⟩
abbrev S1664x512 : Shape := ⟨2, ![1664, 512]⟩

abbrev nBuf : Space → Nat
  | .hbm => 4
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S4096x24640, .f32⟩
  | .hbm, ⟨2, _⟩ => ⟨S24640x4096, .f32⟩
  | .hbm, ⟨3, _⟩ => ⟨S8320x2048, .f32⟩
  | .local _ .vmem, ⟨0, _⟩ => ⟨S1664x4096, .bf16⟩
  | .local _ .vmem, ⟨1, _⟩ => ⟨S1664x4096, .bf16⟩
  | .local _ .vmem, ⟨2, _⟩ => ⟨S512x4096, .f32⟩
  | .local _ .vmem, ⟨3, _⟩ => ⟨S512x4096, .f32⟩
  | .local _ .vmem, ⟨4, _⟩ => ⟨S1664x512, .f32⟩
  | .local _ .vmem, ⟨5, _⟩ => ⟨S1664x512, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvReferenceIdeal.lean ====
abbrev S8320x4096 : Shape := ⟨2, ![8320, 4096]⟩
abbrev S4096x24640 : Shape := ⟨2, ![4096, 24640]⟩
abbrev S8320x24640 : Shape := ⟨2, ![8320, 24640]⟩
abbrev S8320x2048 : Shape := ⟨2, ![8320, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x24640, .f32⟩
  | .hbm, ⟨2, _⟩ => ⟨S8320x4096, .f32⟩
  | .hbm, ⟨3, _⟩ => ⟨S8320x24640, .f32⟩
  | .hbm, ⟨4, _⟩ => ⟨S8320x2048, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Z.lean ====
abbrev S8320x4096 : Shape := ⟨2, ![8320, 4096]⟩
abbrev S4096x24640 : Shape := ⟨2, ![4096, 24640]⟩
abbrev S24640x4096 : Shape := ⟨2, ![24640, 4096]⟩
abbrev S1664x4096 : Shape := ⟨2, ![1664, 4096]⟩
abbrev S512x4096 : Shape := ⟨2, ![512, 4096]⟩
abbrev S1664x512 : Shape := ⟨2, ![1664, 512]⟩

abbrev nBuf : Space → Nat
  | .hbm => 4
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S4096x24640, .f32⟩
  | .hbm, ⟨2, _⟩ => ⟨S24640x4096, .f32⟩
  | .hbm, ⟨3, _⟩ => ⟨S8320x4096, .f32⟩
  | .local _ .vmem, ⟨0, _⟩ => ⟨S1664x4096, .bf16⟩
  | .local _ .vmem, ⟨1, _⟩ => ⟨S1664x4096, .bf16⟩
  | .local _ .vmem, ⟨2, _⟩ => ⟨S512x4096, .f32⟩
  | .local _ .vmem, ⟨3, _⟩ => ⟨S512x4096, .f32⟩
  | .local _ .vmem, ⟨4, _⟩ => ⟨S1664x512, .f32⟩
  | .local _ .vmem, ⟨5, _⟩ => ⟨S1664x512, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ZReferenceIdeal.lean ====
abbrev S8320x4096 : Shape := ⟨2, ![8320, 4096]⟩
abbrev S4096x24640 : Shape := ⟨2, ![4096, 24640]⟩
abbrev S8320x24640 : Shape := ⟨2, ![8320, 24640]⟩

abbrev nBuf : Space → Nat
  | .hbm => 5
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x24640, .f32⟩
  | .hbm, ⟨2, _⟩ => ⟨S8320x4096, .f32⟩
  | .hbm, ⟨3, _⟩ => ⟨S8320x24640, .f32⟩
  | .hbm, ⟨4, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Xbc.lean ====
abbrev S8320x4096 : Shape := ⟨2, ![8320, 4096]⟩
abbrev S4096x24640 : Shape := ⟨2, ![4096, 24640]⟩
abbrev S24640x4096 : Shape := ⟨2, ![24640, 4096]⟩
abbrev S8320x6144 : Shape := ⟨2, ![8320, 6144]⟩
abbrev S1664x4096 : Shape := ⟨2, ![1664, 4096]⟩
abbrev S512x4096 : Shape := ⟨2, ![512, 4096]⟩
abbrev S1664x512 : Shape := ⟨2, ![1664, 512]⟩

abbrev nBuf : Space → Nat
  | .hbm => 4
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S4096x24640, .f32⟩
  | .hbm, ⟨2, _⟩ => ⟨S24640x4096, .f32⟩
  | .hbm, ⟨3, _⟩ => ⟨S8320x6144, .f32⟩
  | .local _ .vmem, ⟨0, _⟩ => ⟨S1664x4096, .bf16⟩
  | .local _ .vmem, ⟨1, _⟩ => ⟨S1664x4096, .bf16⟩
  | .local _ .vmem, ⟨2, _⟩ => ⟨S512x4096, .f32⟩
  | .local _ .vmem, ⟨3, _⟩ => ⟨S512x4096, .f32⟩
  | .local _ .vmem, ⟨4, _⟩ => ⟨S1664x512, .f32⟩
  | .local _ .vmem, ⟨5, _⟩ => ⟨S1664x512, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi arg1 c20_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XbcReferenceIdeal.lean ====
abbrev S8320x4096 : Shape := ⟨2, ![8320, 4096]⟩
abbrev S4096x24640 : Shape := ⟨2, ![4096, 24640]⟩
abbrev S8320x24640 : Shape := ⟨2, ![8320, 24640]⟩
abbrev S8320x6144 : Shape := ⟨2, ![8320, 6144]⟩

abbrev nBuf : Space → Nat
  | .hbm => 5
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x24640, .f32⟩
  | .hbm, ⟨2, _⟩ => ⟨S8320x4096, .f32⟩
  | .hbm, ⟨3, _⟩ => ⟨S8320x24640, .f32⟩
  | .hbm, ⟨4, _⟩ => ⟨S8320x6144, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dt.lean ====
abbrev S8320x4096 : Shape := ⟨2, ![8320, 4096]⟩
abbrev S4096x24640 : Shape := ⟨2, ![4096, 24640]⟩
abbrev S24640x4096 : Shape := ⟨2, ![24640, 4096]⟩
abbrev S8320x128 : Shape := ⟨2, ![8320, 128]⟩
abbrev S1664x4096 : Shape := ⟨2, ![1664, 4096]⟩
abbrev S128x4096 : Shape := ⟨2, ![128, 4096]⟩
abbrev S1664x128 : Shape := ⟨2, ![1664, 128]⟩

abbrev nBuf : Space → Nat
  | .hbm => 4
  | .vmem => 5
  | .smem => 0
  | _ => 0

abbrev bufTy : (tb : Table) → Fin (tcTables nBuf tb) → BufTy
  | .hbm, ⟨0, _⟩ => ⟨S8320x4096, .bf16⟩
  | .hbm, ⟨1, _⟩ => ⟨S4096x24640, .f32⟩
  | .hbm, ⟨2, _⟩ => ⟨S24640x4096, .f32⟩
  | .hbm, ⟨3, _⟩ => ⟨S8320x128, .f32⟩
  | .local _ .vmem, ⟨0, _⟩ => ⟨S1664x4096, .bf16⟩
  | .local _ .vmem, ⟨1, _⟩ => ⟨S1664x4096, .bf16⟩
  | .local _ .vmem, ⟨2, _⟩ => ⟨S128x4096, .f32⟩
  | .local _ .vmem, ⟨3, _⟩ => ⟨S1664x128, .f32⟩
  | .local _ .vmem, ⟨4, _⟩ => ⟨S1664x128, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![5, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi arg1 c128_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1664x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DtReferenceIdeal.lean ====
abbrev S8320x4096 : Shape := ⟨2, ![8320, 4096]⟩
abbrev S4096x24640 : Shape := ⟨2, ![4096, 24640]⟩
abbrev S8320x24640 : Shape := ⟨2, ![8320, 24640]⟩
abbrev S8320x128 : Shape := ⟨2, ![8320, 128]⟩

abbrev nBuf : Space → Nat
  | .hbm => 5
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x24640, .f32⟩
  | .hbm, ⟨2, _⟩ => ⟨S8320x4096, .f32⟩
  | .hbm, ⟨3, _⟩ => ⟨S8320x24640, .f32⟩
  | .hbm, ⟨4, _⟩ => ⟨S8320x128, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Gates.lean ====
abbrev S8320x4096 : Shape := ⟨2, ![8320, 4096]⟩
abbrev S4096x24640 : Shape := ⟨2, ![4096, 24640]⟩
abbrev S24640x4096 : Shape := ⟨2, ![24640, 4096]⟩
abbrev S8320x8192 : Shape := ⟨2, ![8320, 8192]⟩
abbrev S1664x4096 : Shape := ⟨2, ![1664, 4096]⟩
abbrev S512x4096 : Shape := ⟨2, ![512, 4096]⟩
abbrev S64x4096 : Shape := ⟨2, ![64, 4096]⟩
abbrev S1664x512 : Shape := ⟨2, ![1664, 512]⟩
abbrev S448x4096 : Shape := ⟨2, ![448, 4096]⟩

abbrev nBuf : Space → Nat
  | .hbm => 4
  | .vmem => 8
  | .smem => 0
  | _ => 0

abbrev bufTy : (tb : Table) → Fin (tcTables nBuf tb) → BufTy
  | .hbm, ⟨0, _⟩ => ⟨S8320x4096, .bf16⟩
  | .hbm, ⟨1, _⟩ => ⟨S4096x24640, .f32⟩
  | .hbm, ⟨2, _⟩ => ⟨S24640x4096, .f32⟩
  | .hbm, ⟨3, _⟩ => ⟨S8320x8192, .f32⟩
  | .local _ .vmem, ⟨0, _⟩ => ⟨S1664x4096, .bf16⟩
  | .local _ .vmem, ⟨1, _⟩ => ⟨S1664x4096, .bf16⟩
  | .local _ .vmem, ⟨2, _⟩ => ⟨S512x4096, .f32⟩
  | .local _ .vmem, ⟨3, _⟩ => ⟨S512x4096, .f32⟩
  | .local _ .vmem, ⟨4, _⟩ => ⟨S64x4096, .f32⟩
  | .local _ .vmem, ⟨5, _⟩ => ⟨S64x4096, .f32⟩
  | .local _ .vmem, ⟨6, _⟩ => ⟨S1664x512, .f32⟩
  | .local _ .vmem, ⟨7, _⟩ => ⟨S1664x512, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![5, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c1_i32 : BitVec 32 := 1#32
  let v1 : BitVec 32 := Scalar.addi v0 c1_i32
  let c8_i32 : BitVec 32 := 8#32
  let v2 : BitVec 32 := Scalar.muli v1 c8_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1664x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesReferenceIdeal.lean ====
abbrev S8320x4096 : Shape := ⟨2, ![8320, 4096]⟩
abbrev S4096x24640 : Shape := ⟨2, ![4096, 24640]⟩
abbrev S8320x24640 : Shape := ⟨2, ![8320, 24640]⟩
abbrev S8320x8192 : Shape := ⟨2, ![8320, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x24640, .f32⟩
  | .hbm, ⟨2, _⟩ => ⟨S8320x4096, .f32⟩
  | .hbm, ⟨3, _⟩ => ⟨S8320x24640, .f32⟩
  | .hbm, ⟨4, _⟩ => ⟨S8320x8192, .f32⟩
  | .hbm, ⟨5, _⟩ => ⟨S8320x8192, .f32⟩
  | .hbm, ⟨6, _⟩ => ⟨S8320x8192, .f32⟩
  | .hbm, ⟨7, _⟩ => ⟨S_, .f32⟩
  | .hbm, ⟨8, _⟩ => ⟨S8320x8192, .f32⟩
  | .hbm, ⟨9, _⟩ => ⟨S8320x8192, .f32⟩
  | .hbm, ⟨10, _⟩ => ⟨S_, .f32⟩
  | .hbm, ⟨11, _⟩ => ⟨S8320x8192, .f32⟩
  | .hbm, ⟨12, _⟩ => ⟨S8320x8192, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== AttnOut.lean ====
abbrev S8320x4096 : Shape := ⟨2, ![8320, 4096]⟩
abbrev S4096x4096 : Shape := ⟨2, ![4096, 4096]⟩
abbrev S8320x8192 : Shape := ⟨2, ![8320, 8192]⟩
abbrev S1040x4096 : Shape := ⟨2, ![1040, 4096]⟩
abbrev S4096x512 : Shape := ⟨2, ![4096, 512]⟩
abbrev S1040x512 : Shape := ⟨2, ![1040, 512]⟩

abbrev nBuf : Space → Nat
  | .hbm => 4
  | .vmem => 8
  | .smem => 0
  | _ => 0

abbrev bufTy : (tb : Table) → Fin (tcTables nBuf tb) → BufTy
  | .hbm, ⟨0, _⟩ => ⟨S8320x4096, .bf16⟩
  | .hbm, ⟨1, _⟩ => ⟨S4096x4096, .f32⟩
  | .hbm, ⟨2, _⟩ => ⟨S8320x8192, .f32⟩
  | .hbm, ⟨3, _⟩ => ⟨S8320x4096, .f32⟩
  | .local _ .vmem, ⟨0, _⟩ => ⟨S1040x4096, .bf16⟩
  | .local _ .vmem, ⟨1, _⟩ => ⟨S1040x4096, .bf16⟩
  | .local _ .vmem, ⟨2, _⟩ => ⟨S4096x512, .f32⟩
  | .local _ .vmem, ⟨3, _⟩ => ⟨S4096x512, .f32⟩
  | .local _ .vmem, ⟨4, _⟩ => ⟨S1040x512, .f32⟩
  | .local _ .vmem, ⟨5, _⟩ => ⟨S1040x512, .f32⟩
  | .local _ .vmem, ⟨6, _⟩ => ⟨S1040x512, .f32⟩
  | .local _ .vmem, ⟨7, _⟩ => ⟨S1040x512, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1040x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnOutReferenceIdeal.lean ====
abbrev S8320x4096 : Shape := ⟨2, ![8320, 4096]⟩
abbrev S4096x4096 : Shape := ⟨2, ![4096, 4096]⟩
abbrev S8320x8192 : Shape := ⟨2, ![8320, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x4096, .f32⟩
  | .hbm, ⟨2, _⟩ => ⟨S8320x8192, .f32⟩
  | .hbm, ⟨3, _⟩ => ⟨S8320x4096, .f32⟩
  | .hbm, ⟨4, _⟩ => ⟨S8320x4096, .f32⟩
  | .hbm, ⟨5, _⟩ => ⟨S8320x4096, .f32⟩
  | .hbm, ⟨6, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SsmOut.lean ====
abbrev S8320x4096 : Shape := ⟨2, ![8320, 4096]⟩
abbrev S4096x4096 : Shape := ⟨2, ![4096, 4096]⟩
abbrev S8320x8192 : Shape := ⟨2, ![8320, 8192]⟩
abbrev S1040x4096 : Shape := ⟨2, ![1040, 4096]⟩
abbrev S4096x512 : Shape := ⟨2, ![4096, 512]⟩
abbrev S1040x512 : Shape := ⟨2, ![1040, 512]⟩

abbrev nBuf : Space → Nat
  | .hbm => 5
  | .vmem => 10
  | .smem => 0
  | _ => 0

abbrev bufTy : (tb : Table) → Fin (tcTables nBuf tb) → BufTy
  | .hbm, ⟨0, _⟩ => ⟨S8320x4096, .bf16⟩
  | .hbm, ⟨1, _⟩ => ⟨S4096x4096, .f32⟩
  | .hbm, ⟨2, _⟩ => ⟨S8320x4096, .f32⟩
  | .hbm, ⟨3, _⟩ => ⟨S8320x8192, .f32⟩
  | .hbm, ⟨4, _⟩ => ⟨S8320x4096, .bf16⟩
  | .local _ .vmem, ⟨0, _⟩ => ⟨S1040x4096, .bf16⟩
  | .local _ .vmem, ⟨1, _⟩ => ⟨S1040x4096, .bf16⟩
  | .local _ .vmem, ⟨2, _⟩ => ⟨S4096x512, .f32⟩
  | .local _ .vmem, ⟨3, _⟩ => ⟨S4096x512, .f32⟩
  | .local _ .vmem, ⟨4, _⟩ => ⟨S1040x512, .f32⟩
  | .local _ .vmem, ⟨5, _⟩ => ⟨S1040x512, .f32⟩
  | .local _ .vmem, ⟨6, _⟩ => ⟨S1040x512, .f32⟩
  | .local _ .vmem, ⟨7, _⟩ => ⟨S1040x512, .f32⟩
  | .local _ .vmem, ⟨8, _⟩ => ⟨S1040x512, .bf16⟩
  | .local _ .vmem, ⟨9, _⟩ => ⟨S1040x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1040x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1040x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SsmOutReferenceIdeal.lean ====
abbrev S8320x4096 : Shape := ⟨2, ![8320, 4096]⟩
abbrev S4096x4096 : Shape := ⟨2, ![4096, 4096]⟩
abbrev S8320x8192 : Shape := ⟨2, ![8320, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x4096, .f32⟩
  | .hbm, ⟨2, _⟩ => ⟨S8320x4096, .f32⟩
  | .hbm, ⟨3, _⟩ => ⟨S8320x8192, .f32⟩
  | .hbm, ⟨4, _⟩ => ⟨S8320x4096, .f32⟩
  | .hbm, ⟨5, _⟩ => ⟨S8320x4096, .f32⟩
  | .hbm, ⟨6, _⟩ => ⟨S8320x4096, .f32⟩
  | .hbm, ⟨7, _⟩ => ⟨S8320x4096, .f32⟩
  | .hbm, ⟨8, _⟩ => ⟨S8320x4096, .f32⟩
  | .hbm, ⟨9, _⟩ => ⟨S8320x4096, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Ks.lean ====
abbrev S8320x2048 : Shape := ⟨2, ![8320, 2048]⟩
abbrev S128 : Shape := ⟨1, ![128]⟩
abbrev S_ : Shape := ⟨0, ![]⟩
abbrev S64 : Shape := ⟨1, ![64]⟩
abbrev S128x1 : Shape := ⟨2, ![128, 1]⟩
abbrev S1x64 : Shape := ⟨2, ![1, 64]⟩
abbrev S128x64 : Shape := ⟨2, ![128, 64]⟩
abbrev S128x128 : Shape := ⟨2, ![128, 128]⟩
abbrev S1x128 : Shape := ⟨2, ![1, 128]⟩
abbrev S128x1024 : Shape := ⟨2, ![128, 1024]⟩

abbrev nBuf : Space → Nat
  | .hbm => 49
  | .vmem => 5
  | .smem => 0
  | _ => 0

abbrev bufTy : (tb : Table) → Fin (tcTables nBuf tb) → BufTy
  | .hbm, ⟨0, _⟩ => ⟨S8320x2048, .f32⟩
  | .hbm, ⟨1, _⟩ => ⟨S128, .f32⟩
  | .hbm, ⟨2, _⟩ => ⟨S128, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S_, .i32⟩
  | .hbm, ⟨8, _⟩ => ⟨S_, .i32⟩
  | .hbm, ⟨9, _⟩ => ⟨S128, .i32⟩
  | .hbm, ⟨10, _⟩ => ⟨S128, .i32⟩
  | .hbm, ⟨11, _⟩ => ⟨S_, .i32⟩
  | .hbm, ⟨12, _⟩ => ⟨S128, .i32⟩
  | .hbm, ⟨13, _⟩ => ⟨S128, .i1⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S_, .i32⟩
  | .hbm, ⟨18, _⟩ => ⟨S_, .i1⟩
  | .hbm, ⟨19, _⟩ => ⟨S128, .i1⟩
  | .hbm, ⟨20, _⟩ => ⟨S128, .i1⟩
  | .hbm, ⟨21, _⟩ => ⟨S128, .i1⟩
  | .hbm, ⟨22, _⟩ => ⟨S128, .i32⟩
  | .hbm, ⟨23, _⟩ => ⟨S128, .i32⟩
  | .hbm, ⟨24, _⟩ => ⟨S128, .i32⟩
  | .hbm, ⟨25, _⟩ => ⟨S_, .i32⟩
  | .hbm, ⟨26, _⟩ => ⟨S128, .i32⟩
  | .hbm, ⟨27, _⟩ => ⟨S128, .i32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S128, .f32⟩
  | .hbm, ⟨37, _⟩ => ⟨S128x1, .f32⟩
  | .hbm, ⟨38, _⟩ => ⟨S1x64, .f32⟩
  | .hbm, ⟨39, _⟩ => ⟨S128x64, .f32⟩
  | .hbm, ⟨40, _⟩ => ⟨S128x64, .f32⟩
  | .hbm, ⟨41, _⟩ => ⟨S128x64, .f32⟩
  | .hbm, ⟨42, _⟩ => ⟨S128x64, .f32⟩
  | .hbm, ⟨43, _⟩ => ⟨S128x64, .f32⟩
  | .hbm, ⟨44, _⟩ => ⟨S128x128, .f32⟩
  | .hbm, ⟨45, _⟩ => ⟨S128x64, .f32⟩
  | .hbm, ⟨46, _⟩ => ⟨S128x128, .f32⟩
  | .hbm, ⟨47, _⟩ => ⟨S1x128, .f32⟩
  | .hbm, ⟨48, _⟩ => ⟨S128x1024, .f32⟩
  | .local _ .vmem, ⟨0, _⟩ => ⟨S128x1024, .f32⟩
  | .local _ .vmem, ⟨1, _⟩ => ⟨S128x128, .f32⟩
  | .local _ .vmem, ⟨2, _⟩ => ⟨S128x128, .f32⟩
  | .local _ .vmem, ⟨3, _⟩ => ⟨S1x128, .f32⟩
  | .local _ .vmem, ⟨4, _⟩ => ⟨S128x1024, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c64_i32 : BitVec 32 := 64#32
  let c0_i32 : BitVec 32 := 0#32
  let c0_i32_0 : BitVec 32 := 0#32
  ![c64_i32.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KsReferenceIdeal.lean ====
abbrev S8320x2048 : Shape := ⟨2, ![8320, 2048]⟩
abbrev S128 : Shape := ⟨1, ![128]⟩
abbrev S128x1024 : Shape := ⟨2, ![128, 1024]⟩
abbrev S32x4x8x128 : Shape := ⟨4, ![32, 4, 8, 128]⟩
abbrev S_ : Shape := ⟨0, ![]⟩
abbrev S32x4x8 : Shape := ⟨3, ![32, 4, 8]⟩
abbrev S32x4x8x1 : Shape := ⟨4, ![32, 4, 8, 1]⟩
abbrev S1x1x1x128 : Shape := ⟨4, ![1, 1, 1, 128]⟩
abbrev S64 : Shape := ⟨1, ![64]⟩
abbrev S4 : Shape := ⟨1, ![4]⟩
abbrev S4x1 : Shape := ⟨2, ![4, 1]⟩
abbrev S1x64 : Shape := ⟨2, ![1, 64]⟩
abbrev S4x64 : Shape := ⟨2, ![4, 64]⟩
abbrev S1x4x1x64 : Shape := ⟨4, ![1, 4, 1, 64]⟩
abbrev S32x4x8x64 : Shape := ⟨4, ![32, 4, 8, 64]⟩

abbrev nBuf : Space → Nat
  | .hbm => 56
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S128, .f32⟩
  | .hbm, ⟨2, _⟩ => ⟨S128x1024, .f32⟩
  | .hbm, ⟨3, _⟩ => ⟨S32x4x8x128, .f32⟩
  | .hbm, ⟨4, _⟩ => ⟨S32x4x8x128, .f32⟩
  | .hbm, ⟨5, _⟩ => ⟨S_, .f32⟩
  | .hbm, ⟨6, _⟩ => ⟨S32x4x8, .f32⟩
  | .hbm, ⟨7, _⟩ => ⟨S32x4x8x1, .f32⟩
  | .hbm, ⟨8, _⟩ => ⟨S_, .f32⟩
  | .hbm, ⟨9, _⟩ => ⟨S32x4x8x1, .f32⟩
  | .hbm, ⟨10, _⟩ => ⟨S32x4x8x1, .f32⟩
  | .hbm, ⟨11, _⟩ => ⟨S_, .f32⟩
  | .hbm, ⟨12, _⟩ => ⟨S32x4x8x1, .f32⟩
  | .hbm, ⟨13, _⟩ => ⟨S32x4x8x1, .f32⟩
  | .hbm, ⟨14, _⟩ => ⟨S32x4x8x1, .f32⟩
  | .hbm, ⟨15, _⟩ => ⟨S32x4x8x128, .f32⟩
  | .hbm, ⟨16, _⟩ => ⟨S32x4x8x128, .f32⟩
  | .hbm, ⟨17, _⟩ => ⟨S1x1x1x128, .f32⟩
  | .hbm, ⟨18, _⟩ => ⟨S32x4x8x128, .f32⟩
  | .hbm, ⟨19, _⟩ => ⟨S32x4x8x128, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S4, .i32⟩
  | .hbm, ⟨29, _⟩ => ⟨S_, .i32⟩
  | .hbm, ⟨30, _⟩ => ⟨S4, .i32⟩
  | .hbm, ⟨31, _⟩ => ⟨S4, .i32⟩
  | .hbm, ⟨32, _⟩ => ⟨S4, .f32⟩
  | .hbm, ⟨33, _⟩ => ⟨S4x1, .f32⟩
  | .hbm, ⟨34, _⟩ => ⟨S1x64, .f32⟩
  | .hbm, ⟨35, _⟩ => ⟨S4x64, .f32⟩
  | .hbm, ⟨36, _⟩ => ⟨S4x64, .f32⟩
  | .hbm, ⟨37, _⟩ => ⟨S4x64, .f32⟩
  | .hbm, ⟨38, _⟩ => ⟨S4x64, .f32⟩
  | .hbm, ⟨39, _⟩ => ⟨S1x4x1x64, .f32⟩
  | .hbm, ⟨40, _⟩ => ⟨S4x64, .f32⟩
  | .hbm, ⟨41, _⟩ => ⟨S1x4x1x64, .f32⟩
  | .hbm, ⟨42, _⟩ => ⟨S32x4x8x64, .f32⟩
  | .hbm, ⟨43, _⟩ => ⟨S32x4x8x64, .f32⟩
  | .hbm, ⟨44, _⟩ => ⟨S32x4x8x64, .f32⟩
  | .hbm, ⟨45, _⟩ => ⟨S32x4x8x64, .f32⟩
  | .hbm, ⟨46, _⟩ => ⟨S32x4x8x64, .f32⟩
  | .hbm, ⟨47, _⟩ => ⟨S32x4x8x64, .f32⟩
  | .hbm, ⟨48, _⟩ => ⟨S32x4x8x64, .f32⟩
  | .hbm, ⟨49, _⟩ => ⟨S32x4x8x64, .f32⟩
  | .hbm, ⟨50, _⟩ => ⟨S32x4x8x64, .f32⟩
  | .hbm, ⟨51, _⟩ => ⟨S32x4x8x64, .f32⟩
  | .hbm, ⟨52, _⟩ => ⟨S32x4x8x64, .f32⟩
  | .hbm, ⟨53, _⟩ => ⟨S32x4x8x64, .f32⟩
  | .hbm, ⟨54, _⟩ => ⟨S32x4x8x128, .f32⟩
  | .hbm, ⟨55, _⟩ => ⟨S128x1024, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩

abbrev nD : Nat := 1
abbrev τ : Topo := Topo.v7x

variable {F : FTy → Type} [FloatOps F]
-- ==== Kp.lean ====
abbrev S8320x2048 : Shape := ⟨2, ![8320, 2048]⟩
abbrev S128 : Shape := ⟨1, ![128]⟩
abbrev S4096 : Shape := ⟨1, ![4096]⟩
abbrev S64 : Shape := ⟨1, ![64]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x128 : Shape := ⟨2, ![1, 128]⟩
abbrev S8192x1024 : Shape := ⟨2, ![8192, 1024]⟩
abbrev S8192x2048 : Shape := ⟨2, ![8192, 2048]⟩
abbrev S32x1x1024 : Shape := ⟨3, ![32, 1, 1024]⟩
abbrev S256x1024 : Shape := ⟨2, ![256, 1024]⟩
abbrev S256x128 : Shape := ⟨2, ![256, 128]⟩
abbrev S256x2048 : Shape := ⟨2, ![256, 2048]⟩
abbrev S1x1x1024 : Shape := ⟨3, ![1, 1, 1024]⟩
abbrev S256 : Shape := ⟨1, ![256]⟩
abbrev S256x1 : Shape := ⟨2, ![256, 1]⟩
abbrev S1x1x128 : Shape := ⟨3, ![1, 1, 128]⟩

abbrev nBuf : Space → Nat
  | .hbm => 27
  | .vmem => 17
  | .smem => 0
  | _ => 0

abbrev bufTy : (tb : Table) → Fin (tcTables nBuf tb) → BufTy
  | .hbm, ⟨0, _⟩ => ⟨S8320x2048, .f32⟩
  | .hbm, ⟨1, _⟩ => ⟨S128, .f32⟩
  | .hbm, ⟨2, _⟩ => ⟨S4096, .i32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S4096, .f32⟩
  | .hbm, ⟨12, _⟩ => ⟨S4096x1, .f32⟩
  | .hbm, ⟨13, _⟩ => ⟨S1x64, .f32⟩
  | .hbm, ⟨14, _⟩ => ⟨S4096x64, .f32⟩
  | .hbm, ⟨15, _⟩ => ⟨S4096x64, .f32⟩
  | .hbm, ⟨16, _⟩ => ⟨S4096x64, .f32⟩
  | .hbm, ⟨17, _⟩ => ⟨S4096x64, .f32⟩
  | .hbm, ⟨18, _⟩ => ⟨S4096x64, .f32⟩
  | .hbm, ⟨19, _⟩ => ⟨S4096x128, .f32⟩
  | .hbm, ⟨20, _⟩ => ⟨S4096x64, .f32⟩
  | .hbm, ⟨21, _⟩ => ⟨S4096x128, .f32⟩
  | .hbm, ⟨22, _⟩ => ⟨S1x128, .f32⟩
  | .hbm, ⟨23, _⟩ => ⟨S8192x1024, .f32⟩
  | .hbm, ⟨24, _⟩ => ⟨S8192x2048, .bf16⟩
  | .hbm, ⟨25, _⟩ => ⟨S8192x2048, .bf16⟩
  | .hbm, ⟨26, _⟩ => ⟨S32x1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S256x1024, .f32⟩
  | .local _ .vmem, ⟨10, _⟩ => ⟨S256x1024, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S1x1x1024, .f32⟩
  | .local _ .vmem, ⟨16, _⟩ => ⟨S1x1x1024, .f32⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19_0 : Ref sig .tc := ⟨.hbm, 23, rfl⟩
abbrev main_v19_1 : Ref sig .tc := ⟨.hbm, 24, rfl⟩
abbrev main_v19_2 : Ref sig .tc := ⟨.hbm, 25, rfl⟩
abbrev main_v19_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KpReferenceIdeal.lean ====
abbrev S8320x2048 : Shape := ⟨2, ![8320, 2048]⟩
abbrev S128 : Shape := ⟨1, ![128]⟩
abbrev S8192x1024 : Shape := ⟨2, ![8192, 1024]⟩
abbrev S2x4096x8x128 : Shape := ⟨4, ![2, 4096, 8, 128]⟩
abbrev S_ : Shape := ⟨0, ![]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩
abbrev S64 : Shape := ⟨1, ![64]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S2x4096x8x64 : Shape := ⟨4, ![2, 4096, 8, 64]⟩

abbrev nBuf : Space → Nat
  | .hbm => 53
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S128, .f32⟩
  | .hbm, ⟨2, _⟩ => ⟨S8192x1024, .f32⟩
  | .hbm, ⟨3, _⟩ => ⟨S2x4096x8x128, .f32⟩
  | .hbm, ⟨4, _⟩ => ⟨S2x4096x8x128, .f32⟩
  | .hbm, ⟨5, _⟩ => ⟨S_, .f32⟩
  | .hbm, ⟨6, _⟩ => ⟨S2x4096x8, .f32⟩
  | .hbm, ⟨7, _⟩ => ⟨S2x4096x8x1, .f32⟩
  | .hbm, ⟨8, _⟩ => ⟨S_, .f32⟩
  | .hbm, ⟨9, _⟩ => ⟨S2x4096x8x1, .f32⟩
  | .hbm, ⟨10, _⟩ => ⟨S2x4096x8x1, .f32⟩
  | .hbm, ⟨11, _⟩ => ⟨S_, .f32⟩
  | .hbm, ⟨12, _⟩ => ⟨S2x4096x8x1, .f32⟩
  | .hbm, ⟨13, _⟩ => ⟨S2x4096x8x1, .f32⟩
  | .hbm, ⟨14, _⟩ => ⟨S2x4096x8x1, .f32⟩
  | .hbm, ⟨15, _⟩ => ⟨S2x4096x8x128, .f32⟩
  | .hbm, ⟨16, _⟩ => ⟨S2x4096x8x128, .f32⟩
  | .hbm, ⟨17, _⟩ => ⟨S1x1x1x128, .f32⟩
  | .hbm, ⟨18, _⟩ => ⟨S2x4096x8x128, .f32⟩
  | .hbm, ⟨19, _⟩ => ⟨S2x4096x8x128, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S4096, .i32⟩
  | .hbm, ⟨29, _⟩ => ⟨S4096, .f32⟩
  | .hbm, ⟨30, _⟩ => ⟨S4096x1, .f32⟩
  | .hbm, ⟨31, _⟩ => ⟨S1x64, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S4096x64, .f32⟩
  | .hbm, ⟨36, _⟩ => ⟨S1x4096x1x64, .f32⟩
  | .hbm, ⟨37, _⟩ => ⟨S4096x64, .f32⟩
  | .hbm, ⟨38, _⟩ => ⟨S1x4096x1x64, .f32⟩
  | .hbm, ⟨39, _⟩ => ⟨S2x4096x8x64, .f32⟩
  | .hbm, ⟨40, _⟩ => ⟨S2x4096x8x64, .f32⟩
  | .hbm, ⟨41, _⟩ => ⟨S2x4096x8x64, .f32⟩
  | .hbm, ⟨42, _⟩ => ⟨S2x4096x8x64, .f32⟩
  | .hbm, ⟨43, _⟩ => ⟨S2x4096x8x64, .f32⟩
  | .hbm, ⟨44, _⟩ => ⟨S2x4096x8x64, .f32⟩
  | .hbm, ⟨45, _⟩ => ⟨S2x4096x8x64, .f32⟩
  | .hbm, ⟨46, _⟩ => ⟨S2x4096x8x64, .f32⟩
  | .hbm, ⟨47, _⟩ => ⟨S2x4096x8x64, .f32⟩
  | .hbm, ⟨48, _⟩ => ⟨S2x4096x8x64, .f32⟩
  | .hbm, ⟨49, _⟩ => ⟨S2x4096x8x64, .f32⟩
  | .hbm, ⟨50, _⟩ => ⟨S2x4096x8x64, .f32⟩
  | .hbm, ⟨51, _⟩ => ⟨S2x4096x8x128, .f32⟩
  | .hbm, ⟨52, _⟩ => ⟨S8192x1024, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩

abbrev nD : Nat := 1
abbrev τ : Topo := Topo.v7x

variable {F : FTy → Type} [FloatOps F]
-- ==== Proof.Spec.lean ====
/- The recurrence over the extended reals, one chunk at a time: what both programs compute, at scalars. -/
module

public import Idealize.ShloMosaic.PureOps
public import Idealize.ShloMosaic.PureOps.Ideal
public import Idealize.ShloMosaic.Lib.StableHlo
public import Idealize.ShloMosaic.Lib.Pointwise

@[expose] public section

set_option maxRecDepth 16384

noncomputable section

namespace Cert.Spec

open Idealize.ShloMosaic

/-! ## A number taken apart into three parts and put together again -/

/-- `x` less itself, `x` and the remainder's remainder sum to `x` unless `x` is `+∞`: a finite `x` leaves zeros,
    `-∞` leaves `-∞`. -/
theorem split_sum (x : EReal) (hx : x ≠ ⊤) : x - x - (x - x) + (x - x) + x = x := by
  induction x with
  | bot => rfl
  | top => exact absurd rfl hx
  | coe r => rw [← EReal.coe_sub, ← EReal.coe_sub, ← EReal.coe_add, ← EReal.coe_add]; congr 1; ring

/-- The same under a weight that is 0 or 1. -/
theorem split_sum_mul (w x : EReal) (hw : w = 0 ∨ w = 1) (hx : x ≠ ⊤) :
    w * (x - x - (x - x)) + w * (x - x) + w * x = w * x := by
  rcases hw with rfl | rfl
  · simp only [zero_mul, add_zero]
  · simp only [one_mul]; exact split_sum x hx

/-- Three weighted sums of the parts are the weighted sum of the whole. -/
theorem sum_split {n : ℕ} (w x : Fin n → EReal) (hw : ∀ k, w k = 0 ∨ w k = 1) (hx : ∀ k, x k ≠ ⊤) :
    ((∑ k, w k * (x k - x k - (x k - x k))) + ∑ k, w k * (x k - x k)) + ∑ k, w k * x k = ∑ k, w k * x k := by
  rw [← Finset.sum_add_distrib, ← Finset.sum_add_distrib]
  exact Finset.sum_congr rfl fun k _ => split_sum_mul _ _ (hw k) (hx k)

/-- The same with the weight on the right. -/
theorem sum_split' {n : ℕ} (w x : Fin n → EReal) (hw : ∀ k, w k = 0 ∨ w k = 1) (hx : ∀ k, x k ≠ ⊤) :
    ((∑ k, (x k - x k - (x k - x k)) * w k) + ∑ k, (x k - x k) * w k) + ∑ k, x k * w k = ∑ k, x k * w k := by
  simpa only [mul_comm] using sum_split w x hw hx

/-- A sum against a row that is one at `h` and zero elsewhere. -/
theorem sum_one_hot {n : ℕ} (x : Fin n → EReal) (h : Fin n) :
    ∑ k, x k * (if k = h then (1 : EReal) else 0) = x h := by
  simp only [mul_ite, mul_one, mul_zero, Finset.sum_ite_eq', Finset.sum_ite_eq, Finset.mem_univ, if_true]

/-! ## The step size -/

/-- `log (1 + e^v)`, as both programs write it. -/
def softplus (v : EReal) : EReal := max v 0 + Ideal.log1p (Ideal.exp (-(max v (-v))))

theorem exp_nonneg (v : EReal) : 0 ≤ Ideal.exp v := by
  induction v with
  | bot => exact le_refl _
  | top => exact le_top
  | coe r => exact EReal.coe_nonneg.2 (Real.exp_pos r).le

theorem exp_ne_top (v : EReal) (h : v ≠ ⊤) : Ideal.exp v ≠ ⊤ := by
  induction v with
  | bot => exact EReal.zero_ne_top
  | top => exact absurd rfl h
  | coe r => exact EReal.coe_ne_top _

theorem log_nonneg (v : EReal) (h : 1 ≤ v) : 0 ≤ Ideal.log v := by
  induction v with
  | bot => exact absurd h (by decide)
  | top => exact le_top
  | coe r =>
    have hr : (1 : ℝ) ≤ r := by exact_mod_cast h
    show (0 : EReal) ≤ if r ≤ 0 then ⊥ else (Real.log r : EReal)
    rw [if_neg (by linarith)]
    exact EReal.coe_nonneg.2 (Real.log_nonneg hr)

theorem log_ne_top (v : EReal) (h : v ≠ ⊤) : Ideal.log v ≠ ⊤ := by
  induction v with
  | bot => exact bot_ne_top
  | top => exact absurd rfl h
  | coe r =>
    show (if r ≤ 0 then (⊥ : EReal) else (Real.log r : EReal)) ≠ ⊤
    split
    · exact bot_ne_top
    · exact EReal.coe_ne_top _

theorem softplus_nonneg (v : EReal) : 0 ≤ softplus v := by
  refine add_nonneg (le_max_right _ _) (log_nonneg _ ?_)
  calc (1 : EReal) = 1 + 0 := (add_zero _).symm
    _ ≤ _ := add_le_add le_rfl (exp_nonneg _)

theorem softplus_ne_top (v : EReal) (h : v ≠ ⊤) : softplus v ≠ ⊤ := by
  have h0 : max v 0 ≠ ⊤ := by
    rcases max_choice v 0 with h' | h' <;> rw [h']
    · exact h
    · exact EReal.zero_ne_top
  have h1 : -(max v (-v)) ≠ ⊤ := by
    rw [Ne, EReal.neg_eq_top_iff]
    induction v with
    | bot => rw [EReal.neg_bot]; exact fun h => absurd h (by decide)
    | top => exact absurd rfl h
    | coe r =>
      intro h2
      have := le_max_left (r : EReal) (-(r : EReal))
      rw [h2, le_bot_iff] at this
      exact EReal.coe_ne_bot r this
  exact EReal.add_ne_top h0 (log_ne_top _ (EReal.add_ne_top (by decide) (exp_ne_top _ h1)))

/-! ## A chunk of 128 rows -/

/-- What a chunk is made of: the rows after the convolution by channel (4096 of `x`, 1024 of `B`, 1024 of `C`), the
    step sizes by row and head, the decay rates and the skip weights by head. -/
structure Chunk where
  x : ℕ → ℕ → EReal
  d : ℕ → ℕ → EReal
  a : ℕ → EReal
  k : ℕ → EReal

namespace Chunk

variable (K : Chunk)

/-- The step sizes are finite or `-∞` free above, none is negative, and every rate decays. -/
structure Ok : Prop where
  d_nonneg : ∀ s h, 0 ≤ K.d s h
  d_ne_top : ∀ s h, K.d s h ≠ ⊤
  a_nonpos : ∀ h, K.a h ≤ 0

/-- The decay's exponent, summed up to row `t`. -/
def cum (t h : ℕ) : EReal := ∑ s : Fin 128, if s.val ≤ t then K.d s h * K.a h else 0

/-- `C` of row `t` against `B` of row `s`, in group `g`. -/
def cb (t s g : ℕ) : EReal := ∑ n : Fin 128, K.x t (5120 + g * 128 + n) * K.x s (4096 + g * 128 + n)

/-- How much row `s` counts in row `t`, in head `h`. -/
def w (t s h : ℕ) : EReal :=
  K.cb t s (h / 8) * Ideal.exp (if s ≤ t then K.cum t h - K.cum s h else Ideal.ofBits .f32 0xFF800000#32) * K.d s h

/-- Row `t`, channel `j`, from the state `H` (by channel and state index) before the chunk. -/
def y (H : ℕ → ℕ → EReal) (t j : ℕ) : EReal :=
  ((∑ s : Fin 128, K.w t s (j / 64) * K.x s j)
    + (∑ n : Fin 128, K.x t (5120 + j / 512 * 128 + n) * H j n) * Ideal.exp (K.cum t (j / 64))) + K.k (j / 64) * K.x t j

/-- The state after the chunk. -/
def next (H : ℕ → ℕ → EReal) (j n : ℕ) : EReal :=
  H j n * Ideal.exp (K.cum 127 (j / 64))
    + ∑ s : Fin 128, K.x s (4096 + j / 512 * 128 + n) * (K.x s j * (Ideal.exp (K.cum 127 (j / 64) - K.cum s (j / 64)) * K.d s (j / 64)))

theorem mul_le_zero {d e : EReal} (hd : 0 ≤ d) (he : e ≤ 0) : d * e ≤ 0 := by
  have := mul_nonneg hd (EReal.neg_nonneg.2 he)
  rw [mul_neg] at this
  exact EReal.neg_nonneg.1 this

theorem Ok.term_nonpos {K : Chunk} (hK : K.Ok) (s h : ℕ) : K.d s h * K.a h ≤ 0 := mul_le_zero (hK.d_nonneg s h) (hK.a_nonpos h)

theorem Ok.cum_nonpos {K : Chunk} (hK : K.Ok) (t h : ℕ) : K.cum t h ≤ 0 := by
  refine Finset.sum_nonpos fun s _ => ?_
  split
  · exact hK.term_nonpos _ _
  · exact le_refl _

theorem ne_top_of_nonpos {e : EReal} (h : e ≤ 0) : e ≠ ⊤ := fun h' => absurd (h' ▸ h) (by decide)

end Chunk

/-- The gate of the rows `y` by `z`, normalized over the channel's group of 512, and scaled. -/
def gated (y z : ℕ → EReal) (j : ℕ) : EReal := y j * (z j * Ideal.logistic (z j))
def normed (y z gs : ℕ → EReal) (j : ℕ) : EReal :=
  gated y z j * Ideal.rsqrt (Ideal.div (∑ l : Fin 512, gated y z (j / 512 * 512 + l) * gated y z (j / 512 * 512 + l))
    (Ideal.ofBits .f32 0x44000000#32) + Ideal.ofBits .f32 0x358637BD#32) * gs j

end Cert.Spec
end
-- ==== Proof.Seq.lean ====
/- The recurrence over a whole sequence, from the arrays. -/
module

public import proofs.«01_k».proof.Proof.Spec

@[expose] public section

set_option maxRecDepth 16384

noncomputable section

namespace Cert.Spec

open Idealize.ShloMosaic

/-- An array read at two numbers, zero outside. -/
def at2 {n k : ℕ} (x : (⟨2, ![n, k]⟩ : Shape).Idx → EReal) (i j : ℕ) : EReal :=
  if h : i < n ∧ j < k then x (ix2 ⟨i, h.1⟩ ⟨j, h.2⟩) else 0

/-- The same with one axis. -/
def at1 {n : ℕ} (x : (⟨1, ![n]⟩ : Shape).Idx → EReal) (i : ℕ) : EReal := if h : i < n then x (ix1 ⟨i, h⟩) else 0

theorem at2_mk {n k : ℕ} (x : (⟨2, ![n, k]⟩ : Shape).Idx → EReal) (i : Fin n) (j : Fin k) : x (ix2 i j) = at2 x i j := by
  unfold at2
  rw [dif_pos ⟨i.isLt, j.isLt⟩]

theorem at1_mk {n : ℕ} (x : (⟨1, ![n]⟩ : Shape).Idx → EReal) (i : Fin n) : x (ix1 i) = at1 x i := by
  unfold at1
  rw [dif_pos i.isLt]

/-- The nine arrays. -/
structure Args where
  X : ℕ → ℕ → EReal
  Z : ℕ → ℕ → EReal
  D : ℕ → ℕ → EReal
  W : ℕ → ℕ → EReal
  B : ℕ → EReal
  db : ℕ → EReal
  al : ℕ → EReal
  dk : ℕ → EReal
  gs : ℕ → EReal

namespace Args

variable (A : Args)

/-- The sequence's rows after three rows of zeros. -/
def pre (b i ch : ℕ) : EReal := if i < 3 then 0 else A.X (b * 4096 + (i - 3)) ch

/-- The convolution over four rows. -/
def conv (b i ch : ℕ) : EReal :=
  A.B ch + (((A.pre b i ch * A.W 0 ch + A.pre b (i + 1) ch * A.W 1 ch) + A.pre b (i + 2) ch * A.W 2 ch) + A.pre b (i + 3) ch * A.W 3 ch)

def act (b i ch : ℕ) : EReal := A.conv b i ch * Ideal.logistic (A.conv b i ch)

/-- Chunk `k` of sequence `b`. -/
def chunk (b k : ℕ) : Chunk where
  x t ch := A.act b (k * 128 + t) ch
  d t h := if h < 64 then (if t < 128 then softplus (A.D (b * 4096 + k * 128 + t) h + A.db h) else 0) else 0
  a h := -Ideal.exp (A.al h)
  k h := A.dk h

/-- The state before chunk `k`. -/
def st (b : ℕ) : ℕ → ℕ → ℕ → EReal
  | 0 => fun _ _ => 0
  | k + 1 => (A.chunk b k).next (st b k)

/-- Row `R` of the result, by channel. -/
def yOut (R j : ℕ) : EReal :=
  normed ((A.chunk (R / 4096) (R % 4096 / 128)).y (A.st (R / 4096) (R % 4096 / 128)) (R % 128)) (A.Z R) A.gs j

/-- Every step size's argument is below `+∞`. -/
def Ok : Prop := ∀ r h : ℕ, r < 8192 → h < 64 → A.D r h + A.db h ≠ ⊤

variable {A}

theorem Ok.chunk (hA : A.Ok) {b k : ℕ} (hb : b < 2) (hk : k < 32) : (A.chunk b k).Ok where
  d_nonneg s h := by
    dsimp only [Args.chunk]
    split
    · split
      · exact softplus_nonneg _
      · exact le_refl _
    · exact le_refl _
  d_ne_top s h := by
    dsimp only [Args.chunk]
    split
    · split
      · exact softplus_ne_top _ (hA _ _ (by omega) (by assumption))
      · exact EReal.zero_ne_top
    · exact EReal.zero_ne_top
  a_nonpos h := by
    dsimp only [Args.chunk]
    have := EReal.neg_le_neg_iff.2 (exp_nonneg (A.al h))
    rwa [neg_zero] at this

end Args

/-- The arrays of a program's memory. -/
def Args.of (x : (⟨2, ![8320, 6144]⟩ : Shape).Idx → EReal) (z : (⟨2, ![8320, 4096]⟩ : Shape).Idx → EReal) (d : (⟨2, ![8320, 128]⟩ : Shape).Idx → EReal)
    (w : (⟨2, ![4, 6144]⟩ : Shape).Idx → EReal) (b : (⟨1, ![6144]⟩ : Shape).Idx → EReal) (db al dk : (⟨1, ![64]⟩ : Shape).Idx → EReal)
    (gs : (⟨1, ![4096]⟩ : Shape).Idx → EReal) : Args where
  X := at2 x
  Z := at2 z
  D := at2 d
  W := at2 w
  B := at1 b
  db := at1 db
  al := at1 al
  dk := at1 dk
  gs := at1 gs

end Cert.Spec
end
-- ==== Proof.Group.lean ====
/- One group of eight heads of the kernel's chunk, as a function of the group's number. -/
module

public import proofs.«01_k».proof.Proof.Spec
public import proofs.«01_k».proof.Proof.Gen.KernelIdeal
public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Group

open Cert.KernelIdeal Cert.KernelIdeal.Gen

variable {F : FTy → Type} [FloatOps F]

theorem sl_1024 (q : Fin 8) : S128x1024.Slices ![0, q.val * 128] S128x128 := by revert q; decide
theorem sl_row (g q : Fin 8) : S128x128.Slices ![g.val * 8 + q.val, 0] S1x128 := by revert g q; decide
theorem sl_x (g q : Fin 8) : S128x4096.Slices ![0, g.val * 512 + q.val * 64] S128x64 := by revert g q; decide
theorem sl_xg (g : Fin 8) : S128x4096.Slices ![0, g.val * 512] S128x512 := by revert g; decide
theorem sl_b (g : Fin 8) : S128x6144.Slices ![0, 4096 + g.val * 128] S128x128 := by revert g; decide
theorem sl_c (g : Fin 8) : S128x6144.Slices ![0, 5120 + g.val * 128] S128x128 := by revert g; decide

/-- The group's input rows `B`. -/
def bg (g : Fin 8) (act : FVec F S128x6144 .f32) : FVec F S128x128 .f32 :=
  extractStridedSlice S128x128 ![0, 4096 + g.val * 128] act (sl_b g)
/-- The group's output rows `C`. -/
def cg (g : Fin 8) (act : FVec F S128x6144 .f32) : FVec F S128x128 .bf16 :=
  truncf .bf16 (extractStridedSlice S128x128 ![0, 5120 + g.val * 128] act (sl_c g)) bitsLt_bf16_f32
/-- The products of the two. -/
def cb (g : Fin 8) (act : FVec F S128x6144 .f32) : FVec F S128x128 .f32 :=
  matmul dot_S128x128_S128x128_S128x128_1_1_0_0_n_n none (cg g act) (truncf .bf16 (bg g act) bitsLt_bf16_f32) (constant S128x128 .f32 0x00000000#32)
/-- A product with an exact right factor, the left one taken apart into three, 1024 columns. -/
def wide (v91 : FVec F S128x128 .f32) (e : Vec F S128x1024 .bf16) : FVec F S128x1024 .f32 :=
  have e' : FVec F S128x1024 .bf16 := shapeCast S128x1024 e shapeCasts_S128x1024_S128x1024
  have hi := truncf .bf16 v91 bitsLt_bf16_f32
  have r1 := subf v91 (extf .f32 hi bitsLt_bf16_f32)
  have mid := truncf .bf16 r1 bitsLt_bf16_f32
  have r2 := subf r1 (extf .f32 mid bitsLt_bf16_f32)
  have lo := truncf .bf16 r2 bitsLt_bf16_f32
  addf (addf (matmul dot_S128x128_S128x1024_S128x1024_1_0_0_1_n_n none lo e' (constant S128x1024 .f32 0x00000000#32))
    (matmul dot_S128x128_S128x1024_S128x1024_1_0_0_1_n_n none mid e' (constant S128x1024 .f32 0x00000000#32)))
    (matmul dot_S128x128_S128x1024_S128x1024_1_0_0_1_n_n none hi e' (constant S128x1024 .f32 0x00000000#32))
/-- The same, 512 columns. -/
def narrow (v91 : FVec F S128x128 .f32) (e : Vec F S128x512 .bf16) : FVec F S128x512 .f32 :=
  have e' : FVec F S128x512 .bf16 := shapeCast S128x512 e shapeCasts_S128x512_S128x512
  have hi := truncf .bf16 v91 bitsLt_bf16_f32
  have r1 := subf v91 (extf .f32 hi bitsLt_bf16_f32)
  have mid := truncf .bf16 r1 bitsLt_bf16_f32
  have r2 := subf r1 (extf .f32 mid bitsLt_bf16_f32)
  have lo := truncf .bf16 r2 bitsLt_bf16_f32
  addf (addf (matmul dot_S128x128_S128x512_S128x512_1_0_0_1_n_n none lo e' (constant S128x512 .f32 0x00000000#32))
    (matmul dot_S128x128_S128x512_S128x512_1_0_0_1_n_n none mid e' (constant S128x512 .f32 0x00000000#32)))
    (matmul dot_S128x128_S128x512_S128x512_1_0_0_1_n_n none hi e' (constant S128x512 .f32 0x00000000#32))
/-- One head's weights. -/
def wts (g q : Fin 8) (cumt dtt : FVec F S128x128 .f32) (causal : IVec S128x128 1) (cbg : FVec F S128x128 .f32)
    (cum2 : FVec F S128x1024 .f32) : FVec F S128x128 .f32 :=
  have seg := subf (extractStridedSlice S128x128 ![0, q.val * 128] cum2 (sl_1024 q))
    (broadcastTo S128x128 (extractStridedSlice S1x128 ![g.val * 8 + q.val, 0] cumt (sl_row g q)) broadcasts_S1x128_S128x128)
  have ninf : F .f32 := Scalar.ofBits .f32 0xFF800000#32
  mulf (mulf cbg (exp (select causal seg (broadcast S128x128 ninf))))
    (broadcastTo S128x128 (extractStridedSlice S1x128 ![g.val * 8 + q.val, 0] dtt (sl_row g q)) broadcasts_S1x128_S128x128)
/-- One head's rows from within the chunk. -/
def part (g q : Fin 8) (xs : FVec F S128x4096 .f32) (cumt dtt : FVec F S128x128 .f32) (causal : IVec S128x128 1)
    (cbg : FVec F S128x128 .f32) (cum2 : FVec F S128x1024 .f32) : FVec F S128x64 .f32 :=
  matmul dot_S128x128_S128x64_S128x64_1_0_0_1_n_n none (truncf .bf16 (wts g q cumt dtt causal cbg cum2) bitsLt_bf16_f32)
    (truncf .bf16 (extractStridedSlice S128x64 ![0, g.val * 512 + q.val * 64] xs (sl_x g q)) bitsLt_bf16_f32)
    (constant S128x64 .f32 0x00000000#32)
/-- The group's state before the chunk, and what it gives the rows. -/
def inter (g : Fin 8) (act : FVec F S128x6144 .f32) (ht : Vec F S1x128x512 .f32) : FVec F S128x512 .f32 :=
  matmul dot_S128x128_S128x512_S128x512_1_0_0_1_n_n none (cg g act)
    (truncf .bf16 (shapeCast S128x512 ht shapeCasts_S1x128x512_S128x512) bitsLt_bf16_f32) (constant S128x512 .f32 0x00000000#32)
/-- The group's rows before the gate. -/
def rows (g : Fin 8) (act : FVec F S128x6144 .f32) (xs : FVec F S128x4096 .f32) (cum cumt dtt : FVec F S128x128 .f32) (causal : IVec S128x128 1)
    (e2 : Vec F S128x1024 .bf16) (e1 : Vec F S128x512 .bf16) (dx : Vec F S1x512 .f32) (ht : Vec F S1x128x512 .f32) : FVec F S128x512 .f32 :=
  have P : Fin 8 → FVec F S128x64 .f32 := fun q => part g q xs cumt dtt causal (cb g act) (wide cum e2)
  addf (addf (concatenate S128x512 1 [⟨S128x64, P 0⟩, ⟨S128x64, P 1⟩, ⟨S128x64, P 2⟩, ⟨S128x64, P 3⟩, ⟨S128x64, P 4⟩, ⟨S128x64, P 5⟩, ⟨S128x64, P 6⟩, ⟨S128x64, P 7⟩] concatenates_S128x64_S128x64_S128x64_S128x64_S128x64_S128x64_S128x64_S128x64_S128x512_d1)
      (mulf (inter g act ht) (exp (narrow cum e1))))
    (mulf (broadcastTo S128x512 (shapeCast S1x512 dx shapeCasts_S1x512_S1x512) broadcasts_S1x512_S128x512)
      (extractStridedSlice S128x512 ![0, g.val * 512] xs (sl_xg g)))
/-- The gate and the group's normalization. -/
def gate (g : Fin 8) (z : Vec F S128x4096 .f32) (y : FVec F S128x512 .f32) (gs : Vec F S1x512 .f32) : FVec F S128x512 .bf16 :=
  have zg := extractStridedSlice S128x512 ![0, g.val * 512] z (sl_xg g)
  have y1 := mulf y (mulf zg (logistic zg))
  have ss := shapeCast S128x1 (multiReduction .add [1] S128 (mulf y1 y1) 0x00000000#32 reduces_S128x512_S128 (.inl rfl) rfl) shapeCasts_S128_S128x1
  have n : F .f32 := Scalar.ofBits .f32 0x44000000#32
  have eps : F .f32 := Scalar.ofBits .f32 0x358637BD#32
  have r := rsqrt (addf (divf ss (broadcast S128x1 n)) (broadcast S128x1 eps))
  truncf .bf16 (mulf (mulf y1 (broadcastTo S128x512 r broadcasts_S128x1_S128x512))
    (broadcastTo S128x512 (shapeCast S1x512 gs shapeCasts_S1x512_S1x512) broadcasts_S1x512_S128x512)) bitsLt_bf16_f32
/-- The group's state after the chunk. -/
def next (g : Fin 8) (act : FVec F S128x6144 .f32) (xs : FVec F S128x4096 .f32) (cum dt : FVec F S128x128 .f32)
    (e1 e1' : Vec F S128x512 .bf16) (ht : Vec F S1x128x512 .f32) : FVec F S1x128x512 .f32 :=
  have cx := narrow cum e1
  have last := extractStridedSlice S1x512 ![127, 0] cx slices_S128x512_o127_0_S1x512
  have w := mulf (exp (subf (broadcastTo S128x512 last broadcasts_S1x512_S128x512) cx)) (narrow dt e1')
  have xw := truncf .bf16 (mulf (extractStridedSlice S128x512 ![0, g.val * 512] xs (sl_xg g)) w) bitsLt_bf16_f32
  have keep := mulf (shapeCast S128x512 ht shapeCasts_S1x128x512_S128x512) (broadcastTo S128x512 (exp last) broadcasts_S1x512_S128x512)
  have bt := truncf .bf16 (transpose S128x128 [1, 0] (bg g act) transposes_S128x128_p1_0_S128x128) bitsLt_bf16_f32
  shapeCast S1x128x512 (addf keep (matmul dot_S128x128_S128x512_S128x512_1_0_0_1_n_n none bt xw (constant S128x512 .f32 0x00000000#32))) shapeCasts_S128x512_S1x128x512

/-! ## The reads -/

open Cert.Spec

section
variable {K : Chunk} (hK : K.Ok) (g : Fin 8)

/-- The head of column `j` of the group. -/
def headOf (g : Fin 8) (j : Fin 512) : Fin 128 := ⟨g.val * 8 + j.val / 64, by omega⟩

theorem narrow_at (v : FVec Ideal S128x128 .f32) (e : Vec Ideal S128x512 .bf16) (hv : ∀ t l, v (ix2 t l) ≠ ⊤)
    (he : ∀ (l : Fin 128) (j : Fin 512), e (ix2 l j) = if l = headOf g j then (1 : EReal) else 0) (t : Fin 128) (j : Fin 512) :
    narrow (F := Ideal) v e (ix2 t j) = v (ix2 t (headOf g j)) := by
  pointwise [narrow]
  have := sum_split' (fun k => e (ix2 k j)) (fun k => v (ix2 t k)) (fun k => by rw [he]; split <;> simp) (fun k => hv t k)
  refine this.trans ?_
  simp only [he]
  exact sum_one_hot _ _

theorem wide_at (v : FVec Ideal S128x128 .f32) (e : Vec Ideal S128x1024 .bf16) (hv : ∀ t l, v (ix2 t l) ≠ ⊤)
    (he : ∀ (l : Fin 128) (j : Fin 1024), e (ix2 l j) = if l = ⟨g.val * 8 + j.val / 128, by omega⟩ then (1 : EReal) else 0)
    (t : Fin 128) (j : Fin 1024) : wide (F := Ideal) v e (ix2 t j) = v (ix2 t ⟨g.val * 8 + j.val / 128, by omega⟩) := by
  pointwise [wide]
  have := sum_split' (fun k => e (ix2 k j)) (fun k => v (ix2 t k)) (fun k => by rw [he]; split <;> simp) (fun k => hv t k)
  refine this.trans ?_
  simp only [he]
  exact sum_one_hot _ _

theorem cb_at (act : FVec Ideal S128x6144 .f32) (hact : ∀ (s : Fin 128) (c : Fin 6144), act (ix2 s c) = K.x s c) (t s : Fin 128) :
    cb (F := Ideal) g act (ix2 t s) = K.cb t s g := by
  pointwise [cb, cg, bg, Chunk.cb, hact]

theorem part_at (q : Fin 8) (xs : FVec Ideal S128x4096 .f32) (cumt dtt : FVec Ideal S128x128 .f32) (causal : IVec S128x128 1)
    (cbg : FVec Ideal S128x128 .f32) (cum2 : FVec Ideal S128x1024 .f32)
    (hxs : ∀ (s : Fin 128) (c : Fin 4096), xs (ix2 s c) = K.x s c)
    (hcumt : ∀ (h t : Fin 128), cumt (ix2 h t) = K.cum t h) (hdtt : ∀ (h t : Fin 128), dtt (ix2 h t) = K.d t h)
    (hcausal : ∀ (t s : Fin 128) (a b : EReal), Scalar.select (causal (ix2 t s)) a b = if s.val ≤ t.val then a else b)
    (hcb : ∀ t s : Fin 128, cbg (ix2 t s) = K.cb t s g)
    (hcum2 : ∀ (t : Fin 128) (j : Fin 1024), cum2 (ix2 t j) = K.cum t (g.val * 8 + j.val / 128)) (t : Fin 128) (p : Fin 64) :
    part (F := Ideal) g q xs cumt dtt causal cbg cum2 (ix2 t p)
      = ∑ s : Fin 128, K.w t s (g.val * 8 + q.val) * K.x s (g.val * 512 + q.val * 64 + p.val) := by
  pointwise [part, wts]
  refine Finset.sum_congr rfl fun s _ => ?_
  have h1 : (q.val * 128 + s.val) / 128 = q.val := by omega
  have h2 : (g.val * 8 + q.val) / 8 = g.val := by omega
  simp only [hxs, hcumt, hdtt, hcausal, hcb, hcum2, h1, Chunk.w, h2]

include hK in
theorem next_at (act : FVec Ideal S128x6144 .f32) (xs : FVec Ideal S128x4096 .f32) (cum dt : FVec Ideal S128x128 .f32)
    (e1 e1' : Vec Ideal S128x512 .bf16) (ht : Vec Ideal S1x128x512 .f32) (H : ℕ → ℕ → EReal)
    (hact : ∀ (s : Fin 128) (c : Fin 6144), act (ix2 s c) = K.x s c)
    (hxs : ∀ (s : Fin 128) (c : Fin 4096), xs (ix2 s c) = K.x s c)
    (hcum : ∀ (t h : Fin 128), cum (ix2 t h) = K.cum t h) (hdt : ∀ (t h : Fin 128), dt (ix2 t h) = K.d t h)
    (he : ∀ (l : Fin 128) (j : Fin 512), e1 (ix2 l j) = if l = headOf g j then (1 : EReal) else 0)
    (he' : ∀ (l : Fin 128) (j : Fin 512), e1' (ix2 l j) = if l = headOf g j then (1 : EReal) else 0)
    (hht : ∀ (n : Fin 128) (j : Fin 512), ht (ix3 0 n j) = H (g.val * 512 + j.val) n) (n : Fin 128) (j : Fin 512) :
    next (F := Ideal) g act xs cum dt e1 e1' ht (ix3 0 n j) = K.next H (g.val * 512 + j.val) n := by
  pointwise [next, bg]
  have hc : ∀ t l, cum (ix2 t l) ≠ ⊤ := fun t l => by rw [hcum]; exact Chunk.ne_top_of_nonpos (hK.cum_nonpos _ _)
  have hd : ∀ t l, dt (ix2 t l) ≠ ⊤ := fun t l => by rw [hdt]; exact hK.d_ne_top _ _
  have h1 : (g.val * 512 + j.val) / 64 = g.val * 8 + j.val / 64 := by omega
  have h2 : (g.val * 512 + j.val) / 512 = g.val := by omega
  simp only [narrow_at g cum e1 hc he, narrow_at g dt e1' hd he', hht, hcum, hdt, hact, hxs, Chunk.next, h1, h2, headOf]
  rfl

include hK in
theorem rows_at (act : FVec Ideal S128x6144 .f32) (xs : FVec Ideal S128x4096 .f32) (cum cumt dtt : FVec Ideal S128x128 .f32)
    (causal : IVec S128x128 1) (e2 : Vec Ideal S128x1024 .bf16) (e1 : Vec Ideal S128x512 .bf16) (dx : Vec Ideal S1x512 .f32)
    (ht : Vec Ideal S1x128x512 .f32) (H : ℕ → ℕ → EReal)
    (hact : ∀ (s : Fin 128) (c : Fin 6144), act (ix2 s c) = K.x s c)
    (hxs : ∀ (s : Fin 128) (c : Fin 4096), xs (ix2 s c) = K.x s c)
    (hcum : ∀ (t h : Fin 128), cum (ix2 t h) = K.cum t h)
    (hcumt : ∀ (h t : Fin 128), cumt (ix2 h t) = K.cum t h) (hdtt : ∀ (h t : Fin 128), dtt (ix2 h t) = K.d t h)
    (hcausal : ∀ (t s : Fin 128) (a b : EReal), Scalar.select (causal (ix2 t s)) a b = if s.val ≤ t.val then a else b)
    (he2 : ∀ (l : Fin 128) (j : Fin 1024), e2 (ix2 l j) = if l = ⟨g.val * 8 + j.val / 128, by omega⟩ then (1 : EReal) else 0)
    (he : ∀ (l : Fin 128) (j : Fin 512), e1 (ix2 l j) = if l = headOf g j then (1 : EReal) else 0)
    (hdx : ∀ j : Fin 512, dx (ix2 0 j) = K.k ((g.val * 512 + j.val) / 64))
    (hht : ∀ (n : Fin 128) (j : Fin 512), ht (ix3 0 n j) = H (g.val * 512 + j.val) n) (t : Fin 128) (j : Fin 512) :
    rows (F := Ideal) g act xs cum cumt dtt causal e2 e1 dx ht (ix2 t j) = K.y H t (g.val * 512 + j.val) := by
  have hc : ∀ t l, cum (ix2 t l) ≠ ⊤ := fun t l => by rw [hcum]; exact Chunk.ne_top_of_nonpos (hK.cum_nonpos _ _)
  have hp := fun q => part_at (K := K) g q xs cumt dtt causal (cb g act) (wide cum e2) hxs hcumt hdtt hcausal (cb_at g act hact)
    (fun t j => (wide_at g cum e2 hc he2 t j).trans (hcum _ _))
  pointwise [rows, inter, cg]
  have h1 : (g.val * 512 + j.val) / 64 = g.val * 8 + j.val / 64 := by omega
  have h2 : (g.val * 512 + j.val) / 512 = g.val := by omega
  simp only [narrow_at g cum e1 hc he, hp, hht, hcum, hact, hxs, hdx, Chunk.y, h1, h2, headOf]
  refine congrArg₂ (· + ·) (congrArg₂ (· + ·) ?_ rfl) rfl
  have key : ∀ (q : Fin 8) (k : ℕ), j.val = q.val * 64 + k → k < 64 →
      (∑ s : Fin 128, K.w t s (g.val * 8 + q.val) * K.x s (g.val * 512 + q.val * 64 + k))
        = ∑ s : Fin 128, K.w t s (g.val * 8 + j.val / 64) * K.x s (g.val * 512 + j.val) := fun q k e hk => by
    have e1 : j.val / 64 = q.val := by omega
    have e2 : g.val * 512 + j.val = g.val * 512 + q.val * 64 + k := by omega
    rw [e1, e2]
  have hj := j.isLt
  repeat' split
  · exact key 0 _ (by simp) (by assumption)
  · exact key 1 _ (by simp; omega) (by assumption)
  · exact key 2 _ (by simp; omega) (by assumption)
  · exact key 3 _ (by simp; omega) (by assumption)
  · exact key 4 _ (by simp; omega) (by assumption)
  · exact key 5 _ (by simp; omega) (by assumption)
  · exact key 6 _ (by simp; omega) (by assumption)
  · exact key 7 _ (by simp; omega) (by omega)

theorem gate_at (z : Vec Ideal S128x4096 .f32) (y : FVec Ideal S128x512 .f32) (gs : Vec Ideal S1x512 .f32) (Y Z G : ℕ → EReal) (t : Fin 128)
    (hy : ∀ j : Fin 512, y (ix2 t j) = Y (g.val * 512 + j.val)) (hz : ∀ j : Fin 4096, z (ix2 t j) = Z j)
    (hgs : ∀ j : Fin 512, gs (ix2 0 j) = G (g.val * 512 + j.val)) (j : Fin 512) :
    gate (F := Ideal) g z y gs (ix2 t j) = normed Y Z G (g.val * 512 + j.val) := by
  pointwise [gate]
  have h2 : (g.val * 512 + j.val) / 512 = g.val := by omega
  simp only [hy, hz, hgs, normed, gated, h2]

end

end Cert.KernelIdeal.Group
end
-- ==== Proof.Held.lean ====
/- The rows and states a grid point works on, in the terms of the groups. -/
module

public import proofs.«01_k».proof.Proof.Group
public import proofs.«01_k».proof.Proof.Gen.KernelIdeal.Frame
public import Idealize.ShloMosaic.Lib.Pipeline.ValueKit
public import Idealize.ShloMosaic.Lib.Pipeline.ReadBack
public import Idealize.ShloMosaic.Lib.WritesUnit

@[expose] public section

set_option maxRecDepth 65536
set_option pp.deepTerms false
set_option pp.deepTerms.threshold 14
set_option maxHeartbeats 4000000

noncomputable section

open Idealize.ShloMosaic Idealize.ShloMosaic.TcCoe Idealize.SL.Sem

namespace Cert.KernelIdeal.Point

open Cert.KernelIdeal Cert.KernelIdeal.Gen

variable {F : FTy → Type} [FloatOps F]

theorem in_e1 (g : Fin 8) : ∀ a, (![0, g.val * 512] : Fin 2 → ℕ) a + (![128, 512] : Fin 2 → ℕ) a ≤ S128x4096.size a := by revert g; decide
theorem in_e2 (g : Fin 8) : ∀ a, (![0, g.val * 1024] : Fin 2 → ℕ) a + (![128, 1024] : Fin 2 → ℕ) a ≤ S128x8192.size a := by revert g; decide
theorem in_r (g : Fin 8) : ∀ a, (![0, g.val * 512] : Fin 2 → ℕ) a + (![1, 512] : Fin 2 → ℕ) a ≤ S1x4096.size a := by revert g; decide
theorem in_h (g : Fin 8) : ∀ a, (![g.val, 0, 0] : Fin 3 → ℕ) a + (![1, 128, 512] : Fin 3 → ℕ) a ≤ S8x128x512.size a := by revert g; decide
theorem in_w (k : Fin 4) : ∀ a, (![k.val, 0] : Fin 2 → ℕ) a + (![1, 6144] : Fin 2 → ℕ) a ≤ S4x6144.size a := by revert k; decide

/-- The rows after the convolution, from the 136 rows held. -/
def conv (cb : Vec F S136x6144 .f32) (w : Vec F S4x6144 .f32) (b : Vec F S1x6144 .f32) : FVec F S128x6144 .f32 :=
  k0_pay19 cb (View.ld w (Rect.unit ![(0 : Fin 4).val, 0] ![1, 6144] (in_w 0))) (View.ld w (Rect.unit ![(1 : Fin 4).val, 0] ![1, 6144] (in_w 1)))
    (View.ld w (Rect.unit ![(2 : Fin 4).val, 0] ![1, 6144] (in_w 2))) (View.ld w (Rect.unit ![(3 : Fin 4).val, 0] ![1, 6144] (in_w 3))) b

/-- The group's state after the chunk. -/
def nxt (g : Fin 8) (cv : FVec F S128x6144 .f32) (dt : FVec F S128x128 .f32) (tril : Vec F S128x128 .bf16) (al : Vec F S1x128 .f32)
    (e1 : Vec F S128x4096 .bf16) (ht : Vec F S1x128x512 .f32) : FVec F S1x128x512 .f32 :=
  Group.next g (k0_pay22 cv) (k0_pay23 cv) (k0_pay25 dt tril al) dt (View.ld e1 (Rect.unit ![0, g.val * 512] ![128, 512] (in_e1 g)))
    (View.ld e1 (Rect.unit ![0, g.val * 512] ![128, 512] (in_e1 g))) ht

/-- The group's rows after the gate. -/
def row (g : Fin 8) (cv : FVec F S128x6144 .f32) (z : Vec F S128x4096 .f32) (dt : FVec F S128x128 .f32) (tril : Vec F S128x128 .bf16) (al : Vec F S1x128 .f32)
    (e2 : Vec F S128x8192 .bf16) (e1 : Vec F S128x4096 .bf16) (dx gs : Vec F S1x4096 .f32) (ht : Vec F S1x128x512 .f32) : FVec F S128x512 .bf16 :=
  Group.gate g z
    (Group.rows g (k0_pay22 cv) (k0_pay23 cv) (k0_pay25 dt tril al) (k0_pay26 dt tril al) (k0_pay27 dt) k0_pay28
      (View.ld e2 (Rect.unit ![0, g.val * 1024] ![128, 1024] (in_e2 g))) (View.ld e1 (Rect.unit ![0, g.val * 512] ![128, 512] (in_e1 g)))
      (View.ld dx (Rect.unit ![0, g.val * 512] ![1, 512] (in_r g))) ht)
    (View.ld gs (Rect.unit ![0, g.val * 512] ![1, 512] (in_r g)))

theorem emb_h (g : Fin 8) (inb : ∀ a, (![g.val, 0, 0] : Fin 3 → ℕ) a + (![1, 128, 512] : Fin 3 → ℕ) a ≤ S8x128x512.size a) (u : Fin 1) (n : Fin 128) (j : Fin 512) :
    (Rect.unit ![g.val, 0, 0] ![1, 128, 512] inb : Rect S8x128x512).emb (ix3 u n j) = ix3 g n j := by
  obtain rfl := Subsingleton.elim u 0
  funext a
  fin_cases a <;> exact Fin.ext ((Rect.idx_unit_val _ _ inb _ _).trans (by simp))

/-- All groups' states after the chunk. -/
def nxts (cv : FVec F S128x6144 .f32) (dt : FVec F S128x128 .f32) (tril : Vec F S128x128 .bf16) (al : Vec F S1x128 .f32)
    (e1 : Vec F S128x4096 .bf16) (ht : Fin 8 → Vec F S1x128x512 .f32) : Vec F S8x128x512 .f32 :=
  fun y => nxt (y 0) cv dt tril al e1 (ht (y 0)) (ix3 0 (y 1) (y 2))

theorem nxts_piece (g : Fin 8) (inb : ∀ a, (![g.val, 0, 0] : Fin 3 → ℕ) a + (![1, 128, 512] : Fin 3 → ℕ) a ≤ S8x128x512.size a)
    (w : Vec F S1x128x512 .f32) (cv : FVec F S128x6144 .f32) (dt : FVec F S128x128 .f32) (tril : Vec F S128x128 .bf16) (al : Vec F S1x128 .f32)
    (e1 : Vec F S128x4096 .bf16) (ht : Fin 8 → Vec F S1x128x512 .f32) (h : w = nxt g cv dt tril al e1 (ht g)) (x : S1x128x512.Idx) :
    w x = nxts cv dt tril al e1 ht ((Rect.unit ![g.val, 0, 0] ![1, 128, 512] inb : Rect S8x128x512).emb x) := by
  obtain ⟨u, n, j, rfl⟩ : ∃ u n j, x = (ix3 u n j : S1x128x512.Idx) := ⟨x 0, x 1, x 2, by funext a; fin_cases a <;> rfl⟩
  obtain rfl := Subsingleton.elim u 0
  rw [emb_h, h]
  rfl

/-- All groups' rows after the gate. -/
def outs (cv : FVec F S128x6144 .f32) (z : Vec F S128x4096 .f32) (dt : FVec F S128x128 .f32) (tril : Vec F S128x128 .bf16) (al : Vec F S1x128 .f32)
    (e2 : Vec F S128x8192 .bf16) (e1 : Vec F S128x4096 .bf16) (dx gs : Vec F S1x4096 .f32) (ht : Fin 8 → Vec F S1x128x512 .f32) : Vec F S128x4096 .bf16 :=
  concatenate S128x4096 1 [⟨S128x512, row 0 cv z dt tril al e2 e1 dx gs (ht 0)⟩, ⟨S128x512, row 1 cv z dt tril al e2 e1 dx gs (ht 1)⟩,
    ⟨S128x512, row 2 cv z dt tril al e2 e1 dx gs (ht 2)⟩, ⟨S128x512, row 3 cv z dt tril al e2 e1 dx gs (ht 3)⟩,
    ⟨S128x512, row 4 cv z dt tril al e2 e1 dx gs (ht 4)⟩, ⟨S128x512, row 5 cv z dt tril al e2 e1 dx gs (ht 5)⟩,
    ⟨S128x512, row 6 cv z dt tril al e2 e1 dx gs (ht 6)⟩, ⟨S128x512, row 7 cv z dt tril al e2 e1 dx gs (ht 7)⟩]
    concatenates_S128x512_S128x512_S128x512_S128x512_S128x512_S128x512_S128x512_S128x512_S128x4096_d1

/-- The eight slices of the state held. -/
def slices (ht : Vec F S8x128x512 .f32) (g : Fin 8) : Vec F S1x128x512 .f32 := View.ld ht (Rect.unit ![g.val, 0, 0] ![1, 128, 512] (in_h g))

section
variable {k : ℕ} (o : ℕ) (inb : ∀ a, (![o, 0] : Fin 2 → ℕ) a + (![k, 6144] : Fin 2 → ℕ) a ≤ S136x6144.size a)

theorem emb_row (r : Fin 136) (ch : Fin 6144) (h : o ≤ r.val ∧ r.val < o + k) :
    (Rect.unit ![o, 0] ![k, 6144] inb : Rect S136x6144).emb (ix2 (⟨r.val - o, by omega⟩ : Fin k) ch) = ix2 r ch := by
  funext a
  fin_cases a
  · exact Fin.ext ((Rect.idx_unit_val _ _ inb _ _).trans (by simp; omega))
  · exact Fin.ext ((Rect.idx_unit_val _ _ inb _ _).trans (by simp))

theorem canon_at (w : (Rect.unit ![o, 0] ![k, 6144] inb : Rect S136x6144).shape.Idx → F .f32) (L : List (View.Piece (Elt F) S136x6144 .f32)) (r : Fin 136) (ch : Fin 6144)
    (h : o ≤ r.val ∧ r.val < o + k) :
    View.canon (Val := Elt F) (⟨Rect.unit ![o, 0] ![k, 6144] inb, w⟩ :: L) (ix2 r ch) = w (ix2 (⟨r.val - o, by omega⟩ : Fin k) ch) := by
  conv_lhs => rw [← emb_row o inb r ch h]
  exact View.canon_cons_emb _ w L _

theorem canon_off (w : (Rect.unit ![o, 0] ![k, 6144] inb : Rect S136x6144).shape.Idx → F .f32) (L : List (View.Piece (Elt F) S136x6144 .f32)) (r : Fin 136) (ch : Fin 6144)
    (h : r.val < o ∨ o + k ≤ r.val) :
    View.canon (Val := Elt F) (⟨Rect.unit ![o, 0] ![k, 6144] inb, w⟩ :: L) (ix2 r ch) = View.canon L (ix2 r ch) := by
  refine View.canon_cons_of_not_mem _ _ fun hm => ?_
  have hm' : ix2 r ch ∈ (Rect.unit ![o, 0] ![k, 6144] inb : Rect S136x6144).set := hm
  have := (Rect.mem_set_unit.1 hm') 0
  simp at this
  omega

theorem readCov_at (v : View sig .tc .vmem S136x6144 .f32) (L : List (View.Piece (Elt F) S136x6144 .f32)) (r : Fin k) (ch : Fin 6144) (h : o + r.val < 136) :
    v.readCov L (Rect.unit ![o, 0] ![k, 6144] inb : Rect S136x6144).toLoadRect (ix2 r ch) = View.canon L (ix2 ⟨o + r.val, h⟩ ch) := by
  rw [View.readCov_eq_canon']
  refine congrArg (View.canon L) ?_
  funext a
  fin_cases a <;> exact Fin.ext ((Rect.idx_unit_val _ _ inb _ _).trans (by simp))
end

variable (m : (ℓ : Loc nD τ sig) → Buf (Elt F) ℓ)

/-- The rows held while a later chunk of a sequence is at work: the last ones of the chunk before, and the chunk's. -/
def heldB (c : Dev nD) (t : Fin cfg0.N) : Vec F S136x6144 .f32 :=
  (View.whole cc0_scratch1).read (Elt F) ((View.whole cc0_scratch1).writes (Elt F)
    ((Memref.isWhole_whole cc0_scratch1).unread (outsAt0 m c (t.val - 1) (by have := t.isLt; omega)).2.2.2.2)
    [⟨Rect.unit ![8, 0] ![128, 6144] inb_S136x6144_S128x6144_8_0, k0_pay18 (iblk m c 0 t)⟩])

/-- The rows held while a sequence's first chunk is at work: the rows before the sequence, and the chunk's. -/
def heldA (c : Dev nD) (t : Fin cfg0.N) : Vec F S136x6144 .f32 :=
  (View.whole cc0_scratch1).readCov [⟨Rect.unit ![8, 0] ![128, 6144] inb_S136x6144_S128x6144_8_0, k0_pay18 (iblk m c 0 t)⟩,
    ⟨Rect.unit ![0, 0] ![8, 6144] inb_S136x6144_S8x6144_0_0, k0_pay1 (iblk m c 3 t)⟩] (Rect.unit ![0, 0] ![136, 6144] inb_S136x6144_S136x6144_0_0 : Rect S136x6144).toLoadRect

theorem in_0 (g : Fin 8) : ∀ a, (![0, g.val * 8, 0, 0] : Fin 4 → ℕ) a + (![1, 8, 64, 128] : Fin 4 → ℕ) a ≤ S1x64x64x128.size a := by revert g; decide

/-- A group's state before the sequence. -/
def first (h : Vec F S1x64x64x128 .f32) (g : Fin 8) : Vec F S1x128x512 .f32 :=
  k0_pay2 (View.ld h (Rect.unit ![0, g.val * 8, 0, 0] ![1, 8, 64, 128] (in_0 g)))

/-- All heads' states after the last chunk. -/
def lasts (cv : FVec F S128x6144 .f32) (dt : FVec F S128x128 .f32) (tril : Vec F S128x128 .bf16) (al : Vec F S1x128 .f32)
    (e1 : Vec F S128x4096 .bf16) (ht : Fin 8 → Vec F S1x128x512 .f32) : Vec F S1x64x64x128 .f32 :=
  fun y => have g : Fin 8 := ⟨(y 1).val / 8, by have := (y 1).isLt; change (y 1).val < 64 at this; omega⟩
    k0_pay9 (nxt g cv dt tril al e1 (ht g)) (ix4 0 ⟨(y 1).val % 8, Nat.mod_lt _ (by decide)⟩ (y 2) (y 3))

theorem emb_f (g : Fin 8) (inb : ∀ a, (![0, g.val * 8, 0, 0] : Fin 4 → ℕ) a + (![1, 8, 64, 128] : Fin 4 → ℕ) a ≤ S1x64x64x128.size a) (q : Fin 8) (p : Fin 64) (n : Fin 128) :
    (Rect.unit ![0, g.val * 8, 0, 0] ![1, 8, 64, 128] inb : Rect S1x64x64x128).emb (ix4 0 q p n) = ix4 0 ⟨g.val * 8 + q.val, by omega⟩ p n := by
  funext a
  fin_cases a <;> exact Fin.ext ((Rect.idx_unit_val _ _ inb _ _).trans (by simp))

theorem lasts_piece (g : Fin 8) (inb : ∀ a, (![0, g.val * 8, 0, 0] : Fin 4 → ℕ) a + (![1, 8, 64, 128] : Fin 4 → ℕ) a ≤ S1x64x64x128.size a)
    (w : Vec F S1x8x64x128 .f32) (cv : FVec F S128x6144 .f32) (dt : FVec F S128x128 .f32) (tril : Vec F S128x128 .bf16) (al : Vec F S1x128 .f32)
    (e1 : Vec F S128x4096 .bf16) (ht : Fin 8 → Vec F S1x128x512 .f32) (h : w = k0_pay9 (nxt g cv dt tril al e1 (ht g))) (x : S1x8x64x128.Idx) :
    w x = lasts cv dt tril al e1 ht ((Rect.unit ![0, g.val * 8, 0, 0] ![1, 8, 64, 128] inb : Rect S1x64x64x128).emb x) := by
  obtain ⟨u, q, p, n, rfl⟩ : ∃ u q p n, x = (ix4 u q p n : S1x8x64x128.Idx) := ⟨x 0, x 1, x 2, x 3, by funext a; fin_cases a <;> rfl⟩
  obtain rfl := Subsingleton.elim u 0
  rw [emb_f, h]
  have e1 : (⟨(g.val * 8 + q.val) / 8, by omega⟩ : Fin 8) = g := Fin.ext (by simp; omega)
  have e2 : (⟨(g.val * 8 + q.val) % 8, by omega⟩ : Fin 8) = q := Fin.ext (by simp)
  change _ = k0_pay9 (nxt ⟨(g.val * 8 + q.val) / 8, _⟩ _ _ _ _ _ (ht ⟨(g.val * 8 + q.val) / 8, _⟩)) (ix4 0 ⟨(g.val * 8 + q.val) % 8, _⟩ p n)
  rw [e1, e2]

theorem heldB_at (c : Dev nD) (t : Fin cfg0.N) (r : Fin 136) (ch : Fin 6144) :
    heldB m c t (ix2 r ch) = if h : 8 ≤ r.val then (iblk m c 0 t : Vec F S128x6144 .f32) (ix2 ⟨r.val - 8, by omega⟩ ch)
      else (outsAt0 m c (t.val - 1) (by have := t.isLt; omega)).2.2.2.2 (ix2 r ch) := by
  unfold heldB
  split
  · rename_i h
    rw [View.read_writes_cons_unit_of_mem _ _ _ _ _ _ (ix2 (⟨r.val - 8, by omega⟩ : Fin 128) ch) rfl (fun a => by fin_cases a <;> simp; omega)]
    pointwise [k0_pay18]
  · rename_i h
    rw [View.read_writes_cons_unit_of_not_mem _ _ _ _ _ _ rfl 0 (.inl (by simp; omega)), View.writes_nil, read_unread_whole]

theorem heldA_at (c : Dev nD) (t : Fin cfg0.N) (r : Fin 136) (ch : Fin 6144) :
    heldA m c t (ix2 r ch) = if h : 8 ≤ r.val then (iblk m c 0 t : Vec F S128x6144 .f32) (ix2 ⟨r.val - 8, by omega⟩ ch)
      else (iblk m c 3 t : Vec F S1x8x6144 .f32) (ix3 0 ⟨r.val, by omega⟩ ch) := by
  have e : (⟨0 + r.val, by omega⟩ : Fin 136) = r := Fin.ext (Nat.zero_add _)
  unfold heldA
  rw [readCov_at 0 _ _ _ _ _ (by omega), e]
  split
  · rename_i h
    rw [canon_at _ _ _ _ _ _ ⟨h, by omega⟩]
    pointwise [k0_pay18]
  · rename_i h
    rw [canon_off _ _ _ _ _ _ (.inl (by omega)), canon_at _ _ _ _ _ _ ⟨by omega, by omega⟩]
    pointwise [k0_pay1]

end Cert.KernelIdeal.Point
end
-- ==== Proof.Ops.lean ====
/- The kernel's rows, step sizes and decay sums over the extended reals. -/
module

public import proofs.«01_k».proof.Proof.Held

@[expose] public section

set_option maxRecDepth 65536
set_option pp.deepTerms false
set_option pp.deepTerms.threshold 30
set_option maxHeartbeats 1000000

noncomputable section

open Idealize.ShloMosaic Idealize.ShloMosaic.TcCoe Idealize.SL.Sem

namespace Cert.KernelIdeal.Ops

open Cert.KernelIdeal Cert.KernelIdeal.Gen Cert.KernelIdeal.Point Cert.Spec

theorem conv_at (cb : Vec Ideal S136x6144 .f32) (w : Vec Ideal S4x6144 .f32) (b : Vec Ideal S1x6144 .f32) (t : Fin 128) (ch : Fin 6144) :
    conv cb w b (ix2 t ch) = b (ix2 0 ch) + (((cb (ix2 ⟨5 + t.val, by omega⟩ ch) * w (ix2 0 ch) + cb (ix2 ⟨6 + t.val, by omega⟩ ch) * w (ix2 1 ch))
      + cb (ix2 ⟨7 + t.val, by omega⟩ ch) * w (ix2 2 ch)) + cb (ix2 ⟨8 + t.val, by omega⟩ ch) * w (ix2 3 ch)) := by
  unfold conv
  pointwise [k0_pay19]
  have e1 : (⟨(((8 + t.val + 136 - 1) % 136 + 136 - 1) % 136 + 136 - 1) % 136, by omega⟩ : Fin 136) = ⟨5 + t.val, by omega⟩ := Fin.ext (by dsimp only; omega)
  have e2 : (⟨((8 + t.val + 136 - 1) % 136 + 136 - 1) % 136, by omega⟩ : Fin 136) = ⟨6 + t.val, by omega⟩ := Fin.ext (by dsimp only; omega)
  have e3 : (⟨(8 + t.val + 136 - 1) % 136, by omega⟩ : Fin 136) = ⟨7 + t.val, by omega⟩ := Fin.ext (by dsimp only; omega)
  rw [e1, e2, e3]

theorem act_at (cv : FVec Ideal S128x6144 .f32) (t : Fin 128) (ch : Fin 6144) :
    k0_pay22 cv (ix2 t ch) = cv (ix2 t ch) * Ideal.logistic (cv (ix2 t ch)) := by
  pointwise [k0_pay22]

theorem xs_at (cv : FVec Ideal S128x6144 .f32) (t : Fin 128) (ch : Fin 4096) :
    k0_pay23 cv (ix2 t ch) = cv (ix2 t ⟨ch.val, by omega⟩) * Ideal.logistic (cv (ix2 t ⟨ch.val, by omega⟩)) := by
  pointwise [k0_pay23, k0_pay22]

theorem dt_at (v : Vec Ideal S128x128 .f32) (b : Vec Ideal S1x128 .f32) (t h : Fin 128) :
    k0_pay24 v b (ix2 t h) = if h.val < 64 then softplus (v (ix2 t h) + b (ix2 0 h)) else 0 := by
  pointwise [k0_pay24]
  have e : IntOp.andi (IntOp.cmpi CmpIPredicate.slt (BitVec.ofNat 32 t.val) 128#32) (IntOp.cmpi CmpIPredicate.slt (BitVec.ofNat 32 h.val) 64#32)
      = if h.val < 64 then 1#1 else 0#1 := by
    revert t h
    decide +kernel
  rw [e]
  simp only [ne_eq, not_true_eq_false, if_false, zero_sub]
  by_cases h' : h.val < 64
  · rw [if_pos h', if_pos h']; rfl
  · rw [if_neg h', if_neg h']; rfl

theorem cum_at (K : Chunk) (hK : K.Ok) (dt : FVec Ideal S128x128 .f32) (tril : Vec Ideal S128x128 .bf16) (al : Vec Ideal S1x128 .f32) (t h : Fin 128)
    (hd : ∀ s : Fin 128, dt (ix2 s h) = K.d s h) (ht : ∀ t s : Fin 128, tril (ix2 t s) = if s.val ≤ t.val then (1 : EReal) else 0)
    (ha : -Ideal.exp (al (ix2 0 h)) = K.a h) :
    k0_pay25 dt tril al (ix2 t h) = K.cum t h := by
  pointwise [k0_pay25]
  rw [zero_sub, ha]
  simp only [hd, ht]
  rw [sum_split _ _ (fun s => by split <;> simp) (fun s => Chunk.ne_top_of_nonpos (hK.term_nonpos _ _))]
  unfold Chunk.cum
  refine Finset.sum_congr rfl fun s _ => ?_
  split <;> simp

theorem causal_at (t s : Fin 128) (a b : EReal) : Scalar.select (k0_pay28 (ix2 t s)) a b = if s.val ≤ t.val then a else b := by
  pointwise [k0_pay28]
  have e : IntOp.cmpi CmpIPredicate.sle (BitVec.ofNat 32 s.val) (BitVec.ofNat 32 t.val) = if s.val ≤ t.val then 1#1 else 0#1 := by
    revert t s
    decide +kernel
  rw [e]
  split <;> rfl

theorem first_at (h : Vec Ideal S1x64x64x128 .f32) (g : Fin 8) (n : Fin 128) (j : Fin 512) :
    first h g (ix3 0 n j) = h (ix4 0 ⟨g.val * 8 + j.val / 64, by omega⟩ ⟨j.val % 64, Nat.mod_lt _ (by decide)⟩ n) := by
  unfold first
  pointwise [k0_pay2]

theorem last_at (v : Vec Ideal S1x128x512 .f32) (q : Fin 8) (p : Fin 64) (n : Fin 128) :
    k0_pay9 v (ix4 0 q p n) = v (ix3 0 n ⟨q.val * 64 + p.val, by omega⟩) := by
  pointwise [k0_pay9]

theorem slices_at (v : Vec Ideal S8x128x512 .f32) (g : Fin 8) (n : Fin 128) (j : Fin 512) :
    slices v g (ix3 0 n j) = v (ix3 g n j) := by
  unfold slices
  pointwise

end Cert.KernelIdeal.Ops
end
-- ==== Proof.PointAt.lean ====
/- A grid point's results at an index, as the recurrence of its chunk. -/
module

public import proofs.«01_k».proof.Proof.Ops
public import proofs.«01_k».proof.Proof.Group

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.KernelIdeal.Ops

open Cert.KernelIdeal Cert.KernelIdeal.Gen Cert.KernelIdeal.Point Cert.Spec

theorem cumt_at (dt : FVec Ideal S128x128 .f32) (tril : Vec Ideal S128x128 .bf16) (al : Vec Ideal S1x128 .f32) (t h : Fin 128) :
    k0_pay26 dt tril al (ix2 h t) = k0_pay25 dt tril al (ix2 t h) := by
  unfold k0_pay26
  generalize k0_pay25 dt tril al = v
  pointwise

theorem dtt_at (dt : FVec Ideal S128x128 .f32) (t h : Fin 128) : k0_pay27 dt (ix2 h t) = dt (ix2 t h) := by
  pointwise [k0_pay27]

theorem ld_e1 (e : Vec Ideal S128x4096 .bf16) (g : Fin 8) (l : Fin 128) (j : Fin 512) :
    View.ld e (Rect.unit ![0, g.val * 512] ![128, 512] (in_e1 g)) (ix2 l j) = e (ix2 l ⟨g.val * 512 + j.val, by omega⟩) := by
  pointwise

theorem ld_e2 (e : Vec Ideal S128x8192 .bf16) (g : Fin 8) (l : Fin 128) (j : Fin 1024) :
    View.ld e (Rect.unit ![0, g.val * 1024] ![128, 1024] (in_e2 g)) (ix2 l j) = e (ix2 l ⟨g.val * 1024 + j.val, by omega⟩) := by
  pointwise

theorem ld_r (e : Vec Ideal S1x4096 .f32) (g : Fin 8) (j : Fin 512) :
    View.ld e (Rect.unit ![0, g.val * 512] ![1, 512] (in_r g)) (ix2 0 j) = e (ix2 0 ⟨g.val * 512 + j.val, by omega⟩) := by
  pointwise

variable {K : Chunk} (hK : K.Ok) (cv : FVec Ideal S128x6144 .f32) (dt : FVec Ideal S128x128 .f32) (tril : Vec Ideal S128x128 .bf16)
  (al : Vec Ideal S1x128 .f32) (e1 : Vec Ideal S128x4096 .bf16)
  (hcv : ∀ (s : Fin 128) (ch : Fin 6144), cv (ix2 s ch) * Ideal.logistic (cv (ix2 s ch)) = K.x s ch)
  (hd : ∀ s h : Fin 128, dt (ix2 s h) = K.d s h)
  (ht : ∀ t s : Fin 128, tril (ix2 t s) = if s.val ≤ t.val then (1 : EReal) else 0)
  (ha : ∀ h : Fin 128, -Ideal.exp (al (ix2 0 h)) = K.a h)
  (he1 : ∀ (l : Fin 128) (j : Fin 4096), e1 (ix2 l j) = if l.val = j.val / 64 then (1 : EReal) else 0)

theorem one_at (g : Fin 8) (e1 : Vec Ideal S128x4096 .bf16) (he1 : ∀ (l : Fin 128) (j : Fin 4096), e1 (ix2 l j) = if l.val = j.val / 64 then (1 : EReal) else 0)
    (l : Fin 128) (j : Fin 512) :
    View.ld e1 (Rect.unit ![0, g.val * 512] ![128, 512] (in_e1 g)) (ix2 l j) = if l = Group.headOf g j then (1 : EReal) else 0 := by
  rw [ld_e1, he1]
  refine if_congr ?_ rfl rfl
  rw [Fin.ext_iff]
  have : (g.val * 512 + j.val) / 64 = g.val * 8 + j.val / 64 := by omega
  simp only [this, Group.headOf]

include hK hcv hd ht ha he1 in
theorem nxt_at (g : Fin 8) (h : Vec Ideal S1x128x512 .f32) (H : ℕ → ℕ → EReal)
    (hh : ∀ (n : Fin 128) (j : Fin 512), h (ix3 0 n j) = H (g.val * 512 + j.val) n) (n : Fin 128) (j : Fin 512) :
    nxt g cv dt tril al e1 h (ix3 0 n j) = K.next H (g.val * 512 + j.val) n := by
  unfold nxt
  exact Group.next_at hK g _ _ _ _ _ _ _ H (fun s c => (act_at cv s c).trans (hcv s c)) (fun s c => (xs_at cv s c).trans (hcv s ⟨c.val, by omega⟩))
    (fun t h => cum_at K hK dt tril al t h (fun s => hd s h) ht (ha h)) hd (one_at g e1 he1) (one_at g e1 he1) hh n j

include hK hcv hd ht ha he1 in
theorem row_at (g : Fin 8) (z : Vec Ideal S128x4096 .f32) (e2 : Vec Ideal S128x8192 .bf16) (dx gs : Vec Ideal S1x4096 .f32)
    (h : Vec Ideal S1x128x512 .f32) (H : ℕ → ℕ → EReal)
    (he2 : ∀ (l : Fin 128) (j : Fin 8192), e2 (ix2 l j) = if l.val = j.val / 128 then (1 : EReal) else 0)
    (hdx : ∀ j : Fin 4096, dx (ix2 0 j) = K.k (j.val / 64))
    (hh : ∀ (n : Fin 128) (j : Fin 512), h (ix3 0 n j) = H (g.val * 512 + j.val) n) (t : Fin 128) (Z G : ℕ → EReal)
    (hz : ∀ j : Fin 4096, z (ix2 t j) = Z j) (hgs : ∀ j : Fin 4096, gs (ix2 0 j) = G j) (j : Fin 512) :
    row g cv z dt tril al e2 e1 dx gs h (ix2 t j) = normed (K.y H t) Z G (g.val * 512 + j.val) := by
  have hc := fun t h => cum_at K hK dt tril al t h (fun s => hd s h) ht (ha h)
  unfold row
  refine Group.gate_at g z _ _ (K.y H t) Z G t (fun j => ?_) hz (fun j => (ld_r gs g j).trans (hgs _)) j
  refine Group.rows_at hK g _ _ _ _ _ _ _ _ _ h H (fun s c => (act_at cv s c).trans (hcv s c)) (fun s c => (xs_at cv s c).trans (hcv s ⟨c.val, by omega⟩))
    hc (fun h t => (cumt_at dt tril al t h).trans (hc t h)) (fun h t => (dtt_at dt t h).trans (hd t h)) causal_at (fun l j => ?_) (one_at g e1 he1)
    (fun j => (ld_r dx g j).trans (hdx _)) hh t j
  rw [ld_e2, he2]
  refine if_congr ?_ rfl rfl
  rw [Fin.ext_iff]
  have : (g.val * 1024 + j.val) / 128 = g.val * 8 + j.val / 128 := by omega
  simp only [this]

include hK hcv hd ht ha he1 in
theorem outs_at (z : Vec Ideal S128x4096 .f32) (e2 : Vec Ideal S128x8192 .bf16) (dx gs : Vec Ideal S1x4096 .f32)
    (h : Fin 8 → Vec Ideal S1x128x512 .f32) (H : ℕ → ℕ → EReal)
    (he2 : ∀ (l : Fin 128) (j : Fin 8192), e2 (ix2 l j) = if l.val = j.val / 128 then (1 : EReal) else 0)
    (hdx : ∀ j : Fin 4096, dx (ix2 0 j) = K.k (j.val / 64))
    (hh : ∀ (g : Fin 8) (n : Fin 128) (j : Fin 512), h g (ix3 0 n j) = H (g.val * 512 + j.val) n) (t : Fin 128) (Z G : ℕ → EReal)
    (hz : ∀ j : Fin 4096, z (ix2 t j) = Z j) (hgs : ∀ j : Fin 4096, gs (ix2 0 j) = G j) (j : Fin 4096) :
    outs cv z dt tril al e2 e1 dx gs h (ix2 t j) = normed (K.y H t) Z G j.val := by
  have key : ∀ (g : Fin 8) (k : ℕ) (hk : k < 512), j.val = g.val * 512 + k → row g cv z dt tril al e2 e1 dx gs (h g) (ix2 t ⟨k, hk⟩) = normed (K.y H t) Z G j.val :=
    fun g k hk e => (row_at hK cv dt tril al e1 hcv hd ht ha he1 g z e2 dx gs (h g) H he2 hdx (hh g) t Z G hz hgs ⟨k, hk⟩).trans (by rw [e])
  unfold outs
  pointwise
  have hj := j.isLt
  repeat' split
  · exact key 0 _ _ (by simp)
  · exact key 1 _ _ (by simp; omega)
  · exact key 2 _ _ (by simp; omega)
  · exact key 3 _ _ (by simp; omega)
  · exact key 4 _ _ (by simp; omega)
  · exact key 5 _ _ (by simp; omega)
  · exact key 6 _ _ (by simp; omega)
  · exact key 7 _ _ (by simp; omega)

include hK hcv hd ht ha he1 in
theorem nxts_at (h : Fin 8 → Vec Ideal S1x128x512 .f32) (H : ℕ → ℕ → EReal)
    (hh : ∀ (g : Fin 8) (n : Fin 128) (j : Fin 512), h g (ix3 0 n j) = H (g.val * 512 + j.val) n) (g : Fin 8) (n : Fin 128) (j : Fin 512) :
    nxts cv dt tril al e1 h (ix3 g n j) = K.next H (g.val * 512 + j.val) n :=
  nxt_at hK cv dt tril al e1 hcv hd ht ha he1 g (h g) H (hh g) n j

include hK hcv hd ht ha he1 in
theorem lasts_at (h : Fin 8 → Vec Ideal S1x128x512 .f32) (H : ℕ → ℕ → EReal)
    (hh : ∀ (g : Fin 8) (n : Fin 128) (j : Fin 512), h g (ix3 0 n j) = H (g.val * 512 + j.val) n) (q p : Fin 64) (n : Fin 128) :
    lasts cv dt tril al e1 h (ix4 0 q p n) = K.next H (q.val * 64 + p.val) n := by
  refine (last_at _ ⟨q.val % 8, Nat.mod_lt _ (by decide)⟩ p n).trans ?_
  refine (nxt_at hK cv dt tril al e1 hcv hd ht ha he1 ⟨q.val / 8, by omega⟩ _ H (hh _) n _).trans ?_
  refine congrArg (fun i => K.next H i n) ?_
  dsimp only
  omega

end Cert.KernelIdeal.Ops
end
-- ==== Proof.PointA.lean ====
/- What the first grid point of a sequence of the kernel leaves, in the terms of the groups. -/
module

public import proofs.«01_k».proof.Proof.Held
public import proofs.«01_k».proof.Proof.Gen.KernelIdeal.Frame
public import Idealize.ShloMosaic.Lib.Pipeline.ValueKit
public import Idealize.ShloMosaic.Lib.Pipeline.ReadBack
public import Idealize.ShloMosaic.Lib.WritesUnit

@[expose] public section

set_option maxRecDepth 65536
set_option pp.deepTerms false
set_option pp.deepTerms.threshold 14
set_option maxHeartbeats 2000000

noncomputable section

open Idealize.ShloMosaic Idealize.ShloMosaic.TcCoe Idealize.SL.Sem

namespace Cert.KernelIdeal.Point

open Cert.KernelIdeal Cert.KernelIdeal.Gen

variable {F : FTy → Type} [FloatOps F]

variable (m : (ℓ : Loc nD τ sig) → Buf (Elt F) ℓ)

theorem ht_A (c : Dev nD) (t : Fin cfg0.N) (h0 : t.val % 32 = 0) (h1 : ¬t.val % 32 = 31) (y : S8x128x512.Idx) :
    (outsAt0 m c t.val t.isLt).2.2.2.1 y
      = nxts (conv (heldA m c t) (iblk m c 5 t) (iblk m c 6 t)) (k0_pay24 (iblk m c 2 t) (iblk m c 7 t)) (iblk m c 13 t) (iblk m c 8 t) (iblk m c 12 t)
          (first (iblk m c 4 t)) y := by
  rw [outsAt0_A m c t h0 h1]
  dsimp only
  frame_open
  simp (disch := decide) only [↓ View.readCov_skip, ↓ View.readCov_cons_toLoadRect, ↓ View.readCov_fill]
  frame_out
  try simp only [read_unread_whole]
  refine View.canon_append_of_piecesOf (nxts _ _ _ _ _ _) [_, _, _, _, _, _, _, _] [_, _, _, _, _, _, _, _] ?_ y ?_
  rotate_left
  · exact View.cover_of_tiledL (s := S8x128x512) _ S1x128x512.size (by sl_kernel_rfl) _
  refine ⟨?_, ?_, ?_, ?_, ?_, ?_, ?_, ?_, trivial⟩
  · exact nxts_piece 7 (in_h 7) _ _ _ _ _ _ _ rfl
  · exact nxts_piece 6 (in_h 6) _ _ _ _ _ _ _ rfl
  · exact nxts_piece 5 (in_h 5) _ _ _ _ _ _ _ rfl
  · exact nxts_piece 4 (in_h 4) _ _ _ _ _ _ _ rfl
  · exact nxts_piece 3 (in_h 3) _ _ _ _ _ _ _ rfl
  · exact nxts_piece 2 (in_h 2) _ _ _ _ _ _ _ rfl
  · exact nxts_piece 1 (in_h 1) _ _ _ _ _ _ _ rfl
  · exact nxts_piece 0 (in_h 0) _ _ _ _ _ _ _ rfl

theorem y_A (c : Dev nD) (t : Fin cfg0.N) (h0 : t.val % 32 = 0) (h1 : ¬t.val % 32 = 31) :
    (outsAt0 m c t.val t.isLt).1
      = outs (conv (heldA m c t) (iblk m c 5 t) (iblk m c 6 t)) (iblk m c 1 t) (k0_pay24 (iblk m c 2 t) (iblk m c 7 t)) (iblk m c 13 t) (iblk m c 8 t)
          (iblk m c 11 t) (iblk m c 12 t) (iblk m c 9 t) (iblk m c 10 t)
          (first (iblk m c 4 t)) := by
  rw [outsAt0_A m c t h0 h1]
  dsimp only
  frame_open
  simp (disch := decide) only [↓ View.readCov_skip, ↓ View.readCov_cons_toLoadRect, ↓ View.readCov_fill]
  frame_out
  try simp only [read_unread_whole]
  rfl

end Cert.KernelIdeal.Point
end
-- ==== Proof.PointB.lean ====
/- What a grid point after a sequence's first of the kernel leaves, in the terms of the groups. -/
module

public import proofs.«01_k».proof.Proof.Held
public import proofs.«01_k».proof.Proof.Gen.KernelIdeal.Frame
public import Idealize.ShloMosaic.Lib.Pipeline.ValueKit
public import Idealize.ShloMosaic.Lib.Pipeline.ReadBack
public import Idealize.ShloMosaic.Lib.WritesUnit

@[expose] public section

set_option maxRecDepth 65536
set_option pp.deepTerms false
set_option pp.deepTerms.threshold 14
set_option maxHeartbeats 4000000

noncomputable section

open Idealize.ShloMosaic Idealize.ShloMosaic.TcCoe Idealize.SL.Sem

namespace Cert.KernelIdeal.Point

open Cert.KernelIdeal Cert.KernelIdeal.Gen

variable {F : FTy → Type} [FloatOps F]

variable (m : (ℓ : Loc nD τ sig) → Buf (Elt F) ℓ)

theorem ht_B (c : Dev nD) (t : Fin cfg0.N) (h0 : ¬t.val % 32 = 0) (h1 : ¬t.val % 32 = 31) (y : S8x128x512.Idx) :
    (outsAt0 m c t.val t.isLt).2.2.2.1 y
      = nxts (conv (heldB m c t) (iblk m c 5 t) (iblk m c 6 t)) (k0_pay24 (iblk m c 2 t) (iblk m c 7 t)) (iblk m c 13 t) (iblk m c 8 t) (iblk m c 12 t)
          (slices (outsAt0 m c (t.val - 1) (by have := t.isLt; omega)).2.2.2.1) y := by
  rw [outsAt0_B m c t h0 h1]
  dsimp only
  frame_open
  simp (disch := decide) only [↓ View.readCov_skip, ↓ View.readCov_cons_toLoadRect, ↓ View.readCov_fill]
  frame_out
  try simp only [read_unread_whole]
  refine View.canon_append_of_piecesOf (nxts _ _ _ _ _ _) [] [_, _, _, _, _, _, _, _] ?_ y ?_
  rotate_left
  · exact View.cover_of_tiledL (s := S8x128x512) _ S1x128x512.size (by sl_kernel_rfl) _
  refine ⟨?_, ?_, ?_, ?_, ?_, ?_, ?_, ?_, trivial⟩
  · exact nxts_piece 7 (in_h 7) _ _ _ _ _ _ _ rfl
  · exact nxts_piece 6 (in_h 6) _ _ _ _ _ _ _ rfl
  · exact nxts_piece 5 (in_h 5) _ _ _ _ _ _ _ rfl
  · exact nxts_piece 4 (in_h 4) _ _ _ _ _ _ _ rfl
  · exact nxts_piece 3 (in_h 3) _ _ _ _ _ _ _ rfl
  · exact nxts_piece 2 (in_h 2) _ _ _ _ _ _ _ rfl
  · exact nxts_piece 1 (in_h 1) _ _ _ _ _ _ _ rfl
  · exact nxts_piece 0 (in_h 0) _ _ _ _ _ _ _ rfl

theorem y_B (c : Dev nD) (t : Fin cfg0.N) (h0 : ¬t.val % 32 = 0) (h1 : ¬t.val % 32 = 31) :
    (outsAt0 m c t.val t.isLt).1
      = outs (conv (heldB m c t) (iblk m c 5 t) (iblk m c 6 t)) (iblk m c 1 t) (k0_pay24 (iblk m c 2 t) (iblk m c 7 t)) (iblk m c 13 t) (iblk m c 8 t)
          (iblk m c 11 t) (iblk m c 12 t) (iblk m c 9 t) (iblk m c 10 t)
          (slices (outsAt0 m c (t.val - 1) (by have := t.isLt; omega)).2.2.2.1) := by
  rw [outsAt0_B m c t h0 h1]
  dsimp only
  frame_open
  simp (disch := decide) only [↓ View.readCov_skip, ↓ View.readCov_cons_toLoadRect, ↓ View.readCov_fill]
  frame_out
  try simp only [read_unread_whole]
  rfl

theorem y_C (c : Dev nD) (t : Fin cfg0.N) (h0 : ¬t.val % 32 = 0) (h1 : t.val % 32 = 31) :
    (outsAt0 m c t.val t.isLt).1
      = outs (conv (heldB m c t) (iblk m c 5 t) (iblk m c 6 t)) (iblk m c 1 t) (k0_pay24 (iblk m c 2 t) (iblk m c 7 t)) (iblk m c 13 t) (iblk m c 8 t)
          (iblk m c 11 t) (iblk m c 12 t) (iblk m c 9 t) (iblk m c 10 t)
          (slices (outsAt0 m c (t.val - 1) (by have := t.isLt; omega)).2.2.2.1) := by
  rw [outsAt0_C m c t h0 h1]
  dsimp only
  frame_open
  simp (disch := decide) only [↓ View.readCov_skip, ↓ View.readCov_cons_toLoadRect, ↓ View.readCov_fill]
  frame_out
  try simp only [read_unread_whole]
  rfl

theorem hf_C (c : Dev nD) (t : Fin cfg0.N) (h0 : ¬t.val % 32 = 0) (h1 : t.val % 32 = 31) (y : S1x64x64x128.Idx) :
    (outsAt0 m c t.val t.isLt).2.1 y
      = lasts (conv (heldB m c t) (iblk m c 5 t) (iblk m c 6 t)) (k0_pay24 (iblk m c 2 t) (iblk m c 7 t)) (iblk m c 13 t) (iblk m c 8 t) (iblk m c 12 t)
          (slices (outsAt0 m c (t.val - 1) (by have := t.isLt; omega)).2.2.2.1) y := by
  rw [outsAt0_C m c t h0 h1]
  dsimp only
  frame_open
  simp (disch := decide) only [↓ View.readCov_skip, ↓ View.readCov_cons_toLoadRect, ↓ View.readCov_fill]
  frame_out
  try simp only [read_unread_whole]
  refine View.canon_append_of_piecesOf (lasts _ _ _ _ _ _) [] [_, _, _, _, _, _, _, _] ?_ y ?_
  rotate_left
  · exact View.cover_of_tiledL (s := S1x64x64x128) _ S1x8x64x128.size (by sl_kernel_rfl) _
  refine ⟨?_, ?_, ?_, ?_, ?_, ?_, ?_, ?_, trivial⟩
  · exact lasts_piece 7 (in_0 7) _ _ _ _ _ _ _ rfl
  · exact lasts_piece 6 (in_0 6) _ _ _ _ _ _ _ rfl
  · exact lasts_piece 5 (in_0 5) _ _ _ _ _ _ _ rfl
  · exact lasts_piece 4 (in_0 4) _ _ _ _ _ _ _ rfl
  · exact lasts_piece 3 (in_0 3) _ _ _ _ _ _ _ rfl
  · exact lasts_piece 2 (in_0 2) _ _ _ _ _ _ _ rfl
  · exact lasts_piece 1 (in_0 1) _ _ _ _ _ _ _ rfl
  · exact lasts_piece 0 (in_0 0) _ _ _ _ _ _ _ rfl

end Cert.KernelIdeal.Point
end
-- ==== Proof.PointRows.lean ====
/- The input rows a grid point leaves. -/
module

public import proofs.«01_k».proof.Proof.Held
public import proofs.«01_k».proof.Proof.Gen.KernelIdeal.Frame
public import Idealize.ShloMosaic.Lib.Pipeline.ValueKit
public import Idealize.ShloMosaic.Lib.Pipeline.ReadBack
public import Idealize.ShloMosaic.Lib.WritesUnit

@[expose] public section

set_option maxRecDepth 65536
set_option pp.deepTerms false
set_option pp.deepTerms.threshold 14
set_option maxHeartbeats 400000

noncomputable section

open Idealize.ShloMosaic Idealize.ShloMosaic.TcCoe Idealize.SL.Sem

namespace Cert.KernelIdeal.Point

open Cert.KernelIdeal Cert.KernelIdeal.Gen

variable {F : FTy → Type} [FloatOps F]

/-- A store's rows read back from what was held before it. -/
theorem writes_at {k : ℕ} (o : ℕ) (inb : ∀ a, (![o, 0] : Fin 2 → ℕ) a + (![k, 6144] : Fin 2 → ℕ) a ≤ S136x6144.size a)
    (v : View sig .tc .vmem S136x6144 .f32) (f) (w : (Rect.unit ![o, 0] ![k, 6144] inb : Rect S136x6144).shape.Idx → Elt F .f32) (L : List (View.Piece (Elt F) S136x6144 .f32))
    (r : Fin 136) (ch : Fin 6144) (h : o ≤ r.val ∧ r.val < o + k) :
    v.read (Elt F) (v.writes (Elt F) f (⟨Rect.unit ![o, 0] ![k, 6144] inb, w⟩ :: L)) (ix2 r ch) = w (ix2 (⟨r.val - o, by omega⟩ : Fin k) ch) :=
  View.read_writes_cons_unit_of_mem v f inb w L _ _ rfl (fun a => by
    fin_cases a
    · show r.val = o + (r.val - o); omega
    · show ch.val = 0 + ch.val; omega)

variable (m : (ℓ : Loc nD τ sig) → Buf (Elt F) ℓ)

theorem cnew_C (c : Dev nD) (t : Fin cfg0.N) (h0 : ¬t.val % 32 = 0) (h1 : t.val % 32 = 31) (r : Fin 8) (ch : Fin 6144) :
    (outsAt0 m c t.val t.isLt).2.2.1 (ix3 0 r ch) = (iblk m c 0 t : Vec F S128x6144 .f32) (ix2 ⟨120 + r.val, by omega⟩ ch) := by
  rw [outsAt0_C m c t h0 h1]
  dsimp only
  frame_open
  simp (disch := decide) only [↓ View.readCov_skip, ↓ View.readCov_cons_toLoadRect, ↓ View.readCov_fill]
  frame_out
  try simp only [read_unread_whole]
  pointwise [k0_pay20]
  rw [readCov_at 128 _ _ _ _ _ (by omega), canon_at 8 _ _ _ _ _ ⟨by first | omega | (dsimp only; omega), by first | omega | (dsimp only; omega)⟩]
  pointwise [k0_pay18]
  exact congrArg (fun k : Fin 128 => iblk m c 0 t (ix2 k ch)) (Fin.ext (by first | omega | (dsimp only; omega)))

theorem cb_A (c : Dev nD) (t : Fin cfg0.N) (h0 : t.val % 32 = 0) (h1 : ¬t.val % 32 = 31) (r : Fin 3) (ch : Fin 6144) :
    (outsAt0 m c t.val t.isLt).2.2.2.2 (ix2 ⟨5 + r.val, by omega⟩ ch) = (iblk m c 0 t : Vec F S128x6144 .f32) (ix2 ⟨125 + r.val, by omega⟩ ch) := by
  rw [outsAt0_A m c t h0 h1]
  dsimp only
  frame_open
  simp (disch := decide) only [↓ View.readCov_skip, ↓ View.readCov_cons_toLoadRect, ↓ View.readCov_fill]
  frame_out
  try simp only [read_unread_whole]
  rw [canon_at 5 _ _ _ _ _ ⟨by first | omega | (dsimp only; omega), by first | omega | (dsimp only; omega)⟩]
  pointwise [k0_pay21]
  rw [readCov_at 133 _ _ _ _ _ (by first | omega | (dsimp only; omega)), canon_at 8 _ _ _ _ _ ⟨by first | omega | (dsimp only; omega), by first | omega | (dsimp only; omega)⟩]
  pointwise [k0_pay18]
  exact congrArg (fun k : Fin 128 => iblk m c 0 t (ix2 k ch)) (Fin.ext (by first | omega | (dsimp only; omega)))

theorem cb_B (c : Dev nD) (t : Fin cfg0.N) (h0 : ¬t.val % 32 = 0) (h1 : ¬t.val % 32 = 31) (r : Fin 3) (ch : Fin 6144) :
    (outsAt0 m c t.val t.isLt).2.2.2.2 (ix2 ⟨5 + r.val, by omega⟩ ch) = (iblk m c 0 t : Vec F S128x6144 .f32) (ix2 ⟨125 + r.val, by omega⟩ ch) := by
  rw [outsAt0_B m c t h0 h1]
  dsimp only
  frame_open
  simp (disch := decide) only [↓ View.readCov_skip, ↓ View.readCov_cons_toLoadRect, ↓ View.readCov_fill]
  frame_out
  try simp only [read_unread_whole]
  refine (writes_at 5 _ _ _ _ _ _ _ ⟨by dsimp only; omega, by dsimp only; omega⟩).trans ?_
  pointwise [k0_pay21]
  rw [readCov_at 133 _ _ _ _ _ (by first | omega | (dsimp only; omega)), canon_at 8 _ _ _ _ _ ⟨by first | omega | (dsimp only; omega), by first | omega | (dsimp only; omega)⟩]
  pointwise [k0_pay18]
  exact congrArg (fun k : Fin 128 => iblk m c 0 t (ix2 k ch)) (Fin.ext (by first | omega | (dsimp only; omega)))

end Cert.KernelIdeal.Point
end
-- ==== Proof.Host.lean ====
/- What the host prepares for the kernel, read at an index. -/
module

public import proofs.«01_k».proof.Proof.Held
public import Idealize.ShloMosaic.Lib.Claim

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.KernelIdeal.Host

open Cert.KernelIdeal Cert.KernelIdeal.Gen

theorem sitofp_zero : (FloatOps.sitofp (F := Ideal) FTy.f32 (0#32 : BitVec 32) : EReal) = 0 := by
  change (((0#32 : BitVec 32).toInt : ℝ) : EReal) = 0
  simp

theorem zero_bit : (FloatOps.uitofp (F := Ideal) FTy.bf16 (0#1 : BitVec 1) : EReal) = 0 := by
  change (((0#1 : BitVec 1).toNat : ℝ) : EReal) = 0
  simp

theorem one_bit : (FloatOps.uitofp (F := Ideal) FTy.bf16 (1#1 : BitVec 1) : EReal) = 1 := by
  change (((1#1 : BitVec 1).toNat : ℝ) : EReal) = 1
  simp

theorem ge_at : ∀ t s : Fin 128, IntOp.cmpi CmpIPredicate.sge (BitVec.ofNat 32 t.val) (BitVec.ofNat 32 s.val) = if s.val ≤ t.val then 1#1 else 0#1 := by decide +kernel

theorem eq_at : ∀ t s : Fin 128, IntOp.cmpi CmpIPredicate.eq (BitVec.ofNat 32 t.val) (BitVec.ofNat 32 s.val) = if t.val = s.val then 1#1 else 0#1 := by decide +kernel

theorem one_hot (t s : Fin 128) : (FloatOps.uitofp (F := Ideal) FTy.bf16 (IntOp.cmpi CmpIPredicate.eq (BitVec.ofNat 32 t.val) (BitVec.ofNat 32 s.val)) : EReal)
    = if t.val = s.val then 1 else 0 := by
  rw [eq_at]
  split
  · exact one_bit
  · exact zero_bit

theorem fdiv128 : ∀ j : Fin 8192, Scalar.select
    (IntOp.andi (IntOp.cmpi CmpIPredicate.ne (if BitVec.ofNat 32 j.val = (0 : BitVec 32) then (0 : BitVec 32) else if (BitVec.ofNat 32 j.val).msb = true then -1 else 1)
        (if 128#32 = (0 : BitVec 32) then (0 : BitVec 32) else if (128#32).msb = true then -1 else 1))
      (IntOp.cmpi CmpIPredicate.ne (IntOp.remsi ArithUnit.host (BitVec.ofNat 32 j.val) 128#32) 0#32))
    (IntOp.subi (IntOp.divsi ArithUnit.host (BitVec.ofNat 32 j.val) 128#32) 1#32)
    (IntOp.divsi ArithUnit.host (BitVec.ofNat 32 j.val) 128#32) = BitVec.ofNat 32 (j.val / 128) := by decide +kernel

theorem fdiv64 : ∀ j : Fin 4096, Scalar.select
    (IntOp.andi (IntOp.cmpi CmpIPredicate.ne (if BitVec.ofNat 32 j.val = (0 : BitVec 32) then (0 : BitVec 32) else if (BitVec.ofNat 32 j.val).msb = true then -1 else 1)
        (if 64#32 = (0 : BitVec 32) then (0 : BitVec 32) else if (64#32).msb = true then -1 else 1))
      (IntOp.cmpi CmpIPredicate.ne (IntOp.remsi ArithUnit.host (BitVec.ofNat 32 j.val) 64#32) 0#32))
    (IntOp.subi (IntOp.divsi ArithUnit.host (BitVec.ofNat 32 j.val) 64#32) 1#32)
    (IntOp.divsi ArithUnit.host (BitVec.ofNat 32 j.val) 64#32) = BitVec.ofNat 32 (j.val / 64) := by decide +kernel

variable (m : (ℓ : Loc nD τ sig) → Buf (Elt (F := Ideal)) ℓ) (c : Dev nD)

theorem h0_at (b : Fin 2) (h p : Fin 64) (n : Fin 128) : (V m c main_v0 : Vec Ideal S2x64x64x128 .f32) (ix4 b h p n) = (0 : EReal) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp -implicitDefEqProofs only [StableHlo.TRef.toBuf, StableHlo.TRef.ofBuf, cast_cast, cast_eq]
  pointwise

theorem cprev_at (b : Fin 2) (r : Fin 8) (ch : Fin 6144) : (V m c main_v2 : Vec Ideal S2x8x6144 .f32) (ix3 b r ch) = (0 : EReal) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp -implicitDefEqProofs only [StableHlo.TRef.toBuf, StableHlo.TRef.ofBuf, cast_cast, cast_eq]
  pointwise
  split
  · rfl
  · exact sitofp_zero

theorem e2_at (l : Fin 128) (j : Fin 8192) : (V m c main_v11 : Vec Ideal S128x8192 .bf16) (ix2 l j) = if l.val = j.val / 128 then (1 : EReal) else (0 : EReal) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp -implicitDefEqProofs only [StableHlo.TRef.toBuf, StableHlo.TRef.ofBuf, cast_cast, cast_eq]
  pointwise
  refine (congrArg (fun w => FloatOps.uitofp (F := Ideal) FTy.bf16 (IntOp.cmpi CmpIPredicate.eq (BitVec.ofNat 32 l.val) w)) (fdiv128 j)).trans ?_
  exact one_hot l ⟨j.val / 128, by omega⟩

theorem e1_at (l : Fin 128) (j : Fin 4096) : (V m c main_v20 : Vec Ideal S128x4096 .bf16) (ix2 l j) = if l.val = j.val / 64 then (1 : EReal) else (0 : EReal) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp -implicitDefEqProofs only [StableHlo.TRef.toBuf, StableHlo.TRef.ofBuf, cast_cast, cast_eq]
  pointwise
  refine (congrArg (fun w => FloatOps.uitofp (F := Ideal) FTy.bf16 (IntOp.cmpi CmpIPredicate.eq (BitVec.ofNat 32 l.val) w)) (fdiv64 j)).trans ?_
  exact one_hot l ⟨j.val / 64, by omega⟩

theorem tril_at (t s : Fin 128) : (V m c main_v28 : Vec Ideal S128x128 .bf16) (ix2 t s) = if s.val ≤ t.val then (1 : EReal) else (0 : EReal) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp -implicitDefEqProofs only [StableHlo.TRef.toBuf, StableHlo.TRef.ofBuf, cast_cast, cast_eq]
  pointwise
  rw [ge_at]
  split
  · exact one_bit
  · exact zero_bit

theorem dx_at (j : Fin 4096) : (V m c main_v31 : Vec Ideal S1x4096 .f32) (ix2 0 j)
    = (m ((c : Thread nD τ).loc main_arg7) : Vec Ideal S64 .f32) (ix1 ⟨j.val / 64, by omega⟩) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp -implicitDefEqProofs only [StableHlo.TRef.toBuf, StableHlo.TRef.ofBuf, cast_cast, cast_eq]
  pointwise

theorem bias_at (j : Fin 6144) : (V m c main_v32 : Vec Ideal S1x6144 .f32) (ix2 0 j)
    = (m ((c : Thread nD τ).loc main_arg4) : Vec Ideal S6144 .f32) (ix1 j) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp -implicitDefEqProofs only [StableHlo.TRef.toBuf, StableHlo.TRef.ofBuf, cast_cast, cast_eq]
  pointwise

theorem dtb_at (l : Fin 128) : (V m c main_v34 : Vec Ideal S1x128 .f32) (ix2 0 l)
    = if h : l.val < 64 then (m ((c : Thread nD τ).loc main_arg5) : Vec Ideal S64 .f32) (ix1 ⟨l.val, h⟩) else (0 : EReal) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp -implicitDefEqProofs only [StableHlo.TRef.toBuf, StableHlo.TRef.ofBuf, cast_cast, cast_eq]
  pointwise
  split
  · rfl
  · exact sitofp_zero

theorem alog_at (l : Fin 128) : (V m c main_v36 : Vec Ideal S1x128 .f32) (ix2 0 l)
    = if h : l.val < 64 then (m ((c : Thread nD τ).loc main_arg6) : Vec Ideal S64 .f32) (ix1 ⟨l.val, h⟩) else (0 : EReal) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp -implicitDefEqProofs only [StableHlo.TRef.toBuf, StableHlo.TRef.ofBuf, cast_cast, cast_eq]
  pointwise
  split
  · rfl
  · exact sitofp_zero

theorem gs_at (j : Fin 4096) : (V m c main_v37 : Vec Ideal S1x4096 .f32) (ix2 0 j)
    = (m ((c : Thread nD τ).loc main_arg8) : Vec Ideal S4096 .f32) (ix1 j) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  entry_read
  try simp -implicitDefEqProofs only [StableHlo.TRef.toBuf, StableHlo.TRef.ofBuf, cast_cast, cast_eq]
  pointwise

end Cert.KernelIdeal.Host
end
-- ==== Proof.Blocks.lean ====
/- The blocks a grid point reads, by the arrays. -/
module

public import proofs.«01_k».proof.Proof.Held
public import Idealize.ShloMosaic.Lib.Claim

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.KernelIdeal.Blocks

open Cert.KernelIdeal Cert.KernelIdeal.Gen

variable {F : FTy → Type} [FloatOps F]

variable (m : (ℓ : Loc nD τ sig) → Buf (Elt F) ℓ) (c : Dev nD) (t : Fin cfg0.N)

/-- The index maps, closed: the chunk's row of blocks, the sequence, or the whole array. -/
theorem idx : ∀ t : Fin grid0.N, win0_0.index t 0 = t.val ∧ win0_0.index t 1 = 0 ∧ win0_1.index t 0 = t.val ∧ win0_1.index t 1 = 0
    ∧ win0_2.index t 0 = t.val ∧ win0_2.index t 1 = 0 ∧ (win0_3.index t 0 = t.val / 32 ∧ win0_3.index t 1 = 0 ∧ win0_3.index t 2 = 0)
    ∧ (win0_4.index t 0 = t.val / 32 ∧ win0_4.index t 1 = 0 ∧ win0_4.index t 2 = 0 ∧ win0_4.index t 3 = 0)
    ∧ (win0_5.index t 0 = 0 ∧ win0_5.index t 1 = 0) ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0) ∧ (win0_10.index t 0 = 0 ∧ win0_10.index t 1 = 0)
    ∧ (win0_11.index t 0 = 0 ∧ win0_11.index t 1 = 0) ∧ (win0_12.index t 0 = 0 ∧ win0_12.index t 1 = 0) ∧ (win0_13.index t 0 = 0 ∧ win0_13.index t 1 = 0) :=
  by decide +kernel

theorem xbc (r : Fin 128) (ch : Fin 6144) : (iblk m c 0 t : Vec F S128x6144 .f32) (ix2 r ch)
    = (m ((c : Thread nD τ).loc main_arg0) : Vec F S8320x6144 .f32) (ix2 ⟨t.val * 128 + r.val, by have : t.val < 64 := t.isLt; omega⟩ ch) := by
  rw [← V_main_arg0 m c]
  blk_point [iblk, idx t]

theorem z (r : Fin 128) (ch : Fin 4096) : (iblk m c 1 t : Vec F S128x4096 .f32) (ix2 r ch)
    = (m ((c : Thread nD τ).loc main_arg1) : Vec F S8320x4096 .f32) (ix2 ⟨t.val * 128 + r.val, by have : t.val < 64 := t.isLt; omega⟩ ch) := by
  rw [← V_main_arg1 m c]
  blk_point [iblk, idx t]

theorem dt (r : Fin 128) (ch : Fin 128) : (iblk m c 2 t : Vec F S128x128 .f32) (ix2 r ch)
    = (m ((c : Thread nD τ).loc main_arg2) : Vec F S8320x128 .f32) (ix2 ⟨t.val * 128 + r.val, by have : t.val < 64 := t.isLt; omega⟩ ch) := by
  rw [← V_main_arg2 m c]
  blk_point [iblk, idx t]

theorem cprev (r : Fin 8) (ch : Fin 6144) : (iblk m c 3 t : Vec F S1x8x6144 .f32) (ix3 0 r ch)
    = (V m c main_v2 : Vec F S2x8x6144 .f32) (ix3 ⟨t.val / 32, by have : t.val < 64 := t.isLt; omega⟩ r ch) := by
  blk_point [iblk, idx t]

theorem h0 (h p : Fin 64) (n : Fin 128) : (iblk m c 4 t : Vec F S1x64x64x128 .f32) (ix4 0 h p n)
    = (V m c main_v0 : Vec F S2x64x64x128 .f32) (ix4 ⟨t.val / 32, by have : t.val < 64 := t.isLt; omega⟩ h p n) := by
  blk_point [iblk, idx t]

theorem w (r : Fin 4) (ch : Fin 6144) : (iblk m c 5 t : Vec F S4x6144 .f32) (ix2 r ch)
    = (m ((c : Thread nD τ).loc main_arg3) : Vec F S4x6144 .f32) (ix2 r ch) := by
  rw [← V_main_arg3 m c]
  blk_point [iblk, idx t]

theorem bias (ch : Fin 6144) : (iblk m c 6 t : Vec F S1x6144 .f32) (ix2 0 ch) = (V m c main_v32 : Vec F S1x6144 .f32) (ix2 0 ch) := by
  blk_point [iblk, idx t]
theorem dtb (ch : Fin 128) : (iblk m c 7 t : Vec F S1x128 .f32) (ix2 0 ch) = (V m c main_v34 : Vec F S1x128 .f32) (ix2 0 ch) := by
  blk_point [iblk, idx t]
theorem alog (ch : Fin 128) : (iblk m c 8 t : Vec F S1x128 .f32) (ix2 0 ch) = (V m c main_v36 : Vec F S1x128 .f32) (ix2 0 ch) := by
  blk_point [iblk, idx t]
theorem dx (ch : Fin 4096) : (iblk m c 9 t : Vec F S1x4096 .f32) (ix2 0 ch) = (V m c main_v31 : Vec F S1x4096 .f32) (ix2 0 ch) := by
  blk_point [iblk, idx t]
theorem gs (ch : Fin 4096) : (iblk m c 10 t : Vec F S1x4096 .f32) (ix2 0 ch) = (V m c main_v37 : Vec F S1x4096 .f32) (ix2 0 ch) := by
  blk_point [iblk, idx t]
theorem e2 (l : Fin 128) (ch : Fin 8192) : (iblk m c 11 t : Vec F S128x8192 .bf16) (ix2 l ch) = (V m c main_v11 : Vec F S128x8192 .bf16) (ix2 l ch) := by
  blk_point [iblk, idx t]
theorem e1 (l : Fin 128) (ch : Fin 4096) : (iblk m c 12 t : Vec F S128x4096 .bf16) (ix2 l ch) = (V m c main_v20 : Vec F S128x4096 .bf16) (ix2 l ch) := by
  blk_point [iblk, idx t]
theorem tril (l : Fin 128) (ch : Fin 128) : (iblk m c 13 t : Vec F S128x128 .bf16) (ix2 l ch) = (V m c main_v28 : Vec F S128x128 .bf16) (ix2 l ch) := by
  blk_point [iblk, idx t]

end Cert.KernelIdeal.Blocks
end
-- ==== Proof.Chunks.lean ====
/- The grid's points one after another: what each holds and writes back, as the recurrence over the sequence. -/
module

public import proofs.«01_k».proof.Proof.Seq
public import proofs.«01_k».proof.Proof.PointAt
public import proofs.«01_k».proof.Proof.PointA
public import proofs.«01_k».proof.Proof.PointB
public import proofs.«01_k».proof.Proof.PointRows
public import proofs.«01_k».proof.Proof.Host
public import proofs.«01_k».proof.Proof.Blocks

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.KernelIdeal.Chunks

open Cert.KernelIdeal Cert.KernelIdeal.Gen Cert.KernelIdeal.Point Cert.Spec

variable (m : (ℓ : Loc nD τ sig) → Buf (Elt Ideal) ℓ) (c : Dev nD)

/-- The program's arguments, as numbers by their coordinates. -/
def args : Args :=
  Args.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

variable (t : Fin cfg0.N)

/-- The point's chunk. -/
def chunk : Chunk := (args m c).chunk (t.val / 32) (t.val % 32)

theorem x_at (r : Fin 128) (ch : Fin 6144) : (iblk m c 0 t : Vec Ideal S128x6144 .f32) (ix2 r ch) = (args m c).X (t.val * 128 + r.val) ch :=
  (Blocks.xbc m c t r ch).trans (at2_mk _ _ _)

theorem z_at (r : Fin 128) (ch : Fin 4096) : (iblk m c 1 t : Vec Ideal S128x4096 .f32) (ix2 r ch) = (args m c).Z (t.val * 128 + r.val) ch :=
  (Blocks.z m c t r ch).trans (at2_mk _ _ _)

theorem w_at (r : Fin 4) (ch : Fin 6144) : (iblk m c 5 t : Vec Ideal S4x6144 .f32) (ix2 r ch) = (args m c).W r ch :=
  (Blocks.w m c t r ch).trans (at2_mk _ _ _)

theorem bias_at (ch : Fin 6144) : (iblk m c 6 t : Vec Ideal S1x6144 .f32) (ix2 0 ch) = (args m c).B ch :=
  ((Blocks.bias m c t ch).trans (Host.bias_at m c ch)).trans (at1_mk _ _)

theorem gs_at (ch : Fin 4096) : (iblk m c 10 t : Vec Ideal S1x4096 .f32) (ix2 0 ch) = (args m c).gs ch :=
  ((Blocks.gs m c t ch).trans (Host.gs_at m c ch)).trans (at1_mk _ _)

theorem dx_at (j : Fin 4096) : (iblk m c 9 t : Vec Ideal S1x4096 .f32) (ix2 0 j) = (chunk m c t).k (j.val / 64) :=
  ((Blocks.dx m c t j).trans (Host.dx_at m c j)).trans (at1_mk _ _)

theorem e1_at (l : Fin 128) (j : Fin 4096) : (iblk m c 12 t : Vec Ideal S128x4096 .bf16) (ix2 l j) = if l.val = j.val / 64 then (1 : EReal) else 0 :=
  (Blocks.e1 m c t l j).trans (Host.e1_at m c l j)

theorem e2_at (l : Fin 128) (j : Fin 8192) : (iblk m c 11 t : Vec Ideal S128x8192 .bf16) (ix2 l j) = if l.val = j.val / 128 then (1 : EReal) else 0 :=
  (Blocks.e2 m c t l j).trans (Host.e2_at m c l j)

theorem tril_at (r s : Fin 128) : (iblk m c 13 t : Vec Ideal S128x128 .bf16) (ix2 r s) = if s.val ≤ r.val then (1 : EReal) else 0 :=
  (Blocks.tril m c t r s).trans (Host.tril_at m c r s)

theorem a_at (h : Fin 128) : -Ideal.exp ((iblk m c 8 t : Vec Ideal S1x128 .f32) (ix2 0 h)) = (chunk m c t).a h :=
  congrArg (fun x : EReal => -Ideal.exp x) ((Blocks.alog m c t h).trans (Host.alog_at m c h))

theorem d_at (s h : Fin 128) : k0_pay24 (iblk m c 2 t) (iblk m c 7 t) (ix2 s h) = (chunk m c t).d s h := by
  refine (Ops.dt_at _ _ s h).trans ?_
  unfold chunk Args.chunk
  dsimp only
  by_cases hh : h.val < 64
  · rw [if_pos hh, if_pos hh, if_pos s.isLt]
    refine congrArg softplus (congrArg₂ (fun x y : EReal => x + y) ((Blocks.dt m c t s h).trans ((at2_mk _ _ _).trans ?_)) ?_)
    · have e : t.val * 128 + s.val = t.val / 32 * 4096 + t.val % 32 * 128 + s.val := by omega
      exact congrArg (fun i => (args m c).D i h) e
    · exact (Blocks.dtb m c t h).trans (Host.dtb_at m c h)
  · rw [if_neg hh, if_neg hh]

theorem conv_at (cb : Vec Ideal S136x6144 .f32)
    (hh : ∀ (i : ℕ) (hi : i < 131) (ch : Fin 6144), cb (ix2 ⟨5 + i, by omega⟩ ch) = (args m c).pre (t.val / 32) (t.val % 32 * 128 + i) ch)
    (s : Fin 128) (ch : Fin 6144) :
    conv cb (iblk m c 5 t) (iblk m c 6 t) (ix2 s ch) = (args m c).conv (t.val / 32) (t.val % 32 * 128 + s.val) ch := by
  have hs := s.isLt
  have h0 := hh s.val (by omega) ch
  have h1 := hh (s.val + 1) (by omega) ch
  have h2 := hh (s.val + 2) (by omega) ch
  have h3 := hh (s.val + 3) (by omega) ch
  have e1 : (⟨5 + (s.val + 1), by omega⟩ : Fin 136) = ⟨6 + s.val, by omega⟩ := Fin.ext (by dsimp only; omega)
  have e2 : (⟨5 + (s.val + 2), by omega⟩ : Fin 136) = ⟨7 + s.val, by omega⟩ := Fin.ext (by dsimp only; omega)
  have e3 : (⟨5 + (s.val + 3), by omega⟩ : Fin 136) = ⟨8 + s.val, by omega⟩ := Fin.ext (by dsimp only; omega)
  rw [e1] at h1
  rw [e2] at h2
  rw [e3] at h3
  rw [Ops.conv_at, h0, h1, h2, h3, bias_at m c t, w_at m c t, w_at m c t, w_at m c t, w_at m c t]
  rfl

theorem act_at (cb : Vec Ideal S136x6144 .f32)
    (hh : ∀ (i : ℕ) (hi : i < 131) (ch : Fin 6144), cb (ix2 ⟨5 + i, by omega⟩ ch) = (args m c).pre (t.val / 32) (t.val % 32 * 128 + i) ch)
    (s : Fin 128) (ch : Fin 6144) :
    conv cb (iblk m c 5 t) (iblk m c 6 t) (ix2 s ch) * Ideal.logistic (conv cb (iblk m c 5 t) (iblk m c 6 t) (ix2 s ch)) = (chunk m c t).x s ch := by
  rw [conv_at m c t cb hh]
  rfl

theorem first_at (g : Fin 8) (n : Fin 128) (j : Fin 512) : first (iblk m c 4 t) g (ix3 0 n j) = (args m c).st (t.val / 32) 0 (g.val * 512 + j.val) n :=
  (Ops.first_at _ g n j).trans ((Blocks.h0 m c t _ _ n).trans (Host.h0_at m c _ _ _ n))

/-- What is held after a chunk that is not a sequence's last. -/
structure Inv (n : ℕ) (hn : n < cfg0.N) : Prop where
  ht : ∀ (g : Fin 8) (i : Fin 128) (j : Fin 512),
    (outsAt0 m c n hn).2.2.2.1 (ix3 g i j) = (args m c).st (n / 32) (n % 32 + 1) (g.val * 512 + j.val) i
  cb : ∀ (r : Fin 3) (ch : Fin 6144), (outsAt0 m c n hn).2.2.2.2 (ix2 ⟨5 + r.val, by omega⟩ ch) = (args m c).X (n * 128 + 125 + r.val) ch

theorem heldA_pre (h0 : t.val % 32 = 0) (i : ℕ) (hi : i < 131) (ch : Fin 6144) :
    heldA m c t (ix2 ⟨5 + i, by omega⟩ ch) = (args m c).pre (t.val / 32) (t.val % 32 * 128 + i) ch := by
  rw [heldA_at]
  unfold Args.pre
  by_cases h3 : i < 3
  · rw [dif_neg (show ¬8 ≤ 5 + i by omega), if_pos (by omega)]
    exact (Blocks.cprev m c t _ ch).trans (Host.cprev_at m c _ _ ch)
  · rw [dif_pos (show 8 ≤ 5 + i by omega), if_neg (by omega), x_at]
    refine congrArg (fun r => (args m c).X r ch) ?_
    dsimp only
    omega

theorem heldB_pre (h0 : ¬t.val % 32 = 0) (hI : Inv m c (t.val - 1) (by have := t.isLt; omega)) (i : ℕ) (hi : i < 131) (ch : Fin 6144) :
    heldB m c t (ix2 ⟨5 + i, by omega⟩ ch) = (args m c).pre (t.val / 32) (t.val % 32 * 128 + i) ch := by
  rw [heldB_at]
  unfold Args.pre
  by_cases h3 : i < 3
  · rw [dif_neg (show ¬8 ≤ 5 + i by omega), if_neg (by omega)]
    refine (hI.cb ⟨i, h3⟩ ch).trans (congrArg (fun r => (args m c).X r ch) ?_)
    dsimp only
    omega
  · rw [dif_pos (show 8 ≤ 5 + i by omega), if_neg (by omega), x_at]
    refine congrArg (fun r => (args m c).X r ch) ?_
    dsimp only
    omega

theorem slices_at (h0 : ¬t.val % 32 = 0) (hI : Inv m c (t.val - 1) (by have := t.isLt; omega)) (g : Fin 8) (n : Fin 128) (j : Fin 512) :
    slices (outsAt0 m c (t.val - 1) (by have := t.isLt; omega)).2.2.2.1 g (ix3 0 n j) = (args m c).st (t.val / 32) (t.val % 32) (g.val * 512 + j.val) n := by
  refine (Ops.slices_at _ g n j).trans ((hI.ht g n j).trans ?_)
  have e1 : (t.val - 1) / 32 = t.val / 32 := by omega
  have e2 : (t.val - 1) % 32 + 1 = t.val % 32 := by omega
  rw [e1, e2]

variable (hA : (args m c).Ok)

include hA in
theorem chunk_ok : (chunk m c t).Ok := hA.chunk (by have : t.val < 64 := t.isLt; omega) (Nat.mod_lt _ (by decide))

include hA in
theorem inv (n : ℕ) (hn : n < cfg0.N) (h31 : ¬n % 32 = 31) : Inv m c n hn := by
  induction n with
  | zero =>
    have t0 : (⟨0, hn⟩ : Fin cfg0.N).val % 32 = 0 := rfl
    constructor
    · intro g i j
      refine (ht_A m c ⟨0, hn⟩ t0 h31 _).trans ?_
      exact Ops.nxts_at (chunk_ok m c _ hA) _ _ _ _ _ (act_at m c _ _ (heldA_pre m c _ t0)) (d_at m c _) (tril_at m c _) (a_at m c _) (e1_at m c _) _ _ (first_at m c _) g i j
    · intro r ch
      exact (cb_A m c ⟨0, hn⟩ t0 h31 r ch).trans ((x_at m c _ _ ch).trans (congrArg (fun r => (args m c).X r ch) (Nat.add_assoc _ _ _).symm))
  | succ n ih =>
    by_cases h0 : (n + 1) % 32 = 0
    · constructor
      · intro g i j
        refine (ht_A m c ⟨n + 1, hn⟩ h0 h31 _).trans ?_
        refine (Ops.nxts_at (chunk_ok m c _ hA) _ _ _ _ _ (act_at m c _ _ (heldA_pre m c _ h0)) (d_at m c _) (tril_at m c _) (a_at m c _) (e1_at m c _) _ _ (first_at m c _) g i j).trans ?_
        unfold chunk
        dsimp only
        rw [h0]
        rfl
      · intro r ch
        exact (cb_A m c ⟨n + 1, hn⟩ h0 h31 r ch).trans ((x_at m c _ _ ch).trans (congrArg (fun r => (args m c).X r ch) (Nat.add_assoc _ _ _).symm))
    · have hI := ih (Nat.lt_of_succ_lt hn) (by omega)
      constructor
      · intro g i j
        refine (ht_B m c ⟨n + 1, hn⟩ h0 h31 _).trans ?_
        exact Ops.nxts_at (chunk_ok m c _ hA) _ _ _ _ _ (act_at m c _ _ (heldB_pre m c ⟨n + 1, hn⟩ h0 hI)) (d_at m c _) (tril_at m c _) (a_at m c _) (e1_at m c _) _ _ (slices_at m c ⟨n + 1, hn⟩ h0 hI) g i j
      · intro r ch
        exact (cb_B m c ⟨n + 1, hn⟩ h0 h31 r ch).trans ((x_at m c _ _ ch).trans (congrArg (fun r => (args m c).X r ch) (Nat.add_assoc _ _ _).symm))

include hA in
theorem inv_before (h0 : ¬t.val % 32 = 0) : Inv m c (t.val - 1) (by have := t.isLt; omega) := inv m c hA _ _ (by omega)

include hA in
/-- The rows a point writes back. -/
theorem y_at (r : Fin 128) (j : Fin 4096) : (outsAt0 m c t.val t.isLt).1 (ix2 r j)
    = normed ((chunk m c t).y ((args m c).st (t.val / 32) (t.val % 32)) r) ((args m c).Z (t.val * 128 + r.val)) (args m c).gs j := by
  by_cases h0 : t.val % 32 = 0
  · rw [y_A m c t h0 (by omega)]
    refine (Ops.outs_at (chunk_ok m c t hA) _ _ _ _ _ (act_at m c t _ (heldA_pre m c t h0)) (d_at m c t) (tril_at m c t) (a_at m c t) (e1_at m c t) _ _ _ _ _ _
      (e2_at m c t) (dx_at m c t) (first_at m c t) r _ _ (z_at m c t r) (gs_at m c t) j).trans ?_
    rw [h0]
  · have hI := inv_before m c t hA h0
    by_cases h1 : t.val % 32 = 31
    · rw [y_C m c t h0 h1]
      exact Ops.outs_at (chunk_ok m c t hA) _ _ _ _ _ (act_at m c t _ (heldB_pre m c t h0 hI)) (d_at m c t) (tril_at m c t) (a_at m c t) (e1_at m c t) _ _ _ _ _ _
        (e2_at m c t) (dx_at m c t) (slices_at m c t h0 hI) r _ _ (z_at m c t r) (gs_at m c t) j
    · rw [y_B m c t h0 h1]
      exact Ops.outs_at (chunk_ok m c t hA) _ _ _ _ _ (act_at m c t _ (heldB_pre m c t h0 hI)) (d_at m c t) (tril_at m c t) (a_at m c t) (e1_at m c t) _ _ _ _ _ _
        (e2_at m c t) (dx_at m c t) (slices_at m c t h0 hI) r _ _ (z_at m c t r) (gs_at m c t) j

include hA in
/-- The state a sequence's last point writes back. -/
theorem hf_at (h1 : t.val % 32 = 31) (q p : Fin 64) (n : Fin 128) :
    (outsAt0 m c t.val t.isLt).2.1 (ix4 0 q p n) = (args m c).st (t.val / 32) 32 (q.val * 64 + p.val) n := by
  have h0 : ¬t.val % 32 = 0 := by omega
  have hI := inv_before m c t hA h0
  refine (hf_C m c t h0 h1 _).trans ?_
  refine (Ops.lasts_at (chunk_ok m c t hA) _ _ _ _ _ (act_at m c t _ (heldB_pre m c t h0 hI)) (d_at m c t) (tril_at m c t) (a_at m c t) (e1_at m c t) _ _
    (slices_at m c t h0 hI) q p n).trans ?_
  unfold chunk
  rw [h1]
  rfl

/-- The rows a sequence's last point writes back. -/
theorem cnew_at (h1 : t.val % 32 = 31) (r : Fin 8) (ch : Fin 6144) :
    (outsAt0 m c t.val t.isLt).2.2.1 (ix3 0 r ch) = (args m c).X (t.val * 128 + 120 + r.val) ch :=
  (cnew_C m c t (by omega) h1 r ch).trans ((x_at m c _ _ ch).trans (congrArg (fun r => (args m c).X r ch) (Nat.add_assoc _ _ _).symm))

end Cert.KernelIdeal.Chunks
end
-- ==== Proof.KernelOut.lean ====
/- The arrays the program ends with, as the recurrence over the sequences. -/
module

public import proofs.«01_k».proof.Proof.Chunks
public import proofs.«01_k».proof.Proof.Gen.KernelIdeal.Value

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.KernelIdeal.Chunks

open Cert.KernelIdeal Cert.KernelIdeal.Gen Cert.KernelIdeal.Value Cert.Spec

variable (m : (ℓ : Loc nD τ sig) → Buf (Elt Ideal) ℓ) (c : Dev nD) (hA : (args m c).Ok)

include hA in
theorem out_y (R : Fin 8320) (hR : R.val < 8192) (j : Fin 4096) : (G14 m c : Vec Ideal S8320x4096 .bf16) (ix2 R j) = (args m c).yOut R j := by
  have key : ∀ (n : ℕ) (hn : n < cfg0.N) (x : S128x4096.Idx), n = R.val / 128 → x = ix2 ⟨R.val % 128, Nat.mod_lt _ (by decide)⟩ j →
      (outsAt0 m c n hn).1 x = (args m c).yOut R j := by
    rintro n hn x hn' rfl
    refine (y_at m c ⟨n, hn⟩ hA _ j).trans ?_
    unfold chunk Args.yOut
    dsimp only
    have e1 : n / 32 = R.val / 4096 := by omega
    have e2 : n % 32 = R.val % 4096 / 128 := by omega
    have e3 : n * 128 + R.val % 128 = R.val := by omega
    rw [e1, e2, e3]
  have hn : pt14Of (ix2 R j) = R.val / 128 := by
    change 1 * (R.val / 128 - 0) + 1 * (j.val / 4096 - 0) = _
    omega
  have hl : pt14Of (ix2 R j) < cfg0.N := by
    rw [hn]
    change _ < 64
    omega
  unfold G14
  rw [dif_pos hl]
  refine (congrArg (fun s => s.1 (loc14Of (ix2 R j))) (outsAt0_sweep m c _ hl).symm).trans ?_
  refine key _ _ _ hn (funext fun a => ?_)
  fin_cases a
  · rfl
  · exact Fin.ext (Nat.mod_eq_of_lt j.isLt)

include hA in
theorem out_h (b : Fin 2) (q p : Fin 64) (n : Fin 128) :
    (G15 m c : Vec Ideal S2x64x64x128 .f32) (ix4 b q p n) = (args m c).st b 32 (q.val * 64 + p.val) n := by
  have key : ∀ (k : ℕ) (hk : k < cfg0.N) (x : S1x64x64x128.Idx), k = 32 * b.val + 31 → x = ix4 0 q p n →
      (outsAt0 m c k hk).2.1 x = (args m c).st b 32 (q.val * 64 + p.val) n := by
    rintro k hk x hk' rfl
    refine (hf_at m c ⟨k, hk⟩ hA (by dsimp only; omega) q p n).trans ?_
    have e1 : k / 32 = b.val := by omega
    dsimp only
    rw [e1]
  have hn : pt15Of (ix4 b q p n) = 32 * b.val + 31 := by
    change 32 * (1 * (b.val / 1 - 0) + 1 * (q.val / 64 - 0) + 1 * (p.val / 64 - 0) + 1 * (n.val / 128 - 0)) + 31 = _
    omega
  have hl : pt15Of (ix4 b q p n) < cfg0.N := by
    rw [hn]
    change _ < 64
    omega
  unfold G15
  rw [dif_pos hl]
  refine (congrArg (fun s => s.2.1 (loc15Of (ix4 b q p n))) (outsAt0_sweep m c _ hl).symm).trans ?_
  refine key _ _ _ hn (funext fun a => ?_)
  fin_cases a
  · exact Fin.ext (Nat.mod_one _)
  · exact Fin.ext (Nat.mod_eq_of_lt q.isLt)
  · exact Fin.ext (Nat.mod_eq_of_lt p.isLt)
  · exact Fin.ext (Nat.mod_eq_of_lt n.isLt)

theorem out_rows (b : Fin 2) (r : Fin 8) (ch : Fin 6144) :
    (G16 m c : Vec Ideal S2x8x6144 .f32) (ix3 b r ch) = (args m c).X (b.val * 4096 + 4088 + r.val) ch := by
  have key : ∀ (k : ℕ) (hk : k < cfg0.N) (x : S1x8x6144.Idx), k = 32 * b.val + 31 → x = ix3 0 r ch →
      (outsAt0 m c k hk).2.2.1 x = (args m c).X (b.val * 4096 + 4088 + r.val) ch := by
    rintro k hk x hk' rfl
    refine (cnew_at m c ⟨k, hk⟩ (by dsimp only; omega) r ch).trans (congrArg (fun r => (args m c).X r ch) ?_)
    dsimp only
    omega
  have hn : pt16Of (ix3 b r ch) = 32 * b.val + 31 := by
    change 32 * (1 * (b.val / 1 - 0) + 1 * (r.val / 8 - 0) + 1 * (ch.val / 6144 - 0)) + 31 = _
    omega
  have hl : pt16Of (ix3 b r ch) < cfg0.N := by
    rw [hn]
    change _ < 64
    omega
  unfold G16
  rw [dif_pos hl]
  refine (congrArg (fun s => s.2.2.1 (loc16Of (ix3 b r ch))) (outsAt0_sweep m c _ hl).symm).trans ?_
  refine key _ _ _ hn (funext fun a => ?_)
  fin_cases a
  · exact Fin.ext (Nat.mod_one _)
  · exact Fin.ext (Nat.mod_eq_of_lt r.isLt)
  · exact Fin.ext (Nat.mod_eq_of_lt ch.isLt)

end Cert.KernelIdeal.Chunks
end
-- ==== Proof.RefCum.lean ====
/- A running sum along the rows of a chunk, read at an index. -/
module

public import proofs.«01_k».proof.Proof.Spec

@[expose] public section

set_option maxRecDepth 16384

noncomputable section

namespace Cert.RefCum

open Idealize.ShloMosaic

theorem foldl_add {α : Type} (f : α → EReal) (l : List α) (v : EReal) : l.foldl (fun r a => r + f a) v = v + (l.map f).sum := by
  induction l generalizing v with
  | nil => simp
  | cons a l ih => simp only [List.foldl_cons, List.map_cons, List.sum_cons]; rw [ih, add_assoc]

theorem shift (t : Fin 128) (x : ℕ → EReal) :
    ∑ w : Fin 128, (if 127 ≤ t.val + w.val then x (t.val + w.val - 127) else 0) = ∑ s : Fin 128, if s.val ≤ t.val then x s.val else 0 := by
  rw [← Finset.sum_filter, ← Finset.sum_filter]
  refine Finset.sum_nbij' (fun w => (⟨(t.val + w.val - 127) % 128, Nat.mod_lt _ (by decide)⟩ : Fin 128))
    (fun s => (⟨(s.val + 127 - t.val) % 128, Nat.mod_lt _ (by decide)⟩ : Fin 128)) ?_ ?_ ?_ ?_ ?_
  · intro w hw
    have hw := (Finset.mem_filter.1 hw).2
    refine Finset.mem_filter.2 ⟨Finset.mem_univ _, ?_⟩
    dsimp only
    omega
  · intro s hs
    have hs := (Finset.mem_filter.1 hs).2
    refine Finset.mem_filter.2 ⟨Finset.mem_univ _, ?_⟩
    dsimp only
    omega
  · intro w hw
    have hw := (Finset.mem_filter.1 hw).2
    exact Fin.ext (by dsimp only; omega)
  · intro s hs
    have hs := (Finset.mem_filter.1 hs).2
    exact Fin.ext (by dsimp only; omega)
  · intro w hw
    have hw := (Finset.mem_filter.1 hw).2
    exact congrArg x (by dsimp only; omega)

theorem cumsum_at (x : FVec Ideal ⟨4, ![2, 128, 8, 8]⟩ .f32) {u : Shape} (init : u.Idx → EReal) (hu : 0 < u.numel) (hi : init (Shape.Idx.first hu) = 0)
    (h : (⟨4, ![2, 128, 8, 8]⟩ : Shape).ReduceWindows ![1, 128, 1, 1] ![1, 1, 1, 1] ![0, 127, 0, 0] ![0, 0, 0, 0] ⟨4, ![2, 128, 8, 8]⟩)
    (b : Fin 2) (t : Fin 128) (g q : Fin 8) :
    Host.reduceWindowAdd (F := Ideal) ![1, 128, 1, 1] ![1, 1, 1, 1] ![0, 127, 0, 0] ![0, 0, 0, 0] x init h hu (ix4 b t g q)
      = ∑ s : Fin 128, if s.val ≤ t.val then x (ix4 b s g q) else 0 := by
  change (List.finRange _).foldl _ (init (Shape.Idx.first hu)) = _
  rw [foldl_add, ← Fin.sum_univ_def, hi, zero_add]
  refine Eq.trans (Equiv.sum_comp (Shape.rowMajor ⟨4, ![1, 128, 1, 1]⟩).symm (fun i : (⟨4, ![1, 128, 1, 1]⟩ : Shape).Idx =>
    @dite EReal (∀ a : Fin 4, (![0, 127, 0, 0] : Fin 4 → ℕ) a ≤ ((ix4 b t g q : (⟨4, ![2, 128, 8, 8]⟩ : Shape).Idx) a).val * (![1, 1, 1, 1] : Fin 4 → ℕ) a + (i a).val
        ∧ ((ix4 b t g q : (⟨4, ![2, 128, 8, 8]⟩ : Shape).Idx) a).val * (![1, 1, 1, 1] : Fin 4 → ℕ) a + (i a).val - (![0, 127, 0, 0] : Fin 4 → ℕ) a < (![2, 128, 8, 8] : Fin 4 → ℕ) a)
      (Nat.decidableForallFin _) (fun hin => x (fun a => ⟨_, (hin a).2⟩)) (fun _ => (0 : EReal)))) ?_
  rw [sum_idx4]
  simp only [Finset.univ_unique, Finset.sum_singleton]
  refine Eq.trans ?_ (shift t fun s => if hs : s < 128 then x (ix4 b ⟨s, hs⟩ g q) else 0) |>.trans ?_
  · refine Finset.sum_congr rfl fun w _ => ?_
    have ht := t.isLt
    have hw := w.isLt
    by_cases h' : 127 ≤ t.val + w.val
    · rw [if_pos h', dif_pos (show t.val + w.val - 127 < 128 by omega), dif_pos]
      · refine congrArg x ?_
        funext a
        fin_cases a <;> refine Fin.ext ?_ <;> simp [ix4]
      · intro a
        fin_cases a <;> simp [ix4] <;> omega
    · rw [if_neg h', dif_neg]
      intro hh
      have := (hh 1).1
      simp [ix4] at this
      omega
  · refine Finset.sum_congr rfl fun s _ => ?_
    rw [dif_pos s.isLt]

end Cert.RefCum
end
-- ==== Proof.RefRead.lean ====
/- One chunk of the reference's scan. -/
module

public import proofs.«01_k».proof.Proof.RefCum
public import proofs.«01_k».proof.Proof.Gen.ReferenceIdeal.Run

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.ReferenceIdeal.Step

open Cert.ReferenceIdeal Cert.ReferenceIdeal.Value Cert.Spec

theorem toInt_chunk : ∀ k : Fin 32, (BitVec.ofNat 32 k.val).toInt = (k.val : ℤ) := by decide +kernel

/-- One chunk out of the stacked chunks. -/
theorem take_x {α : Type} (k : Fin 32) (x : S32x2x128x8x8x64.Idx → α) (st : Fin 6 → ℤ) (h : S32x2x128x8x8x64.Slices (fun _ => 0) S1x2x128x8x8x64) (hc : S1x2x128x8x8x64.ShapeCasts S2x128x8x8x64)
    (h0 : st 0 = (k.val : ℤ)) (hz : ∀ a : Fin 6, a ≠ 0 → st a = 0) (b : Fin 2) (t : Fin 128) (g : Fin 8) (q : Fin 8) (p : Fin 64) :
    shapeCast S2x128x8x8x64 (Host.dynamicSlice S1x2x128x8x8x64 x st h) hc (ix5 b t g q p) = x (ix6 k b t g q p) := by
  have c0 : Host.clampedStart S32x2x128x8x8x64 S1x2x128x8x8x64 h.1 st 0 = k.val := Host.clampedStart_of_le _ _ 0 k.val h0 (by have := k.isLt; change k.val + 1 ≤ 32; omega)
  have c1 : Host.clampedStart S32x2x128x8x8x64 S1x2x128x8x8x64 h.1 st 1 = 0 := Host.clampedStart_of_le _ _ 1 0 (hz 1 (by decide)) (Nat.le_refl 2)
  have c2 : Host.clampedStart S32x2x128x8x8x64 S1x2x128x8x8x64 h.1 st 2 = 0 := Host.clampedStart_of_le _ _ 2 0 (hz 2 (by decide)) (Nat.le_refl 128)
  have c3 : Host.clampedStart S32x2x128x8x8x64 S1x2x128x8x8x64 h.1 st 3 = 0 := Host.clampedStart_of_le _ _ 3 0 (hz 3 (by decide)) (Nat.le_refl 8)
  have c4 : Host.clampedStart S32x2x128x8x8x64 S1x2x128x8x8x64 h.1 st 4 = 0 := Host.clampedStart_of_le _ _ 4 0 (hz 4 (by decide)) (Nat.le_refl 8)
  have c5 : Host.clampedStart S32x2x128x8x8x64 S1x2x128x8x8x64 h.1 st 5 = 0 := Host.clampedStart_of_le _ _ 5 0 (hz 5 (by decide)) (Nat.le_refl 64)
  have e : shapeCast S2x128x8x8x64 (Host.dynamicSlice S1x2x128x8x8x64 x st h) hc (ix5 b t g q p) = Host.dynamicSlice S1x2x128x8x8x64 x st h (ix6 0 b t g q p) := by
    generalize Host.dynamicSlice S1x2x128x8x8x64 x st h = y
    pointwise
  refine e.trans (congrArg x (funext fun a => Fin.ext ?_))
  change Host.clampedStart S32x2x128x8x8x64 S1x2x128x8x8x64 h.1 st a + ((ix6 0 b t g q p : S1x2x128x8x8x64.Idx) a).val = _
  fin_cases a
  · exact (congrArg (· + 0) c0).trans (Nat.add_zero _)
  · exact (congrArg (· + b.val) c1).trans (Nat.zero_add _)
  · exact (congrArg (· + t.val) c2).trans (Nat.zero_add _)
  · exact (congrArg (· + g.val) c3).trans (Nat.zero_add _)
  · exact (congrArg (· + q.val) c4).trans (Nat.zero_add _)
  · exact (congrArg (· + p.val) c5).trans (Nat.zero_add _)

/-- One chunk put into the stacked chunks. -/
theorem put_x {α : Type} (k : Fin 32) (x : S32x2x128x8x8x64.Idx → α) (u : S1x2x128x8x8x64.Idx → α) (st : Fin 6 → ℤ) (h : S32x2x128x8x8x64.Slices (fun _ => 0) S1x2x128x8x8x64)
    (h0 : st 0 = (k.val : ℤ)) (hz : ∀ a : Fin 6, a ≠ 0 → st a = 0) (k' : Fin 32) (b : Fin 2) (t : Fin 128) (g : Fin 8) (q : Fin 8) (p : Fin 64) :
    Host.dynamicUpdateSlice x u st h (ix6 k' b t g q p) = if k' = k then u (ix6 0 b t g q p) else x (ix6 k' b t g q p) := by
  have c0 : Host.clampedStart S32x2x128x8x8x64 S1x2x128x8x8x64 h.1 st 0 = k.val := Host.clampedStart_of_le _ _ 0 k.val h0 (by have := k.isLt; change k.val + 1 ≤ 32; omega)
  have c1 : Host.clampedStart S32x2x128x8x8x64 S1x2x128x8x8x64 h.1 st 1 = 0 := Host.clampedStart_of_le _ _ 1 0 (hz 1 (by decide)) (Nat.le_refl 2)
  have c2 : Host.clampedStart S32x2x128x8x8x64 S1x2x128x8x8x64 h.1 st 2 = 0 := Host.clampedStart_of_le _ _ 2 0 (hz 2 (by decide)) (Nat.le_refl 128)
  have c3 : Host.clampedStart S32x2x128x8x8x64 S1x2x128x8x8x64 h.1 st 3 = 0 := Host.clampedStart_of_le _ _ 3 0 (hz 3 (by decide)) (Nat.le_refl 8)
  have c4 : Host.clampedStart S32x2x128x8x8x64 S1x2x128x8x8x64 h.1 st 4 = 0 := Host.clampedStart_of_le _ _ 4 0 (hz 4 (by decide)) (Nat.le_refl 8)
  have c5 : Host.clampedStart S32x2x128x8x8x64 S1x2x128x8x8x64 h.1 st 5 = 0 := Host.clampedStart_of_le _ _ 5 0 (hz 5 (by decide)) (Nat.le_refl 64)
  rw [Host.dynamicUpdateSlice_apply]
  split
  · rename_i hin
    have h1 : Host.clampedStart S32x2x128x8x8x64 S1x2x128x8x8x64 h.1 st 0 ≤ k'.val ∧ k'.val < Host.clampedStart S32x2x128x8x8x64 S1x2x128x8x8x64 h.1 st 0 + 1 := hin 0
    rw [c0] at h1
    have e : k' = k := Fin.ext (by omega)
    subst e
    rw [if_pos rfl]
    refine congrArg u (funext fun a => Fin.ext ?_)
    change ((ix6 k' b t g q p : S32x2x128x8x8x64.Idx) a).val - Host.clampedStart S32x2x128x8x8x64 S1x2x128x8x8x64 h.1 st a = _
    fin_cases a
    · exact (congrArg (k'.val - ·) c0).trans (Nat.sub_self _)
    · exact (congrArg (b.val - ·) c1).trans (Nat.sub_zero _)
    · exact (congrArg (t.val - ·) c2).trans (Nat.sub_zero _)
    · exact (congrArg (g.val - ·) c3).trans (Nat.sub_zero _)
    · exact (congrArg (q.val - ·) c4).trans (Nat.sub_zero _)
    · exact (congrArg (p.val - ·) c5).trans (Nat.sub_zero _)
  · rename_i hin
    rw [if_neg]
    rintro rfl
    refine hin fun a => ?_
    change Host.clampedStart S32x2x128x8x8x64 S1x2x128x8x8x64 h.1 st a ≤ ((ix6 k' b t g q p : S32x2x128x8x8x64.Idx) a).val ∧ ((ix6 k' b t g q p : S32x2x128x8x8x64.Idx) a).val < Host.clampedStart S32x2x128x8x8x64 S1x2x128x8x8x64 h.1 st a + S1x2x128x8x8x64.size a
    fin_cases a
    · exact ⟨c0.le, by rw [show Host.clampedStart S32x2x128x8x8x64 S1x2x128x8x8x64 h.1 st (⟨0, by decide⟩ : Fin 6) = k'.val from c0]; exact Nat.lt_succ_self _⟩
    · exact ⟨c1.le.trans (Nat.zero_le _), lt_of_lt_of_le b.isLt (Nat.le_add_left _ _)⟩
    · exact ⟨c2.le.trans (Nat.zero_le _), lt_of_lt_of_le t.isLt (Nat.le_add_left _ _)⟩
    · exact ⟨c3.le.trans (Nat.zero_le _), lt_of_lt_of_le g.isLt (Nat.le_add_left _ _)⟩
    · exact ⟨c4.le.trans (Nat.zero_le _), lt_of_lt_of_le q.isLt (Nat.le_add_left _ _)⟩
    · exact ⟨c5.le.trans (Nat.zero_le _), lt_of_lt_of_le p.isLt (Nat.le_add_left _ _)⟩

/-- One chunk out of the stacked chunks. -/
theorem take_d {α : Type} (k : Fin 32) (x : S32x2x128x8x8.Idx → α) (st : Fin 5 → ℤ) (h : S32x2x128x8x8.Slices (fun _ => 0) S1x2x128x8x8) (hc : S1x2x128x8x8.ShapeCasts S2x128x8x8)
    (h0 : st 0 = (k.val : ℤ)) (hz : ∀ a : Fin 5, a ≠ 0 → st a = 0) (b : Fin 2) (t : Fin 128) (g : Fin 8) (q : Fin 8) :
    shapeCast S2x128x8x8 (Host.dynamicSlice S1x2x128x8x8 x st h) hc (ix4 b t g q) = x (ix5 k b t g q) := by
  have c0 : Host.clampedStart S32x2x128x8x8 S1x2x128x8x8 h.1 st 0 = k.val := Host.clampedStart_of_le _ _ 0 k.val h0 (by have := k.isLt; change k.val + 1 ≤ 32; omega)
  have c1 : Host.clampedStart S32x2x128x8x8 S1x2x128x8x8 h.1 st 1 = 0 := Host.clampedStart_of_le _ _ 1 0 (hz 1 (by decide)) (Nat.le_refl 2)
  have c2 : Host.clampedStart S32x2x128x8x8 S1x2x128x8x8 h.1 st 2 = 0 := Host.clampedStart_of_le _ _ 2 0 (hz 2 (by decide)) (Nat.le_refl 128)
  have c3 : Host.clampedStart S32x2x128x8x8 S1x2x128x8x8 h.1 st 3 = 0 := Host.clampedStart_of_le _ _ 3 0 (hz 3 (by decide)) (Nat.le_refl 8)
  have c4 : Host.clampedStart S32x2x128x8x8 S1x2x128x8x8 h.1 st 4 = 0 := Host.clampedStart_of_le _ _ 4 0 (hz 4 (by decide)) (Nat.le_refl 8)
  have e : shapeCast S2x128x8x8 (Host.dynamicSlice S1x2x128x8x8 x st h) hc (ix4 b t g q) = Host.dynamicSlice S1x2x128x8x8 x st h (ix5 0 b t g q) := by
    generalize Host.dynamicSlice S1x2x128x8x8 x st h = y
    pointwise
  refine e.trans (congrArg x (funext fun a => Fin.ext ?_))
  change Host.clampedStart S32x2x128x8x8 S1x2x128x8x8 h.1 st a + ((ix5 0 b t g q : S1x2x128x8x8.Idx) a).val = _
  fin_cases a
  · exact (congrArg (· + 0) c0).trans (Nat.add_zero _)
  · exact (congrArg (· + b.val) c1).trans (Nat.zero_add _)
  · exact (congrArg (· + t.val) c2).trans (Nat.zero_add _)
  · exact (congrArg (· + g.val) c3).trans (Nat.zero_add _)
  · exact (congrArg (· + q.val) c4).trans (Nat.zero_add _)

/-- One chunk out of the stacked chunks. -/
theorem take_b {α : Type} (k : Fin 32) (x : S32x2x128x8x128.Idx → α) (st : Fin 5 → ℤ) (h : S32x2x128x8x128.Slices (fun _ => 0) S1x2x128x8x128) (hc : S1x2x128x8x128.ShapeCasts S2x128x8x128)
    (h0 : st 0 = (k.val : ℤ)) (hz : ∀ a : Fin 5, a ≠ 0 → st a = 0) (b : Fin 2) (t : Fin 128) (g : Fin 8) (n : Fin 128) :
    shapeCast S2x128x8x128 (Host.dynamicSlice S1x2x128x8x128 x st h) hc (ix4 b t g n) = x (ix5 k b t g n) := by
  have c0 : Host.clampedStart S32x2x128x8x128 S1x2x128x8x128 h.1 st 0 = k.val := Host.clampedStart_of_le _ _ 0 k.val h0 (by have := k.isLt; change k.val + 1 ≤ 32; omega)
  have c1 : Host.clampedStart S32x2x128x8x128 S1x2x128x8x128 h.1 st 1 = 0 := Host.clampedStart_of_le _ _ 1 0 (hz 1 (by decide)) (Nat.le_refl 2)
  have c2 : Host.clampedStart S32x2x128x8x128 S1x2x128x8x128 h.1 st 2 = 0 := Host.clampedStart_of_le _ _ 2 0 (hz 2 (by decide)) (Nat.le_refl 128)
  have c3 : Host.clampedStart S32x2x128x8x128 S1x2x128x8x128 h.1 st 3 = 0 := Host.clampedStart_of_le _ _ 3 0 (hz 3 (by decide)) (Nat.le_refl 8)
  have c4 : Host.clampedStart S32x2x128x8x128 S1x2x128x8x128 h.1 st 4 = 0 := Host.clampedStart_of_le _ _ 4 0 (hz 4 (by decide)) (Nat.le_refl 128)
  have e : shapeCast S2x128x8x128 (Host.dynamicSlice S1x2x128x8x128 x st h) hc (ix4 b t g n) = Host.dynamicSlice S1x2x128x8x128 x st h (ix5 0 b t g n) := by
    generalize Host.dynamicSlice S1x2x128x8x128 x st h = y
    pointwise
  refine e.trans (congrArg x (funext fun a => Fin.ext ?_))
  change Host.clampedStart S32x2x128x8x128 S1x2x128x8x128 h.1 st a + ((ix5 0 b t g n : S1x2x128x8x128.Idx) a).val = _
  fin_cases a
  · exact (congrArg (· + 0) c0).trans (Nat.add_zero _)
  · exact (congrArg (· + b.val) c1).trans (Nat.zero_add _)
  · exact (congrArg (· + t.val) c2).trans (Nat.zero_add _)
  · exact (congrArg (· + g.val) c3).trans (Nat.zero_add _)
  · exact (congrArg (· + n.val) c4).trans (Nat.zero_add _)

variable (V0 : Valuation τ sig (Elt Ideal)) (k : Fin 32) (hk : V0 (Proc.devRef .tc main_v59_7) = fun _ => BitVec.ofNat 32 k.val)

include hk in
theorem x_at (b : Fin 2) (t : Fin 128) (g q : Fin 8) (p : Fin 64) :
    (res_main_while0b_v90 V0 : Vec Ideal S2x128x8x8x64 .f32) (ix5 b t g q p) = (V0 (Proc.devRef .tc main_v59_0) : Vec Ideal S32x2x128x8x8x64 .f32) (ix6 k b t g q p) := by
  unfold res_main_while0b_v90
  rw [hk]
  exact take_x k _ _ _ _ (toInt_chunk k) (fun a => by fin_cases a <;> first | exact fun h => absurd rfl h | exact fun _ => rfl) b t g q p

include hk in
theorem d_at (b : Fin 2) (t : Fin 128) (g q : Fin 8) :
    (res_main_while0b_v91 V0 : Vec Ideal S2x128x8x8 .f32) (ix4 b t g q) = (V0 (Proc.devRef .tc main_v59_1) : Vec Ideal S32x2x128x8x8 .f32) (ix5 k b t g q) := by
  unfold res_main_while0b_v91
  rw [hk]
  exact take_d k _ _ _ _ (toInt_chunk k) (fun a => by fin_cases a <;> first | exact fun h => absurd rfl h | exact fun _ => rfl) b t g q

include hk in
theorem b_at (b : Fin 2) (t : Fin 128) (g : Fin 8) (n : Fin 128) :
    (res_main_while0b_v92 V0 : Vec Ideal S2x128x8x128 .f32) (ix4 b t g n) = (V0 (Proc.devRef .tc main_v59_2) : Vec Ideal S32x2x128x8x128 .f32) (ix5 k b t g n) := by
  unfold res_main_while0b_v92
  rw [hk]
  exact take_b k _ _ _ _ (toInt_chunk k) (fun a => by fin_cases a <;> first | exact fun h => absurd rfl h | exact fun _ => rfl) b t g n

include hk in
theorem c_at (b : Fin 2) (t : Fin 128) (g : Fin 8) (n : Fin 128) :
    (res_main_while0b_v93 V0 : Vec Ideal S2x128x8x128 .f32) (ix4 b t g n) = (V0 (Proc.devRef .tc main_v59_3) : Vec Ideal S32x2x128x8x128 .f32) (ix5 k b t g n) := by
  unfold res_main_while0b_v93
  rw [hk]
  exact take_b k _ _ _ _ (toInt_chunk k) (fun a => by fin_cases a <;> first | exact fun h => absurd rfl h | exact fun _ => rfl) b t g n

end Cert.ReferenceIdeal.Step
end
-- ==== Proof.RefStep.lean ====
/- The recurrence of the reference's scan, at an index. -/
module

public import proofs.«01_k».proof.Proof.RefRead
public import proofs.«01_k».proof.Proof.Gen.ReferenceIdeal.Run

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.ReferenceIdeal.Step

open Cert.ReferenceIdeal Cert.ReferenceIdeal.Value Cert.Spec

variable (V0 : Valuation τ sig (Elt Ideal)) (k : Fin 32) (hk : V0 (Proc.devRef .tc main_v59_7) = fun _ => BitVec.ofNat 32 k.val)

variable (K : ℕ → Chunk) (H : ℕ → ℕ → ℕ → EReal)
    (hX : ∀ (b : Fin 2) (t : Fin 128) (g q : Fin 8) (p : Fin 64), (res_main_while0b_v90 V0 : Vec Ideal S2x128x8x8x64 .f32) (ix5 b t g q p) = (K b).x t ((g.val * 8 + q.val) * 64 + p.val))
    (hD : ∀ (b : Fin 2) (t : Fin 128) (g q : Fin 8), (res_main_while0b_v91 V0 : Vec Ideal S2x128x8x8 .f32) (ix4 b t g q) = (K b).d t (g.val * 8 + q.val))
    (hB : ∀ (b : Fin 2) (t : Fin 128) (g : Fin 8) (n : Fin 128), (res_main_while0b_v92 V0 : Vec Ideal S2x128x8x128 .f32) (ix4 b t g n) = (K b).x t (4096 + g.val * 128 + n.val))
    (hC : ∀ (b : Fin 2) (t : Fin 128) (g : Fin 8) (n : Fin 128), (res_main_while0b_v93 V0 : Vec Ideal S2x128x8x128 .f32) (ix4 b t g n) = (K b).x t (5120 + g.val * 128 + n.val))
    (hA : ∀ (b : Fin 2) (g q : Fin 8), (V0 (Proc.devRef .tc main_v59_4) : Vec Ideal S8x8 .f32) (ix2 g q) = (K b).a (g.val * 8 + q.val))
    (hH : ∀ (b : Fin 2) (g q : Fin 8) (p : Fin 64) (n : Fin 128), (V0 (Proc.devRef .tc main_v59_8) : Vec Ideal S2x8x8x64x128 .f32) (ix5 b g q p n) = H b ((g.val * 8 + q.val) * 64 + p.val) n)

include hD hA in
theorem cum_eq (b : Fin 2) (t : Fin 128) (g q : Fin 8) :
    (res_main_while0b_v97 V0 : Vec Ideal S2x128x8x8 .f32) (ix4 b t g q) = (K b).cum t (g.val * 8 + q.val) := by
  unfold res_main_while0b_v97
  refine (Cert.RefCum.cumsum_at _ _ _ ?_ _ b t g q).trans ?_
  · pointwise
  · unfold Chunk.cum
    refine Finset.sum_congr rfl fun s _ => ?_
    pointwise
    rw [hD, hA b]

include hX hD hB hA hH in
theorem next_at (b : Fin 2) (g q : Fin 8) (p : Fin 64) (n : Fin 128) :
    (step_main_v59_8 V0 : Vec Ideal S2x8x8x64x128 .f32) (ix5 b g q p n) = (K b).next (H b) ((g.val * 8 + q.val) * 64 + p.val) n := by
  have hc := cum_eq V0 K hD hA
  unfold step_main_v59_8
  dsimp only [id]
  pointwise
  have e1 : ((g.val * 8 + q.val) * 64 + p.val) / 64 = g.val * 8 + q.val := by omega
  have e2 : ((g.val * 8 + q.val) * 64 + p.val) / 512 = g.val := by omega
  unfold Chunk.next
  rw [e1, e2]
  refine congrArg₂ (fun x y : EReal => x + y) (congrArg₂ (fun x y : EReal => x * y) (hH b g q p n) ?_) (Finset.sum_congr rfl fun s _ => ?_)
  · exact congrArg Ideal.exp (hc b 127 g q)
  · rw [hX, hB, hD, hc b 127, hc b s]
    exact (mul_comm _ _).trans (congrArg (fun x : EReal => _ * x) (mul_comm _ _))

include hX hD hB hC hA hH hk in
theorem ys_at (hT : ∀ t s : Fin 128, (V0 (Proc.devRef .tc main_v59_5) : IVec S128x128 1) (ix2 t s) = if s.val ≤ t.val then 1#1 else 0#1)
    (hS : ∀ (b : Fin 2) (h : Fin 64), (V0 (Proc.devRef .tc main_v59_6) : Vec Ideal S64 .f32) (ix1 h) = (K b).k h)
    (k' : Fin 32) (b : Fin 2) (t : Fin 128) (g q : Fin 8) (p : Fin 64) :
    (step_main_v59_9 V0 : Vec Ideal S32x2x128x8x8x64 .f32) (ix6 k' b t g q p)
      = if k' = k then (K b).y (H b) t ((g.val * 8 + q.val) * 64 + p.val)
        else (V0 (Proc.devRef .tc main_v59_9) : Vec Ideal S32x2x128x8x8x64 .f32) (ix6 k' b t g q p) := by
  have hc := cum_eq V0 K hD hA
  unfold step_main_v59_9
  rw [hk]
  dsimp only [id]
  refine (put_x k _ _ _ _ (toInt_chunk k) (fun a => by fin_cases a <;> first | exact fun h => absurd rfl h | exact fun _ => rfl) k' b t g q p).trans ?_
  refine if_congr Iff.rfl ?_ rfl
  pointwise
  have e1 : ((g.val * 8 + q.val) * 64 + p.val) / 64 = g.val * 8 + q.val := by omega
  have e2 : ((g.val * 8 + q.val) * 64 + p.val) / 512 = g.val := by omega
  have e3 : (g.val * 8 + q.val) / 8 = g.val := by omega
  unfold Chunk.y Chunk.w Chunk.cb
  rw [e1, e2, e3]
  refine congrArg₂ (fun x y : EReal => x + y) (congrArg₂ (fun x y : EReal => x + y) (Finset.sum_congr rfl fun s _ => ?_)
    (congrArg₂ (fun x y : EReal => x * y) (Finset.sum_congr rfl fun n _ => ?_) ?_)) ?_
  · rw [hX, hD, hc, hc, hT]
    refine (mul_comm _ _).trans (congrArg₂ (fun x y : EReal => x * y) (congrArg₂ (fun x y : EReal => x * y)
      (congrArg₂ (fun x y : EReal => x * y) (Finset.sum_congr rfl fun n _ => ?_) ?_) rfl) rfl)
    · rw [hB, hC]
      exact mul_comm _ _
    · split
      · rfl
      · rfl
  · rw [hH, hC]
    exact mul_comm _ _
  · rw [hc]
  · rw [hX]
    exact congrArg (fun x : EReal => x * _) (hS b ⟨g.val * 8 + q.val, by omega⟩)

end Cert.ReferenceIdeal.Step
end
-- ==== Proof.RefEntry.lean ====
/- What the reference's scan starts from. -/
module

public import proofs.«01_k».proof.Proof.Seq
public import proofs.«01_k».proof.Proof.Gen.ReferenceIdeal.Run

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.ReferenceIdeal.Step

open Cert.ReferenceIdeal Cert.ReferenceIdeal.Gen Cert.ReferenceIdeal.Value Cert.Spec
open Idealize.ShloMosaic.StableHlo Idealize.ShloMosaic.Tactic

variable (m : (ℓ : Loc nD τ sig) → Buf (Elt Ideal) ℓ) (c : Dev nD)

/-- The program's arguments, as numbers by their coordinates. -/
def args : Args :=
  Args.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem a_in (g q : Fin 8) :
    (entryContents preI m c (Proc.devRef .tc main_v59_4) : Vec Ideal S8x8 .f32) (ix2 g q) = -Ideal.exp ((args m c).al (g.val * 8 + q.val)) := by
  simp only [entryContents, afterL_cons, afterL_nil]
  after_reads_simp
  dsimp only [id]
  pointwise
  exact congrArg (fun x => -Ideal.exp x) (at1_mk _ _)

theorem s_in (h : Fin 64) :
    (entryContents preI m c (Proc.devRef .tc main_v59_6) : Vec Ideal S64 .f32) (ix1 h) = (args m c).dk h := by
  simp only [entryContents, afterL_cons, afterL_nil]
  after_reads_simp
  exact at1_mk _ _

theorem h_in (b : Fin 2) (g q : Fin 8) (p : Fin 64) (n : Fin 128) :
    (entryContents preI m c (Proc.devRef .tc main_v59_8) : Vec Ideal S2x8x8x64x128 .f32) (ix5 b g q p n) = (0 : EReal) := by
  simp only [entryContents, afterL_cons, afterL_nil]
  after_reads_simp
  dsimp only [id]
  pointwise

theorem sge_select : ∀ t s : Fin 128,
    Scalar.select (IntOp.cmpi CmpIPredicate.sge (IntOp.addi (BitVec.ofNat 32 t.val) 0#32) (BitVec.ofNat 32 s.val)) 1#1 0#1
      = if s.val ≤ t.val then 1#1 else 0#1 := by decide +kernel

theorem causal_in (t s : Fin 128) :
    (entryContents preI m c (Proc.devRef .tc main_v59_5) : IVec S128x128 1) (ix2 t s) = if s.val ≤ t.val then 1#1 else 0#1 := by
  simp only [entryContents, afterL_cons, afterL_nil]
  after_reads_simp
  simp -implicitDefEqProofs only [StableHlo.TRef.toBuf, StableHlo.TRef.ofBuf, cast_cast, cast_eq]
  dsimp only [id]
  pointwise
  exact sge_select t s

/-! ## The convolution's rows -/

theorem zeros_read (b : Fin 2) (r : Fin 3) (ch : Fin 6144) :
    (upto hostOps0 (launchContents m c) 6 (Proc.devRef .tc main_v4) : Vec Ideal S2x3x6144 .f32) (ix3 b r ch) = (0 : EReal) := by
  unfold upto
  simp only [hostOps0, List.take_succ_cons, List.take_zero]
  after_reads_simp
  pointwise

theorem rows_read (b : Fin 2) (r : Fin 4096) (ch : Fin 6144) :
    (upto hostOps0 (launchContents m c) 6 (Proc.devRef .tc main_v1) : Vec Ideal S2x4096x6144 .f32) (ix3 b r ch) = (args m c).X (b.val * 4096 + r.val) ch := by
  unfold upto
  simp only [hostOps0, List.take_succ_cons, List.take_zero]
  after_reads_simp
  pointwise
  exact at2_mk _ _ _

/-- A row of the sequence behind the three rows of zeros. -/
theorem tap (b : Fin 2) (i j : ℕ) (hij : i = j) (hi : i - 3 < 4096) (ch : Fin 6144) :
    (if h : i < 3 then (upto hostOps0 (launchContents m c) 6 (Proc.devRef .tc main_v4) : Vec Ideal S2x3x6144 .f32) (ix3 b ⟨i, h⟩ ch)
      else (upto hostOps0 (launchContents m c) 6 (Proc.devRef .tc main_v1) : Vec Ideal S2x4096x6144 .f32) (ix3 b ⟨i - 3, hi⟩ ch))
      = (args m c).pre b j ch := by
  subst hij
  unfold Args.pre
  split
  · exact zeros_read m c b _ ch
  · exact rows_read m c b _ ch

theorem last_tap (b : Fin 2) (r : Fin 4096) (ch : Fin 6144) :
    (upto hostOps0 (launchContents m c) 6 (Proc.devRef .tc main_v1) : Vec Ideal S2x4096x6144 .f32) (ix3 b r ch) = (args m c).pre b (r.val + 3) ch := by
  unfold Args.pre
  rw [if_neg (by omega), show r.val + 3 - 3 = r.val by omega]
  exact rows_read m c b r ch

theorem conv_of {B B' p0 p1 p2 p3 w0 w1 w2 w3 p0' p1' p2' p3' w0' w1' w2' w3' : EReal} (hB : B = B') (h0 : p0 = p0') (h1 : p1 = p1') (h2 : p2 = p2')
    (h3 : p3 = p3') (k0 : w0 = w0') (k1 : w1 = w1') (k2 : w2 = w2') (k3 : w3 = w3') :
    B + p0 * w0 + p1 * w1 + p2 * w2 + p3 * w3 = B' + (((p0' * w0' + p1' * w1') + p2' * w2') + p3' * w3') := by
  subst hB h0 h1 h2 h3 k0 k1 k2 k3
  rw [add_assoc, add_assoc, add_assoc, add_assoc, add_assoc]

theorem act_of {u v : EReal} (h : u = v) : u * Ideal.div 1 (1 + Ideal.exp (-u)) = v * Ideal.logistic v := by
  subst h
  rfl

theorem act_in (b : Fin 2) (r : Fin 4096) (ch : Fin 6144) :
    (entryContents preI m c (Proc.devRef .tc main_v36) : Vec Ideal S2x4096x6144 .f32) (ix3 b r ch) = (args m c).act b r ch := by
  simp only [entryContents, afterL_cons, afterL_nil]
  after_reads_simp
  simp -implicitDefEqProofs only [StableHlo.TRef.toBuf, StableHlo.TRef.ofBuf, cast_cast, cast_eq]
  pointwise
  refine act_of ?_
  exact conv_of (at1_mk _ _) (tap m c b _ _ rfl (by omega) ch) (tap m c b _ _ (Nat.add_comm _ _) (by omega) ch) (tap m c b _ _ (Nat.add_comm _ _) (by omega) ch) (last_tap m c b r ch)
    (at2_mk _ _ _) (at2_mk _ _ _) (at2_mk _ _ _) (at2_mk _ _ _)

theorem softplus_of {u v : EReal} (h : u = v) :
    (if u ≠ u then u else max u 0 + Ideal.log1p (Ideal.exp (-FloatOps.absf (F := Ideal) (φ := .f32) u))) = softplus v := by
  subst h
  rw [if_neg (fun h => h rfl)]
  rfl

theorem d_row_in (b : Fin 2) (r : Fin 4096) (h : Fin 64) :
    (entryContents preI m c (Proc.devRef .tc main_v43) : Vec Ideal S2x4096x64 .f32) (ix3 b r h) = softplus ((args m c).D (b.val * 4096 + r.val) h + (args m c).db h) := by
  simp only [entryContents, afterL_cons, afterL_nil]
  after_reads_simp
  simp -implicitDefEqProofs only [StableHlo.TRef.toBuf, StableHlo.TRef.ofBuf, cast_cast, cast_eq]
  pointwise
  exact softplus_of (congrArg₂ (fun x y : EReal => x + y) (at2_mk _ _ _) (at1_mk _ _))

/-! ## Cut into chunks -/

theorem x_cut : (entryContents preI m c (Proc.devRef .tc main_v59_0) : Vec Ideal S32x2x128x8x8x64 .f32)
    = transpose S32x2x128x8x8x64 [1, 0, 2, 3, 4, 5] (shapeCast S2x32x128x8x8x64 (extractStridedSlice S2x4096x4096 ![0, 0, 0]
        (entryContents preI m c (Proc.devRef .tc main_v36) : Vec Ideal S2x4096x6144 .f32) slices_S2x4096x6144_S2x4096x4096_0_0_0)
        shapeCasts_S2x4096x4096_S2x32x128x8x8x64) transposes_S2x32x128x8x8x64_S32x2x128x8x8x64_1_0_2_3_4_5 := by
  simp only [entryContents, afterL_cons, afterL_nil]
  after_reads_simp
  rfl

theorem d_cut : (entryContents preI m c (Proc.devRef .tc main_v59_1) : Vec Ideal S32x2x128x8x8 .f32)
    = transpose S32x2x128x8x8 [1, 0, 2, 3, 4] (shapeCast S2x32x128x8x8
        (entryContents preI m c (Proc.devRef .tc main_v43) : Vec Ideal S2x4096x64 .f32)
        shapeCasts_S2x4096x64_S2x32x128x8x8) transposes_S2x32x128x8x8_S32x2x128x8x8_1_0_2_3_4 := by
  simp only [entryContents, afterL_cons, afterL_nil]
  after_reads_simp
  rfl

theorem b_cut : (entryContents preI m c (Proc.devRef .tc main_v59_2) : Vec Ideal S32x2x128x8x128 .f32)
    = transpose S32x2x128x8x128 [1, 0, 2, 3, 4] (shapeCast S2x32x128x8x128 (extractStridedSlice S2x4096x1024 ![0, 0, 4096]
        (entryContents preI m c (Proc.devRef .tc main_v36) : Vec Ideal S2x4096x6144 .f32) slices_S2x4096x6144_S2x4096x1024_0_0_4096)
        shapeCasts_S2x4096x1024_S2x32x128x8x128) transposes_S2x32x128x8x128_S32x2x128x8x128_1_0_2_3_4 := by
  simp only [entryContents, afterL_cons, afterL_nil]
  after_reads_simp
  rfl

theorem c_cut : (entryContents preI m c (Proc.devRef .tc main_v59_3) : Vec Ideal S32x2x128x8x128 .f32)
    = transpose S32x2x128x8x128 [1, 0, 2, 3, 4] (shapeCast S2x32x128x8x128 (extractStridedSlice S2x4096x1024 ![0, 0, 5120]
        (entryContents preI m c (Proc.devRef .tc main_v36) : Vec Ideal S2x4096x6144 .f32) slices_S2x4096x6144_S2x4096x1024_0_0_5120)
        shapeCasts_S2x4096x1024_S2x32x128x8x128) transposes_S2x32x128x8x128_S32x2x128x8x128_1_0_2_3_4 := by
  simp only [entryContents, afterL_cons, afterL_nil]
  after_reads_simp
  rfl

theorem x_read {α : Type} (y : S2x4096x6144.Idx → α) (k : Fin 32) (b : Fin 2) (t : Fin 128) (g q : Fin 8) (p : Fin 64) :
    transpose S32x2x128x8x8x64 [1, 0, 2, 3, 4, 5] (shapeCast S2x32x128x8x8x64 (extractStridedSlice S2x4096x4096 ![0, 0, 0] y slices_S2x4096x6144_S2x4096x4096_0_0_0)
        shapeCasts_S2x4096x4096_S2x32x128x8x8x64) transposes_S2x32x128x8x8x64_S32x2x128x8x8x64_1_0_2_3_4_5 (ix6 k b t g q p)
      = y (ix3 b ⟨k.val * 128 + t.val, by omega⟩ ⟨(g.val * 8 + q.val) * 64 + p.val, by omega⟩) := by
  pointwise
  exact congrArg (fun j => y (ix3 b _ j)) (Fin.ext (by dsimp only; omega))

theorem d_read {α : Type} (y : S2x4096x64.Idx → α) (k : Fin 32) (b : Fin 2) (t : Fin 128) (g q : Fin 8) :
    transpose S32x2x128x8x8 [1, 0, 2, 3, 4] (shapeCast S2x32x128x8x8 y
        shapeCasts_S2x4096x64_S2x32x128x8x8) transposes_S2x32x128x8x8_S32x2x128x8x8_1_0_2_3_4 (ix5 k b t g q)
      = y (ix3 b ⟨k.val * 128 + t.val, by omega⟩ ⟨g.val * 8 + q.val, by omega⟩) := by
  pointwise

theorem b_read {α : Type} (y : S2x4096x6144.Idx → α) (k : Fin 32) (b : Fin 2) (t : Fin 128) (g : Fin 8) (n : Fin 128) :
    transpose S32x2x128x8x128 [1, 0, 2, 3, 4] (shapeCast S2x32x128x8x128 (extractStridedSlice S2x4096x1024 ![0, 0, 4096] y slices_S2x4096x6144_S2x4096x1024_0_0_4096)
        shapeCasts_S2x4096x1024_S2x32x128x8x128) transposes_S2x32x128x8x128_S32x2x128x8x128_1_0_2_3_4 (ix5 k b t g n)
      = y (ix3 b ⟨k.val * 128 + t.val, by omega⟩ ⟨4096 + g.val * 128 + n.val, by omega⟩) := by
  pointwise
  exact congrArg (fun j => y (ix3 b _ j)) (Fin.ext (by dsimp only; omega))

theorem c_read {α : Type} (y : S2x4096x6144.Idx → α) (k : Fin 32) (b : Fin 2) (t : Fin 128) (g : Fin 8) (n : Fin 128) :
    transpose S32x2x128x8x128 [1, 0, 2, 3, 4] (shapeCast S2x32x128x8x128 (extractStridedSlice S2x4096x1024 ![0, 0, 5120] y slices_S2x4096x6144_S2x4096x1024_0_0_5120)
        shapeCasts_S2x4096x1024_S2x32x128x8x128) transposes_S2x32x128x8x128_S32x2x128x8x128_1_0_2_3_4 (ix5 k b t g n)
      = y (ix3 b ⟨k.val * 128 + t.val, by omega⟩ ⟨5120 + g.val * 128 + n.val, by omega⟩) := by
  pointwise
  exact congrArg (fun j => y (ix3 b _ j)) (Fin.ext (by dsimp only; omega))

theorem x_in (k : Fin 32) (b : Fin 2) (t : Fin 128) (g q : Fin 8) (p : Fin 64) :
    (entryContents preI m c (Proc.devRef .tc main_v59_0) : Vec Ideal S32x2x128x8x8x64 .f32) (ix6 k b t g q p)
      = ((args m c).chunk b k).x t ((g.val * 8 + q.val) * 64 + p.val) :=
  (congrFun (x_cut m c) _).trans ((x_read _ k b t g q p).trans (act_in m c b _ _))

theorem d_in (k : Fin 32) (b : Fin 2) (t : Fin 128) (g q : Fin 8) :
    (entryContents preI m c (Proc.devRef .tc main_v59_1) : Vec Ideal S32x2x128x8x8 .f32) (ix5 k b t g q)
      = ((args m c).chunk b k).d t (g.val * 8 + q.val) := by
  refine (congrFun (d_cut m c) _).trans ((d_read _ k b t g q).trans ((d_row_in m c b _ _).trans ?_))
  dsimp only [Args.chunk]
  rw [if_pos (by omega), if_pos t.isLt, Nat.add_assoc]

theorem b_in (k : Fin 32) (b : Fin 2) (t : Fin 128) (g : Fin 8) (n : Fin 128) :
    (entryContents preI m c (Proc.devRef .tc main_v59_2) : Vec Ideal S32x2x128x8x128 .f32) (ix5 k b t g n)
      = ((args m c).chunk b k).x t (4096 + g.val * 128 + n.val) :=
  (congrFun (b_cut m c) _).trans ((b_read _ k b t g n).trans (act_in m c b _ _))

theorem c_in (k : Fin 32) (b : Fin 2) (t : Fin 128) (g : Fin 8) (n : Fin 128) :
    (entryContents preI m c (Proc.devRef .tc main_v59_3) : Vec Ideal S32x2x128x8x128 .f32) (ix5 k b t g n)
      = ((args m c).chunk b k).x t (5120 + g.val * 128 + n.val) :=
  (congrFun (c_cut m c) _).trans ((c_read _ k b t g n).trans (act_in m c b _ _))

end Cert.ReferenceIdeal.Step
end
-- ==== Proof.RefFold.lean ====
/- The reference's scan, chunk after chunk. -/
module

public import proofs.«01_k».proof.Proof.RefStep
public import proofs.«01_k».proof.Proof.RefEntry

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.ReferenceIdeal.Step

open Cert.ReferenceIdeal Cert.ReferenceIdeal.Gen Cert.ReferenceIdeal.Value Cert.Spec
open Idealize.ShloMosaic.StableHlo

variable (m : (ℓ : Loc nD τ sig) → Buf (Elt Ideal) ℓ) (c : Dev nD)

/-- The carried arrays before chunk `k`. -/
abbrev before (k : ℕ) : Valuation τ sig (Elt Ideal) := STEP^[k] (entryContents preI m c)

theorem before_succ (k : ℕ) : before m c (k + 1) = STEP (before m c k) := Function.iterate_succ_apply' _ _ _

theorem keep_0 : ∀ k : ℕ, before m c k (Proc.devRef .tc main_v59_0) = entryContents preI m c (Proc.devRef .tc main_v59_0)
  | 0 => rfl
  | k + 1 => (congrFun (before_succ m c k) _).trans ((STEP_main_v59_0 _).trans (keep_0 k))

theorem keep_1 : ∀ k : ℕ, before m c k (Proc.devRef .tc main_v59_1) = entryContents preI m c (Proc.devRef .tc main_v59_1)
  | 0 => rfl
  | k + 1 => (congrFun (before_succ m c k) _).trans ((STEP_main_v59_1 _).trans (keep_1 k))

theorem keep_2 : ∀ k : ℕ, before m c k (Proc.devRef .tc main_v59_2) = entryContents preI m c (Proc.devRef .tc main_v59_2)
  | 0 => rfl
  | k + 1 => (congrFun (before_succ m c k) _).trans ((STEP_main_v59_2 _).trans (keep_2 k))

theorem keep_3 : ∀ k : ℕ, before m c k (Proc.devRef .tc main_v59_3) = entryContents preI m c (Proc.devRef .tc main_v59_3)
  | 0 => rfl
  | k + 1 => (congrFun (before_succ m c k) _).trans ((STEP_main_v59_3 _).trans (keep_3 k))

theorem keep_4 : ∀ k : ℕ, before m c k (Proc.devRef .tc main_v59_4) = entryContents preI m c (Proc.devRef .tc main_v59_4)
  | 0 => rfl
  | k + 1 => (congrFun (before_succ m c k) _).trans ((STEP_main_v59_4 _).trans (keep_4 k))

theorem keep_5 : ∀ k : ℕ, before m c k (Proc.devRef .tc main_v59_5) = entryContents preI m c (Proc.devRef .tc main_v59_5)
  | 0 => rfl
  | k + 1 => (congrFun (before_succ m c k) _).trans ((STEP_main_v59_5 _).trans (keep_5 k))

theorem keep_6 : ∀ k : ℕ, before m c k (Proc.devRef .tc main_v59_6) = entryContents preI m c (Proc.devRef .tc main_v59_6)
  | 0 => rfl
  | k + 1 => (congrFun (before_succ m c k) _).trans ((STEP_main_v59_6 _).trans (keep_6 k))

theorem ctr_at : ∀ k : ℕ, before m c k (Proc.devRef .tc main_v59_7) = fun _ => BitVec.ofNat 32 k
  | 0 => ctr_entry m c
  | k + 1 => by
    refine (congrFun (before_succ m c k) _).trans ((STEP_main_v59_7 _).trans ?_)
    unfold step_main_v59_7
    rw [ctr_at k]
    funext i
    change BitVec.ofNat 32 k + 1#32 = _
    exact (BitVec.ofNat_add k 1).symm

section
variable (k : Fin 32)

theorem x_before (b : Fin 2) (t : Fin 128) (g q : Fin 8) (p : Fin 64) :
    (res_main_while0b_v90 (before m c k) : Vec Ideal S2x128x8x8x64 .f32) (ix5 b t g q p) = ((args m c).chunk b k).x t ((g.val * 8 + q.val) * 64 + p.val) :=
  (x_at _ k (ctr_at m c k) b t g q p).trans ((congrFun (keep_0 m c k) _).trans (x_in m c k b t g q p))

theorem d_before (b : Fin 2) (t : Fin 128) (g q : Fin 8) :
    (res_main_while0b_v91 (before m c k) : Vec Ideal S2x128x8x8 .f32) (ix4 b t g q) = ((args m c).chunk b k).d t (g.val * 8 + q.val) :=
  (d_at _ k (ctr_at m c k) b t g q).trans ((congrFun (keep_1 m c k) _).trans (d_in m c k b t g q))

theorem b_before (b : Fin 2) (t : Fin 128) (g : Fin 8) (n : Fin 128) :
    (res_main_while0b_v92 (before m c k) : Vec Ideal S2x128x8x128 .f32) (ix4 b t g n) = ((args m c).chunk b k).x t (4096 + g.val * 128 + n.val) :=
  (b_at _ k (ctr_at m c k) b t g n).trans ((congrFun (keep_2 m c k) _).trans (b_in m c k b t g n))

theorem c_before (b : Fin 2) (t : Fin 128) (g : Fin 8) (n : Fin 128) :
    (res_main_while0b_v93 (before m c k) : Vec Ideal S2x128x8x128 .f32) (ix4 b t g n) = ((args m c).chunk b k).x t (5120 + g.val * 128 + n.val) :=
  (c_at _ k (ctr_at m c k) b t g n).trans ((congrFun (keep_3 m c k) _).trans (c_in m c k b t g n))

theorem a_before (g q : Fin 8) :
    (before m c k (Proc.devRef .tc main_v59_4) : Vec Ideal S8x8 .f32) (ix2 g q) = -Ideal.exp ((args m c).al (g.val * 8 + q.val)) :=
  (congrFun (keep_4 m c k) _).trans (a_in m c g q)

end

/-- The state before chunk `k`. -/
theorem h_before : ∀ (k : ℕ) (_ : k ≤ 32) (b : Fin 2) (g q : Fin 8) (p : Fin 64) (n : Fin 128),
    (before m c k (Proc.devRef .tc main_v59_8) : Vec Ideal S2x8x8x64x128 .f32) (ix5 b g q p n) = (args m c).st b k ((g.val * 8 + q.val) * 64 + p.val) n
  | 0, _, b, g, q, p, n => h_in m c b g q p n
  | k + 1, hk, b, g, q, p, n => by
    refine (congrFun ((congrFun (before_succ m c k) _).trans (STEP_main_v59_8 _)) _).trans ?_
    exact next_at (before m c k) (fun b => (args m c).chunk b k) (fun b => (args m c).st b k) (x_before m c ⟨k, by omega⟩) (d_before m c ⟨k, by omega⟩)
      (b_before m c ⟨k, by omega⟩) (fun _ => a_before m c ⟨k, by omega⟩) (h_before k (by omega)) b g q p n

/-- The results of the chunks before `k`. -/
theorem y_before : ∀ (k : ℕ) (_ : k ≤ 32) (k' : Fin 32) (_ : k'.val < k) (b : Fin 2) (t : Fin 128) (g q : Fin 8) (p : Fin 64),
    (before m c k (Proc.devRef .tc main_v59_9) : Vec Ideal S32x2x128x8x8x64 .f32) (ix6 k' b t g q p)
      = ((args m c).chunk b k').y ((args m c).st b k') t ((g.val * 8 + q.val) * 64 + p.val)
  | 0, _, k', hk', _, _, _, _, _ => absurd hk' (Nat.not_lt_zero _)
  | k + 1, hk, k', hk', b, t, g, q, p => by
    refine (congrFun ((congrFun (before_succ m c k) _).trans (STEP_main_v59_9 _)) _).trans ?_
    refine (ys_at (before m c k) ⟨k, by omega⟩ (ctr_at m c k) (fun b => (args m c).chunk b k) (fun b => (args m c).st b k) (x_before m c ⟨k, by omega⟩)
      (d_before m c ⟨k, by omega⟩) (b_before m c ⟨k, by omega⟩) (c_before m c ⟨k, by omega⟩) (fun _ => a_before m c ⟨k, by omega⟩) (h_before m c k (by omega))
      (fun t s => (congrFun (keep_5 m c k) _).trans (causal_in m c t s)) (fun _ h => (congrFun (keep_6 m c k) _).trans (s_in m c h)) k' b t g q p).trans ?_
    by_cases h : k' = ⟨k, by omega⟩
    · rw [if_pos h]
      have hk : k = k'.val := by rw [h]
      subst hk
      rfl
    · rw [if_neg h]
      exact y_before k (by omega) k' (by have : k'.val ≠ k := fun e => h (Fin.ext e)
                                         omega) b t g q p

end Cert.ReferenceIdeal.Step
end
-- ==== Proof.RefOut.lean ====
/- The arrays the reference ends with, at an index. -/
module

public import proofs.«01_k».proof.Proof.RefFold

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.ReferenceIdeal.Step

open Cert.ReferenceIdeal Cert.ReferenceIdeal.Gen Cert.ReferenceIdeal.Value Cert.Spec
open Idealize.ShloMosaic.StableHlo

/-- The scan's results times the gate, by group. -/
def gatedArr (ys : FVec Ideal S32x2x128x8x8x64 .f32) (z : FVec Ideal S8320x4096 .f32) : FVec Ideal S2x4096x8x512 .f32 :=
  shapeCast S2x4096x8x512 (mulf (shapeCast _ (shapeCast _ (transpose S2x32x128x8x8x64 [1, 0, 2, 3, 4, 5] ys transposes_S32x2x128x8x8x64_S2x32x128x8x8x64_1_0_2_3_4_5) shapeCasts_S2x32x128x8x8x64_S2x4096x64x64) shapeCasts_S2x4096x64x64_S2x4096x4096) (mulf (shapeCast _ (extractStridedSlice S8192x4096 ![0, 0] z slices_S8320x4096_S8192x4096_0_0) shapeCasts_S8192x4096_S2x4096x4096) (Host.divf (broadcastInDim S2x4096x4096 ![] bcast_S_S2x4096x4096 (constant S_ .f32 0x3F800000#32)) (addf (broadcastInDim S2x4096x4096 ![] bcast_S_S2x4096x4096 (constant S_ .f32 0x3F800000#32)) (Host.exp (Host.negf (shapeCast _ (extractStridedSlice S8192x4096 ![0, 0] z slices_S8320x4096_S8192x4096_0_0) shapeCasts_S8192x4096_S2x4096x4096))))))) shapeCasts_S2x4096x4096_S2x4096x8x512

/-- The groups normalised and scaled, as rows. -/
def tailArr (G : FVec Ideal S2x4096x8x512 .f32) (gs : FVec Ideal S4096 .f32) : FVec Ideal S8320x4096 .bf16 :=
  truncf .bf16 (pad S8320x4096 ![0, 0] ![128, 0] ![0, 0] (shapeCast _ (mulf (mulf G (broadcastInDim S2x4096x8x512 ![0, 1, 2, 3] bcast_S2x4096x8x1_S2x4096x8x512_0_1_2_3 (Host.rsqrt (addf (Host.divf (broadcastInDim S2x4096x8x1 ![0, 1, 2] bcast_S2x4096x8_S2x4096x8x1_0_1_2 (Host.reduceAdd (mulf G G) (constant S_ .f32 0x00000000#32) reducesTo_S2x4096x8x512_S2x4096x8_d3 h_S_)) (broadcastInDim S2x4096x8x1 ![] bcast_S_S2x4096x8x1 (constant S_ .f32 0x44000000#32))) (broadcastInDim S2x4096x8x1 ![] bcast_S_S2x4096x8x1 (constant S_ .f32 0x358637BD#32)))))) (broadcastInDim S2x4096x8x512 ![0, 1, 2, 3] bcast_S1x1x8x512_S2x4096x8x512_0_1_2_3 (broadcastInDim S1x1x8x512 ![2, 3] bcast_S8x512_S1x1x8x512_2_3 (shapeCast _ gs shapeCasts_S4096_S8x512)))) shapeCasts_S2x4096x8x512_S8192x4096) (sitofp (F := Ideal) .f32 (constantI S_ 32 0#32)) pads_S8192x4096_S8320x4096_01280_000 h_S_) bitsLt_bf16_f32

theorem out_eq (V0 : Valuation τ sig (Elt Ideal)) : out_main_v88 V0
    = tailArr (gatedArr (V0 (Proc.devRef .tc main_v59_9)) (V0 (Proc.devRef .tc main_arg1))) (V0 (Proc.devRef .tc main_arg8)) := rfl

theorem gatedArr_at (ys : FVec Ideal S32x2x128x8x8x64 .f32) (z : FVec Ideal S8320x4096 .f32) (b : Fin 2) (r : Fin 4096) (g : Fin 8) (l : Fin 512) :
    gatedArr ys z (ix4 b r g l)
      = ys (ix6 ⟨r.val / 128, by omega⟩ b ⟨r.val % 128, by omega⟩ g ⟨(g.val * 512 + l.val) / 64 % 8, by omega⟩ ⟨(g.val * 512 + l.val) % 64, by omega⟩)
        * (z (ix2 ⟨b.val * 4096 + r.val, by omega⟩ ⟨g.val * 512 + l.val, by omega⟩)
          * Ideal.logistic (z (ix2 ⟨b.val * 4096 + r.val, by omega⟩ ⟨g.val * 512 + l.val, by omega⟩))) := by
  unfold gatedArr
  pointwise
  rfl

theorem tailArr_at (G : FVec Ideal S2x4096x8x512 .f32) (gs : FVec Ideal S4096 .f32) (R : Fin 8320) (hR : R.val < 8192) (j : Fin 4096) :
    tailArr G gs (ix2 R j)
      = G (ix4 ⟨R.val / 4096, by omega⟩ ⟨R.val % 4096, by omega⟩ ⟨j.val / 512, by omega⟩ ⟨j.val % 512, by omega⟩)
          * Ideal.rsqrt (Ideal.div (∑ x : Fin 512, G (ix4 ⟨R.val / 4096, by omega⟩ ⟨R.val % 4096, by omega⟩ ⟨j.val / 512, by omega⟩ x)
              * G (ix4 ⟨R.val / 4096, by omega⟩ ⟨R.val % 4096, by omega⟩ ⟨j.val / 512, by omega⟩ x)) (Ideal.ofBits .f32 0x44000000#32)
            + Ideal.ofBits .f32 0x358637BD#32) * gs (ix1 j) := by
  unfold tailArr
  pointwise
  rw [dif_pos hR]

theorem rows_at (x : FVec Ideal S8320x6144 .f32) (b : Fin 2) (r : Fin 8) (hr : 5 ≤ r.val) (ch : Fin 6144) :
    (pad S2x8x6144 ![0, 5, 0] ![0, 0, 0] ![0, 0, 0] (extractStridedSlice S2x3x6144 ![0, 4093, 0] (shapeCast _ (extractStridedSlice S8192x6144 ![0, 0] x slices_S8320x6144_S8192x6144_0_0) shapeCasts_S8192x6144_S2x4096x6144) slices_S2x4096x6144_S2x3x6144_0_4093_0) (sitofp (F := Ideal) .f32 (constantI S_ 32 0#32)) pads_S2x3x6144_S2x8x6144_000_500_000 h_S_ : FVec Ideal S2x8x6144 .f32) (ix3 b r ch) = x (ix2 ⟨b.val * 4096 + 4088 + r.val, by omega⟩ ch) := by
  pointwise
  rw [dif_pos (by omega)]
  exact congrArg (fun k => x (ix2 k ch)) (Fin.ext (by dsimp only; omega))

theorem state_at (h : FVec Ideal S2x8x8x64x128 .f32) (b : Fin 2) (q p : Fin 64) (n : Fin 128) :
    (shapeCast S2x64x64x128 h shapeCasts_S2x8x8x64x128_S2x64x64x128) (ix4 b q p n) = h (ix5 b ⟨q.val / 8, by omega⟩ ⟨q.val % 8, by omega⟩ p n) := by
  pointwise

section
variable (A : Args) (ys : FVec Ideal S32x2x128x8x8x64 .f32) (z : FVec Ideal S8320x4096 .f32) (gs : FVec Ideal S4096 .f32)
  (hy : ∀ (k : Fin 32) (b : Fin 2) (t : Fin 128) (g q : Fin 8) (p : Fin 64),
    ys (ix6 k b t g q p) = (A.chunk b k).y (A.st b k) t ((g.val * 8 + q.val) * 64 + p.val))
  (hz : ∀ (R : Fin 8320) (j : Fin 4096), z (ix2 R j) = A.Z R j) (hg : ∀ j : Fin 4096, gs (ix1 j) = A.gs j)

include hy hz in
/-- The gated result of a row, by channel. -/
theorem gate_row (R : Fin 8320) (hR : R.val < 8192) (g : Fin 8) (l : Fin 512) :
    gatedArr ys z (ix4 ⟨R.val / 4096, by omega⟩ ⟨R.val % 4096, by omega⟩ g l)
      = gated ((A.chunk (R.val / 4096) (R.val % 4096 / 128)).y (A.st (R.val / 4096) (R.val % 4096 / 128)) (R.val % 128)) (A.Z R) (g.val * 512 + l.val) := by
  refine (gatedArr_at ys z _ _ g l).trans ?_
  rw [hy, hz]
  have e1 : (g.val * 8 + (g.val * 512 + l.val) / 64 % 8) * 64 + (g.val * 512 + l.val) % 64 = g.val * 512 + l.val := by omega
  have e2 : R.val % 4096 % 128 = R.val % 128 := by omega
  have e3 : R.val / 4096 * 4096 + R.val % 4096 = R.val := by omega
  dsimp only
  rw [e1, e2, e3]
  rfl

include hy hz hg in
theorem yOut_of (R : Fin 8320) (hR : R.val < 8192) (j : Fin 4096) : tailArr (gatedArr ys z) gs (ix2 R j) = A.yOut R j := by
  refine (tailArr_at _ _ R hR j).trans ?_
  have hG := gate_row A ys z hy hz R hR
  rw [hG, hg]
  unfold Args.yOut normed
  have e : j.val / 512 * 512 + j.val % 512 = j.val := by omega
  simp only [hG]
  rw [e]

end

end Cert.ReferenceIdeal.Step
end
-- ==== Proof.RefEnd.lean ====
/- What the reference ends with. -/
module

public import proofs.«01_k».proof.Proof.RefOut

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.ReferenceIdeal.Step

open Cert.ReferenceIdeal Cert.ReferenceIdeal.Gen Cert.ReferenceIdeal.Value Cert.Spec
open Idealize.ShloMosaic.StableHlo

variable (m : (ℓ : Loc nD τ sig) → Buf (Elt Ideal) ℓ) (c : Dev nD)

theorem out_y (R : Fin 8320) (hR : R.val < 8192) (j : Fin 4096) :
    (out_main_v88 (before m c 32) : Vec Ideal S8320x4096 .bf16) (ix2 R j) = (args m c).yOut R j :=
  (congrFun (out_eq (before m c 32)) (ix2 R j)).trans
    (yOut_of (args m c) _ _ _ (fun k b t g q p => y_before m c 32 (Nat.le_refl 32) k k.isLt b t g q p)
      (fun R j => (congrFun (iter_main_arg1 m c 32) (ix2 R j)).trans (at2_mk _ _ _))
      (fun j => (congrFun (iter_main_arg8 m c 32) (ix1 j)).trans (at1_mk _ _)) R hR j)

theorem out_h (b : Fin 2) (q p : Fin 64) (n : Fin 128) :
    (out_main_v89 (before m c 32) : Vec Ideal S2x64x64x128 .f32) (ix4 b q p n) = (args m c).st b 32 (q.val * 64 + p.val) n := by
  unfold out_main_v89
  refine (state_at (before m c 32 (Proc.devRef .tc main_v59_8)) b q p n).trans ((h_before m c 32 (Nat.le_refl 32) b _ _ p n).trans ?_)
  exact congrArg (fun j => (args m c).st b 32 j n) (by dsimp only; omega)

theorem out_rows (b : Fin 2) (r : Fin 8) (hr : 5 ≤ r.val) (ch : Fin 6144) :
    (out_main_v85 (before m c 32) : Vec Ideal S2x8x6144 .f32) (ix3 b r ch) = (args m c).X (b.val * 4096 + 4088 + r.val) ch := by
  unfold out_main_v85
  exact (rows_at (before m c 32 (Proc.devRef .tc main_arg0)) b r hr ch).trans ((congrFun (iter_main_arg0 m c 32) _).trans (at2_mk _ _ _))

end Cert.ReferenceIdeal.Step
end
-- ==== Proof.Match.lean ====
/- The two programs' results, held against each other. -/
module

public import proofs.«01_k».proof.Defs
public import proofs.«01_k».proof.Proof.KernelOut
public import proofs.«01_k».proof.Proof.RefEnd
public import Idealize.ShloMosaic.Lib.ReduceAll

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.Match

open Cert.Spec

/-! ## What the predicates' operations ask of their shapes -/

instance preFacts : Cert.Pre_dt_below_inf.Facts where
  slices_S8320x128_S8192x64_0_0 := by decide
  bcast_S64_S1x64_1 := by decide
  bcast_S1x64_S8192x64_0_1 := by decide
  bcast_S_S8192x64 := by decide
  reducesTo_S8192x64_S_d0_1 := by decide
  h_S_ := by decide

instance onFacts : Cert.On_on_rows.Facts where
  bcast_S_S8320x4096 := by decide
  bcast_S_S2x64x64x128 := by decide
  bcast_S_S2x8x6144 := by decide

/-! ## The precondition and the mask, read -/

theorem lt_of_olt {x y : EReal} (h : FloatOps.cmpf (F := Ideal) (φ := .f32) .olt x y = 1#1) : x < y := by
  by_contra hn
  have h0 : FloatOps.cmpf (F := Ideal) (φ := .f32) .olt x y = 0#1 := by
    change BitVec.ofBool (decide (x < y)) = 0#1
    rw [decide_eq_false hn]
    rfl
  exact absurd (h0.symm.trans h) (by decide)

theorem ok_of_pre (x0 : FVec Ideal ⟨2, ![8320, 6144]⟩ .f32) (x1 : FVec Ideal ⟨2, ![8320, 4096]⟩ .f32) (x2 : FVec Ideal ⟨2, ![8320, 128]⟩ .f32)
    (x3 : FVec Ideal ⟨2, ![4, 6144]⟩ .f32) (x4 : FVec Ideal ⟨1, ![6144]⟩ .f32) (x5 x6 x7 : FVec Ideal ⟨1, ![64]⟩ .f32) (x8 : FVec Ideal ⟨1, ![4096]⟩ .f32)
    (h : Cert.Pre_dt_below_inf.fn (F := Ideal) x0 x1 x2 x3 x4 x5 x6 x7 x8 = fun _ => 1#1) :
    (Args.of x0 x1 x2 x3 x4 x5 x6 x7 x8).Ok := by
  intro r k hr hk
  haveI : Subsingleton (Cert.Pre_dt_below_inf.S_).Idx := ⟨fun a b => funext fun i => i.elim0⟩
  have h0 := congrFun h (ix0 : (Cert.Pre_dt_below_inf.S_).Idx)
  have h1 := Host.reduce_andi_all _ _ _ _ _ h0 (ix2 ⟨r, hr⟩ ⟨k, hk⟩)
  have h2 := ne_top_of_lt (lt_of_olt h1)
  refine fun e => h2 ?_
  refine Eq.trans ?_ e
  refine congrArg₂ (fun x y : EReal => x + y) ?_ ?_
  · dsimp only
    pointwise
    exact at2_mk x2 ⟨r, by omega⟩ ⟨k, by omega⟩
  · pointwise
    exact at1_mk x5 ⟨k, hk⟩

theorem slt_rows : ∀ n : Fin 8320, IntOp.cmpi .slt (BitVec.ofNat 32 n.val) 8192#32 = 1#1 → n.val < 8192 := by decide +kernel
theorem sge_rows : ∀ n : Fin 8, IntOp.cmpi .sge (BitVec.ofNat 32 n.val) 5#32 = 1#1 → 5 ≤ n.val := by decide +kernel

/-! ## Both programs from memories that agree -/

section
variable (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hA : (Cert.KernelIdeal.Chunks.args m c).Ok) (he : Cert.ReferenceIdeal.Step.args m' c = Cert.KernelIdeal.Chunks.args m c)

include hA he

theorem match_y (i : (⟨2, ![8320, 4096]⟩ : Shape).Idx) (hi : (i 0).val < 8192) :
    Cert.ReferenceIdeal.Value.out_main_v88 (Cert.ReferenceIdeal.Step.before m' c 32) i = Cert.KernelIdeal.Value.G14 m c i := by
  rw [show i = ix2 (i 0) (i 1) from funext fun a => by fin_cases a <;> rfl]
  refine (Cert.ReferenceIdeal.Step.out_y m' c (i 0) hi (i 1)).trans ?_
  rw [he]
  exact (Cert.KernelIdeal.Chunks.out_y m c hA (i 0) hi (i 1)).symm

theorem match_h (i : (⟨4, ![2, 64, 64, 128]⟩ : Shape).Idx) :
    Cert.ReferenceIdeal.Value.out_main_v89 (Cert.ReferenceIdeal.Step.before m' c 32) i = Cert.KernelIdeal.Value.G15 m c i := by
  rw [show i = ix4 (i 0) (i 1) (i 2) (i 3) from funext fun a => by fin_cases a <;> rfl]
  refine (Cert.ReferenceIdeal.Step.out_h m' c (i 0) (i 1) (i 2) (i 3)).trans ?_
  rw [he]
  exact (Cert.KernelIdeal.Chunks.out_h m c hA (i 0) (i 1) (i 2) (i 3)).symm

omit hA in
theorem match_rows (i : (⟨3, ![2, 8, 6144]⟩ : Shape).Idx) (hi : 5 ≤ (i 1).val) :
    Cert.ReferenceIdeal.Value.out_main_v85 (Cert.ReferenceIdeal.Step.before m' c 32) i = Cert.KernelIdeal.Value.G16 m c i := by
  rw [show i = ix3 (i 0) (i 1) (i 2) from funext fun a => by fin_cases a <;> rfl]
  refine (Cert.ReferenceIdeal.Step.out_rows m' c (i 0) (i 1) hi (i 2)).trans ?_
  rw [he]
  exact (Cert.KernelIdeal.Chunks.out_rows m c (i 0) (i 1) (i 2)).symm

end

end Cert.Match
end
-- ==== Proof.Equal.lean ====
/- Two of the claims: the reference's frame, and the equality of the two programs' results, from their runs and `Proof/Match.lean`. -/
module

public import proofs.«01_k».proof.Defs
public import proofs.«01_k».proof.Proof.Gen.KernelIdeal.Value
public import proofs.«01_k».proof.Proof.Gen.ReferenceIdeal.Run
public import proofs.«01_k».proof.Proof.Match

@[expose] public section

noncomputable section

namespace Cert.Proof

open Idealize.ShloMosaic Idealize.SL.Sem

/-- The reference ends with its arguments unchanged; it declares no semaphore, so every counter is zero. -/
theorem frame_reference : Cert.quiescent_ReferenceIdeal := fun m ρ _ =>
  (θ_run (Cert.ReferenceIdeal.defs (F := Ideal)) _ _).mono (fun r h => ⟨fun c => (h c).2.2.2, sem_eq_zero_of_no_sems (by decide) r.2⟩)
    (Cert.ReferenceIdeal.Value.run m ρ)

/-- The two programs end with equal results at the positions the mask keeps. -/
theorem results_equal : Cert.algebraic_KernelIdeal_ReferenceIdeal_on_on_rows_pre_dt_below_inf := by
  intro m g m' g' hpre hagree
  have hA : ∀ c, (Cert.KernelIdeal.Chunks.args m c).Ok := fun c => Cert.Match.ok_of_pre _ _ _ _ _ _ _ _ _ (hpre c)
  have he : ∀ c, Cert.ReferenceIdeal.Step.args m' c = Cert.KernelIdeal.Chunks.args m c := by
    intro c
    obtain ⟨h0, h1, h2, h3, h4, h5, h6, h7, h8⟩ := hagree c
    unfold Cert.ReferenceIdeal.Step.args Cert.KernelIdeal.Chunks.args
    rw [h0, h1, h2, h3, h4, h5, h6, h7, h8]
  refine ⟨fun c i => Cert.KernelIdeal.Value.G14 m c i, fun c => Cert.KernelIdeal.Value.G15 m c, fun c => Cert.KernelIdeal.Value.G16 m c, ?_, ?_⟩
  · refine (θ_run (Cert.KernelIdeal.defs (F := Ideal)) _ _).mono (fun r h c => ?_) (Cert.KernelIdeal.Value.run m g)
    obtain ⟨h0, h1, h2, hr⟩ := h c
    refine ⟨fun i hi => ?_, fun i _ => congrFun h1 i, fun i _ => congrFun h2 i, hr⟩
    exact (congrFun h0 i).trans (if_pos ⟨Nat.zero_le _, Cert.Match.slt_rows (i 0) hi, Nat.zero_le _, (i 1).isLt⟩)
  · refine (θ_run (Cert.ReferenceIdeal.defs (F := Ideal)) _ _).mono (fun r h c => ?_) (Cert.ReferenceIdeal.Value.run m' g')
    obtain ⟨h0, h1, h2, hr⟩ := h c
    refine ⟨fun i hi => ?_, fun i _ => ?_, fun i hi => ?_, hr⟩
    · exact (congrFun h0 i).trans (Cert.Match.match_y m m' c (hA c) (he c) i (Cert.Match.slt_rows (i 0) hi))
    · exact (congrFun h1 i).trans (Cert.Match.match_h m m' c (hA c) (he c) i)
    · exact (congrFun h2 i).trans (Cert.Match.match_rows m m' c (he c) i (Cert.Match.sge_rows (i 1) hi))

end Cert.Proof

end
-- ==== Proof.UpEqual.lean ====
/- The product of the feed-forward part's first half: each grid point's block is the block of one whole product, squared where positive. -/
module

public import proofs.«01_k».proof.Defs
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import Idealize.ShloMosaic.Lib.Claim
public import Idealize.ShloMosaic.Lib.Pointwise
public import Idealize.ShloMosaic.Lib.Pipeline.ValueKit

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.UpIdeal.Whole

open Cert.UpIdeal Cert.UpIdeal.Gen

/-- The result: row `r` of the one array against column `c` of the other, squared where positive. -/
def product (x : Vec Ideal S8320x4096 .bf16) (w : Vec Ideal S4096x16384 .f32) : FVec Ideal S8320x16384 .bf16 :=
  fun i => max (∑ k : Fin 4096, x (ix2 (i 0) k) * w (ix2 k (i 1))) 0 * max (∑ k : Fin 4096, x (ix2 (i 0) k) * w (ix2 k (i 1))) 0

theorem hz : (![0, 0] : Fin 2 → Nat) = fun _ => 0 := funext fun a => by fin_cases a <;> rfl

theorem point (x : Vec Ideal S1664x4096 .bf16) (w : Vec Ideal S4096x512 .f32) (r : Fin 1664) (ch : Fin 512) :
    out0_2 x w (ix2 r ch) = max (∑ k : Fin 4096, x (ix2 r k) * w (ix2 k ch)) 0 * max (∑ k : Fin 4096, x (ix2 r k) * w (ix2 k ch)) 0 := by
  unfold out0_2
  rw [View.canon_unit_zero hz, View.ld_unit_zero hz, View.ld_unit_zero hz]
  pointwise [k0_pay1]

variable (m : (ℓ : Loc nD τ sig) → Buf (Elt Ideal) ℓ) (c : Dev nD) (t : Fin cfg0.N)

theorem idx : ∀ t : Fin grid0.N, win0_0.index t 0 = t.val / 32 ∧ win0_0.index t 1 = 0 ∧ win0_1.index t 0 = 0 ∧ win0_1.index t 1 = t.val % 32
    ∧ win0_2.index t 0 = t.val / 32 ∧ win0_2.index t 1 = t.val % 32 :=
  by decide +kernel

theorem x_at (r : Fin 1664) (k : Fin 4096) : (iblk m c 0 t : Vec Ideal S1664x4096 .bf16) (ix2 r k)
    = (m ((c : Thread nD τ).loc main_arg0) : Vec Ideal S8320x4096 .bf16) (ix2 ⟨t.val / 32 * 1664 + r.val, by have : t.val < 160 := t.isLt; omega⟩ k) := by
  rw [← V_main_arg0 m c]
  blk_point [iblk, idx t]

theorem w_at (k : Fin 4096) (ch : Fin 512) : (iblk m c 1 t : Vec Ideal S4096x512 .f32) (ix2 k ch)
    = (m ((c : Thread nD τ).loc main_arg1) : Vec Ideal S4096x16384 .f32) (ix2 k ⟨t.val % 32 * 512 + ch.val, by omega⟩) := by
  rw [← V_main_arg1 m c]
  blk_point [iblk, idx t]

theorem emb_at (r : Fin 1664) (ch : Fin 512) : (((cfg0.win 2).blk t).view.emb (ix2 r ch) : S8320x16384.Idx)
    = ix2 ⟨t.val / 32 * 1664 + r.val, by have : t.val < 160 := t.isLt; omega⟩ ⟨t.val % 32 * 512 + ch.val, by omega⟩ := by
  obtain ⟨-, -, -, -, e0, e1⟩ := idx t
  refine Shape.idx_ext₂ ?_ ?_
  · show win0_2.index t 0 * 1664 + 1 * r.val = t.val / 32 * 1664 + r.val
    rw [e0, one_mul]
  · show win0_2.index t 1 * 512 + 1 * ch.val = t.val % 32 * 512 + ch.val
    rw [e1, one_mul]

theorem flushed_at (r : Fin 1664) (ch : Fin 512) : (dats m 0 c).flushed 2 t (ix2 r ch)
    = product (m ((c : Thread nD τ).loc main_arg0)) (m ((c : Thread nD τ).loc main_arg1)) (((cfg0.win 2).blk t).view.emb (ix2 r ch)) := by
  rw [Cert.UpIdeal.Value.flushed2, emb_at]
  show out0_2 (iblk m c 0 t) (iblk m c 1 t) (ix2 r ch) = _
  rw [point]
  simp only [x_at, w_at]
  rfl

theorem flushed_eq : (dats m 0 c).flushed 2 t
    = ((cfg0.win 2).blk t).view.read (Elt Ideal) (product (m ((c : Thread nD τ).loc main_arg0)) (m ((c : Thread nD τ).loc main_arg1))) := by
  funext y
  have e : y = (ix2 (y 0) (y 1) : S1664x512.Idx) := Shape.idx_ext₂ rfl rfl
  rw [e]
  exact flushed_at m c t (y 0) (y 1)

theorem cover (i : S8320x16384.Idx) : ∃ t : Fin cfg0.N, (cfg0.win 2).flush t = true ∧ i ∈ ((cfg0.win 2).blk t).view.set := by
  have h0 : (i 0).val < 8320 := (i 0).isLt
  have h1 : (i 1).val < 16384 := (i 1).isLt
  have ht : (i 0).val / 1664 * 32 + (i 1).val / 512 < cfg0.N := by have : cfg0.N = 160 := N_0; omega
  refine ⟨⟨(i 0).val / 1664 * 32 + (i 1).val / 512, ht⟩, flush0_2 _, ?_⟩
  have e : i = ((cfg0.win 2).blk ⟨(i 0).val / 1664 * 32 + (i 1).val / 512, ht⟩).view.emb
      (ix2 ⟨(i 0).val % 1664, Nat.mod_lt _ (by decide)⟩ ⟨(i 1).val % 512, Nat.mod_lt _ (by decide)⟩ : S1664x512.Idx) := by
    rw [emb_at]
    refine Shape.idx_ext₂ ?_ ?_
    · show (i 0).val = ((i 0).val / 1664 * 32 + (i 1).val / 512) / 32 * 1664 + (i 0).val % 1664
      omega
    · show (i 1).val = ((i 0).val / 1664 * 32 + (i 1).val / 512) % 32 * 512 + (i 1).val % 512
      omega
  have hm := View.emb_mem_set ((cfg0.win 2).blk ⟨(i 0).val / 1664 * 32 + (i 1).val / 512, ht⟩).view
    (ix2 ⟨(i 0).val % 1664, Nat.mod_lt _ (by decide)⟩ ⟨(i 1).val % 512, Nat.mod_lt _ (by decide)⟩ : S1664x512.Idx)
  rw [← e] at hm
  exact hm

theorem final : (dats m 0 c).arrAt 2 cfg0.N = product (m ((c : Thread nD τ).loc main_arg0)) (m ((c : Thread nD τ).loc main_arg1)) :=
  (dats m 0 c).arrAt_eq_of_cover 2 _ (fun t _ => flushed_eq m c t) cover

end Cert.UpIdeal.Whole

namespace Cert.UpReferenceIdeal.Whole

open Cert.UpReferenceIdeal Cert.UpReferenceIdeal.Gen

theorem ref_at (x : FVec Ideal S8320x4096 .bf16) (w : FVec Ideal S4096x16384 .f32) :
    (truncf .bf16 (mulf (maximumf (Host.dotGeneral dot_S8320x4096_S4096x16384_S8320x16384_1_0_0_1_n_n none (extf .f32 x bitsLt_bf16_f32) w) (broadcastInDim S8320x16384 ![] bcast_S_S8320x16384 (constant S_ .f32 0x00000000#32)))
      (maximumf (Host.dotGeneral dot_S8320x4096_S4096x16384_S8320x16384_1_0_0_1_n_n none (extf .f32 x bitsLt_bf16_f32) w) (broadcastInDim S8320x16384 ![] bcast_S_S8320x16384 (constant S_ .f32 0x00000000#32)))) bitsLt_bf16_f32 : FVec Ideal S8320x16384 .bf16)
      = Cert.UpIdeal.Whole.product x w := by
  funext i
  have e : i = ix2 (i 0) (i 1) := Shape.idx_ext₂ rfl rfl
  rw [e]
  generalize i 0 = r
  generalize i 1 = ch
  pointwise [Cert.UpIdeal.Whole.product]

end Cert.UpReferenceIdeal.Whole

namespace Cert.Proof.Up

/-- The reference ends with its arguments unchanged; it declares no semaphore, so every counter is zero. -/
theorem frame_reference : Cert.quiescent_UpReferenceIdeal := fun m ρ _ =>
  (θ_run (Cert.UpReferenceIdeal.defs (F := Ideal)) _ _).mono (fun r h => ⟨fun c => (h c).2, sem_eq_zero_of_no_sems (by decide) r.2⟩)
    (Cert.UpReferenceIdeal.Value.run m ρ)

/-- The two programs end with the one product. -/
theorem results_equal : Cert.algebraic_UpIdeal_UpReferenceIdeal := by
  intro m g m' g' _ hagree
  refine ⟨fun c => Cert.UpIdeal.Whole.product (m ((c.tc : Thread _ _).loc Cert.UpIdeal.main_arg0)) (m ((c.tc : Thread _ _).loc Cert.UpIdeal.main_arg1)), ?_, ?_⟩
  · refine (θ_run (Cert.UpIdeal.defs (F := Ideal)) _ _).mono (fun r h c => ?_) (Cert.UpIdeal.Value.run_blocks m g)
    exact ⟨(h c).1.trans (Cert.UpIdeal.Whole.final m c), (h c).2⟩
  · refine (θ_run (Cert.UpReferenceIdeal.defs (F := Ideal)) _ _).mono (fun r h c => ?_) (Cert.UpReferenceIdeal.Value.run m' g')
    refine ⟨(h c).1.trans ((Cert.UpReferenceIdeal.Whole.ref_at _ _).trans ?_), (h c).2⟩
    obtain ⟨h0, h1⟩ := hagree c
    rw [h0, h1]

end Cert.Proof.Up

end
-- ==== Proof.QEqual.lean ====
/- The query columns of the input projection: each grid point's block is the block of one whole product. -/
module

public import proofs.«01_k».proof.Defs
public import proofs.«01_k».proof.Proof.Gen.QIdeal.Frame
public import proofs.«01_k».proof.Proof.Gen.QIdeal.Value
public import proofs.«01_k».proof.Proof.Gen.QReferenceIdeal
public import proofs.«01_k».proof.Proof.Gen.QReferenceIdeal.Run
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.QIdeal.Whole

open Cert.QIdeal Cert.QIdeal.Gen

/-- The result: row `r` of the one array against column `c` of the other. -/
def product (x : Vec Ideal S8320x4096 .bf16) (w : Vec Ideal S4096x24640 .f32) : FVec Ideal S8320x4096 .f32 :=
  fun i => ∑ k : Fin 4096, x (ix2 (i 0) k) * w (ix2 k ⟨(i 1).val, by have : (i 1).val < 4096 := (i 1).isLt; omega⟩)

theorem hz : (![0, 0] : Fin 2 → Nat) = fun _ => 0 := funext fun a => by fin_cases a <;> rfl

theorem pay_at (x : Vec Ideal S1664x4096 .bf16) (w : Vec Ideal S512x4096 .f32) (r : Fin 1664) (ch : Fin 512) :
    k0_pay1 w x (ix2 r ch) = ∑ k : Fin 4096, x (ix2 r k) * w (ix2 ch k) := by
  pointwise [k0_pay1]

variable (m : (ℓ : Loc nD τ sig) → Buf (Elt Ideal) ℓ) (c : Dev nD) (t : Fin cfg0.N)

theorem out_eq : (outsAt0 m c t : Vec Ideal S1664x512 .f32) = k0_pay1 (X0_1 m c t) (iblk m c 0 t) := by
  unfold outsAt0
  frame_open
  frame_out
  try simp only [read_unread_whole]

theorem idx : ∀ t : Fin grid0.N, win0_0.index t 0 = t.val / 8 ∧ win0_0.index t 1 = 0 ∧ win0_1.index t 0 = t.val % 8 + 0 ∧ win0_1.index t 1 = 0
    ∧ win0_2.index t 0 = t.val / 8 ∧ win0_2.index t 1 = t.val % 8 ∧ True :=
  by decide +kernel

theorem x_at (r : Fin 1664) (k : Fin 4096) : (iblk m c 0 t : Vec Ideal S1664x4096 .bf16) (ix2 r k)
    = ((m ((c : Thread nD τ).loc main_arg0)) : Vec Ideal S8320x4096 .bf16) (ix2 ⟨t.val / 8 * 1664 + r.val, by have : t.val < 40 := t.isLt; omega⟩ k) := by
  rw [← V_main_arg0 m c]
  blk_point [iblk, idx t]

theorem turned_at (ch : Fin 24640) (k : Fin 4096) : (V m c main_v0 : Vec Ideal S24640x4096 .f32) (ix2 ch k)
    = ((m ((c : Thread nD τ).loc main_arg1)) : Vec Ideal S4096x24640 .f32) (ix2 k ch) := by
  simp only [V, hostOps0, List.flatten_cons, List.flatten_nil, List.append_nil, List.cons_append, List.nil_append]
  entry_read
  pointwise

theorem w_at (ch : Fin 512) (k : Fin 4096) : (X0_1 m c t : Vec Ideal S512x4096 .f32) (ix2 ch k)
    = ((m ((c : Thread nD τ).loc main_arg1)) : Vec Ideal S4096x24640 .f32) (ix2 k ⟨(t.val % 8 * 512 + ch.val), by omega⟩) := by
  refine Eq.trans ?_ (turned_at m c ⟨(t.val % 8 * 512 + ch.val), by omega⟩ k)
  have h := idx t
  refine (dif_pos (moved0_1 t (ix2 ch k : S512x4096.Idx))).trans ?_
  refine congrArg (V m c main_v0 : Vec Ideal S24640x4096 .f32) ?_
  refine Shape.idx_ext₂ ?_ ?_
  · show win0_1.index t 0 * 512 + 1 * ch.val = (t.val % 8 * 512 + ch.val)
    rw [h.2.2.1]; omega
  · show win0_1.index t 1 * 4096 + 1 * k.val = k.val
    rw [h.2.2.2.1]; omega

theorem emb_at (r : Fin 1664) (ch : Fin 512) : (((cfg0.win 2).blk t).view.emb (ix2 r ch) : S8320x4096.Idx)
    = ix2 ⟨t.val / 8 * 1664 + r.val, by have : t.val < 40 := t.isLt; omega⟩ ⟨t.val % 8 * 512 + ch.val, by omega⟩ := by
  have h := idx t
  refine Shape.idx_ext₂ ?_ ?_
  · show win0_2.index t 0 * 1664 + 1 * r.val = t.val / 8 * 1664 + r.val
    rw [h.2.2.2.2.1, one_mul]
  · show win0_2.index t 1 * 512 + 1 * ch.val = t.val % 8 * 512 + ch.val
    rw [h.2.2.2.2.2.1, one_mul]

theorem flushed_at (r : Fin 1664) (ch : Fin 512) : (dats m 0 c).flushed 2 t (ix2 r ch)
    = product (m ((c : Thread nD τ).loc main_arg0)) (m ((c : Thread nD τ).loc main_arg1)) (((cfg0.win 2).blk t).view.emb (ix2 r ch)) := by
  rw [Cert.QIdeal.Value.flushed2, emb_at]
  show (outsAt0 m c t : Vec Ideal S1664x512 .f32) (ix2 r ch) = _
  rw [out_eq, pay_at]
  simp only [x_at, w_at]
  rfl

theorem flushed_eq : (dats m 0 c).flushed 2 t
    = ((cfg0.win 2).blk t).view.read (Elt Ideal) (product (m ((c : Thread nD τ).loc main_arg0)) (m ((c : Thread nD τ).loc main_arg1))) := by
  funext y
  have e : y = (ix2 (y 0) (y 1) : S1664x512.Idx) := Shape.idx_ext₂ rfl rfl
  rw [e]
  exact flushed_at m c t (y 0) (y 1)

theorem cover (i : S8320x4096.Idx) : ∃ t : Fin cfg0.N, (cfg0.win 2).flush t = true ∧ i ∈ ((cfg0.win 2).blk t).view.set := by
  have h0 : (i 0).val < 8320 := (i 0).isLt
  have h1 : (i 1).val < 4096 := (i 1).isLt
  have ht : (i 0).val / 1664 * 8 + (i 1).val / 512 < cfg0.N := by have : cfg0.N = 40 := N_0; omega
  refine ⟨⟨(i 0).val / 1664 * 8 + (i 1).val / 512, ht⟩, flush0_2 _, ?_⟩
  have e : i = ((cfg0.win 2).blk ⟨(i 0).val / 1664 * 8 + (i 1).val / 512, ht⟩).view.emb
      (ix2 ⟨(i 0).val % 1664, Nat.mod_lt _ (by decide)⟩ ⟨(i 1).val % 512, Nat.mod_lt _ (by decide)⟩ : S1664x512.Idx) := by
    rw [emb_at]
    refine Shape.idx_ext₂ ?_ ?_
    · show (i 0).val = ((i 0).val / 1664 * 8 + (i 1).val / 512) / 8 * 1664 + (i 0).val % 1664
      omega
    · show (i 1).val = ((i 0).val / 1664 * 8 + (i 1).val / 512) % 8 * 512 + (i 1).val % 512
      omega
  have hm := View.emb_mem_set ((cfg0.win 2).blk ⟨(i 0).val / 1664 * 8 + (i 1).val / 512, ht⟩).view
    (ix2 ⟨(i 0).val % 1664, Nat.mod_lt _ (by decide)⟩ ⟨(i 1).val % 512, Nat.mod_lt _ (by decide)⟩ : S1664x512.Idx)
  rw [← e] at hm
  exact hm

theorem final : (dats m 0 c).arrAt 2 cfg0.N = product (m ((c : Thread nD τ).loc main_arg0)) (m ((c : Thread nD τ).loc main_arg1)) :=
  (dats m 0 c).arrAt_eq_of_cover 2 _ (fun t _ => flushed_eq m c t) cover

end Cert.QIdeal.Whole

namespace Cert.QReferenceIdeal.Whole

open Cert.QReferenceIdeal Cert.QReferenceIdeal.Gen

theorem ref_at (x : FVec Ideal S8320x4096 .bf16) (w : FVec Ideal S4096x24640 .f32) :
    (extractStridedSlice S8320x4096 ![0, 0] (Host.dotGeneral dot_S8320x4096_S4096x24640_S8320x24640_1_0_0_1_n_n none (extf .f32 x bitsLt_bf16_f32) w) slices_S8320x24640_S8320x4096_0_0 : FVec Ideal S8320x4096 .f32) = Cert.QIdeal.Whole.product x w := by
  funext i
  have e : i = ix2 (i 0) (i 1) := Shape.idx_ext₂ rfl rfl
  rw [e]
  generalize i 0 = r
  generalize i 1 = ch
  pointwise [Cert.QIdeal.Whole.product]

end Cert.QReferenceIdeal.Whole

namespace Cert.Proof.Q

/-- The reference ends with its arguments unchanged; it declares no semaphore, so every counter is zero. -/
theorem frame_reference : Cert.quiescent_QReferenceIdeal := fun m ρ _ =>
  (θ_run (Cert.QReferenceIdeal.defs (F := Ideal)) _ _).mono (fun r h => ⟨fun c => (h c).2, sem_eq_zero_of_no_sems (by decide) r.2⟩)
    (Cert.QReferenceIdeal.Value.run m ρ)

/-- The two programs end with the one array. -/
theorem results_equal : Cert.algebraic_QIdeal_QReferenceIdeal := by
  intro m g m' g' _ hagree
  refine ⟨fun c => Cert.QIdeal.Whole.product (m ((c.tc : Thread _ _).loc Cert.QIdeal.main_arg0)) (m ((c.tc : Thread _ _).loc Cert.QIdeal.main_arg1)), ?_, ?_⟩
  · refine (θ_run (Cert.QIdeal.defs (F := Ideal)) _ _).mono (fun r h c => ?_) (Cert.QIdeal.Value.run_blocks m g)
    exact ⟨(h c).1.trans (Cert.QIdeal.Whole.final m c), (h c).2⟩
  · refine (θ_run (Cert.QReferenceIdeal.defs (F := Ideal)) _ _).mono (fun r h c => ?_) (Cert.QReferenceIdeal.Value.run m' g')
    refine ⟨(h c).1.trans ((Cert.QReferenceIdeal.Whole.ref_at _ _).trans ?_), (h c).2⟩
    obtain ⟨h0, h1⟩ := hagree c
    rw [h0, h1]

end Cert.Proof.Q

end
-- ==== Proof.KvEqual.lean ====
/- The key and value columns of the input projection: each grid point's block is the block of one whole product. -/
module

public import proofs.«01_k».proof.Defs
public import proofs.«01_k».proof.Proof.Gen.KvIdeal.Frame
public import proofs.«01_k».proof.Proof.Gen.KvIdeal.Value
public import proofs.«01_k».proof.Proof.Gen.KvReferenceIdeal
public import proofs.«01_k».proof.Proof.Gen.KvReferenceIdeal.Run
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.KvIdeal.Whole

open Cert.KvIdeal Cert.KvIdeal.Gen

/-- The result: row `r` of the one array against column `4096 + c` of the other. -/
def product (x : Vec Ideal S8320x4096 .bf16) (w : Vec Ideal S4096x24640 .f32) : FVec Ideal S8320x2048 .f32 :=
  fun i => ∑ k : Fin 4096, x (ix2 (i 0) k) * w (ix2 k ⟨4096 + (i 1).val, by have : (i 1).val < 2048 := (i 1).isLt; omega⟩)

theorem hz : (![0, 0] : Fin 2 → Nat) = fun _ => 0 := funext fun a => by fin_cases a <;> rfl

theorem pay_at (x : Vec Ideal S1664x4096 .bf16) (w : Vec Ideal S512x4096 .f32) (r : Fin 1664) (ch : Fin 512) :
    k0_pay1 w x (ix2 r ch) = ∑ k : Fin 4096, x (ix2 r k) * w (ix2 ch k) := by
  pointwise [k0_pay1]

variable (m : (ℓ : Loc nD τ sig) → Buf (Elt Ideal) ℓ) (c : Dev nD) (t : Fin cfg0.N)

theorem out_eq : (outsAt0 m c t : Vec Ideal S1664x512 .f32) = k0_pay1 (X0_1 m c t) (iblk m c 0 t) := by
  unfold outsAt0
  frame_open
  frame_out
  try simp only [read_unread_whole]

theorem idx : ∀ t : Fin grid0.N, win0_0.index t 0 = t.val / 4 ∧ win0_0.index t 1 = 0 ∧ win0_1.index t 0 = t.val % 4 + 8 ∧ win0_1.index t 1 = 0
    ∧ win0_2.index t 0 = t.val / 4 ∧ win0_2.index t 1 = t.val % 4 ∧ True :=
  by decide +kernel

theorem x_at (r : Fin 1664) (k : Fin 4096) : (iblk m c 0 t : Vec Ideal S1664x4096 .bf16) (ix2 r k)
    = ((m ((c : Thread nD τ).loc main_arg0)) : Vec Ideal S8320x4096 .bf16) (ix2 ⟨t.val / 4 * 1664 + r.val, by have : t.val < 20 := t.isLt; omega⟩ k) := by
  rw [← V_main_arg0 m c]
  blk_point [iblk, idx t]

theorem turned_at (ch : Fin 24640) (k : Fin 4096) : (V m c main_v0 : Vec Ideal S24640x4096 .f32) (ix2 ch k)
    = ((m ((c : Thread nD τ).loc main_arg1)) : Vec Ideal S4096x24640 .f32) (ix2 k ch) := by
  simp only [V, hostOps0, List.flatten_cons, List.flatten_nil, List.append_nil, List.cons_append, List.nil_append]
  entry_read
  pointwise

theorem w_at (ch : Fin 512) (k : Fin 4096) : (X0_1 m c t : Vec Ideal S512x4096 .f32) (ix2 ch k)
    = ((m ((c : Thread nD τ).loc main_arg1)) : Vec Ideal S4096x24640 .f32) (ix2 k ⟨4096 + (t.val % 4 * 512 + ch.val), by omega⟩) := by
  refine Eq.trans ?_ (turned_at m c ⟨4096 + (t.val % 4 * 512 + ch.val), by omega⟩ k)
  have h := idx t
  refine (dif_pos (moved0_1 t (ix2 ch k : S512x4096.Idx))).trans ?_
  refine congrArg (V m c main_v0 : Vec Ideal S24640x4096 .f32) ?_
  refine Shape.idx_ext₂ ?_ ?_
  · show win0_1.index t 0 * 512 + 1 * ch.val = 4096 + (t.val % 4 * 512 + ch.val)
    rw [h.2.2.1]; omega
  · show win0_1.index t 1 * 4096 + 1 * k.val = k.val
    rw [h.2.2.2.1]; omega

theorem emb_at (r : Fin 1664) (ch : Fin 512) : (((cfg0.win 2).blk t).view.emb (ix2 r ch) : S8320x2048.Idx)
    = ix2 ⟨t.val / 4 * 1664 + r.val, by have : t.val < 20 := t.isLt; omega⟩ ⟨t.val % 4 * 512 + ch.val, by omega⟩ := by
  have h := idx t
  refine Shape.idx_ext₂ ?_ ?_
  · show win0_2.index t 0 * 1664 + 1 * r.val = t.val / 4 * 1664 + r.val
    rw [h.2.2.2.2.1, one_mul]
  · show win0_2.index t 1 * 512 + 1 * ch.val = t.val % 4 * 512 + ch.val
    rw [h.2.2.2.2.2.1, one_mul]

theorem flushed_at (r : Fin 1664) (ch : Fin 512) : (dats m 0 c).flushed 2 t (ix2 r ch)
    = product (m ((c : Thread nD τ).loc main_arg0)) (m ((c : Thread nD τ).loc main_arg1)) (((cfg0.win 2).blk t).view.emb (ix2 r ch)) := by
  rw [Cert.KvIdeal.Value.flushed2, emb_at]
  show (outsAt0 m c t : Vec Ideal S1664x512 .f32) (ix2 r ch) = _
  rw [out_eq, pay_at]
  simp only [x_at, w_at]
  rfl

theorem flushed_eq : (dats m 0 c).flushed 2 t
    = ((cfg0.win 2).blk t).view.read (Elt Ideal) (product (m ((c : Thread nD τ).loc main_arg0)) (m ((c : Thread nD τ).loc main_arg1))) := by
  funext y
  have e : y = (ix2 (y 0) (y 1) : S1664x512.Idx) := Shape.idx_ext₂ rfl rfl
  rw [e]
  exact flushed_at m c t (y 0) (y 1)

theorem cover (i : S8320x2048.Idx) : ∃ t : Fin cfg0.N, (cfg0.win 2).flush t = true ∧ i ∈ ((cfg0.win 2).blk t).view.set := by
  have h0 : (i 0).val < 8320 := (i 0).isLt
  have h1 : (i 1).val < 2048 := (i 1).isLt
  have ht : (i 0).val / 1664 * 4 + (i 1).val / 512 < cfg0.N := by have : cfg0.N = 20 := N_0; omega
  refine ⟨⟨(i 0).val / 1664 * 4 + (i 1).val / 512, ht⟩, flush0_2 _, ?_⟩
  have e : i = ((cfg0.win 2).blk ⟨(i 0).val / 1664 * 4 + (i 1).val / 512, ht⟩).view.emb
      (ix2 ⟨(i 0).val % 1664, Nat.mod_lt _ (by decide)⟩ ⟨(i 1).val % 512, Nat.mod_lt _ (by decide)⟩ : S1664x512.Idx) := by
    rw [emb_at]
    refine Shape.idx_ext₂ ?_ ?_
    · show (i 0).val = ((i 0).val / 1664 * 4 + (i 1).val / 512) / 4 * 1664 + (i 0).val % 1664
      omega
    · show (i 1).val = ((i 0).val / 1664 * 4 + (i 1).val / 512) % 4 * 512 + (i 1).val % 512
      omega
  have hm := View.emb_mem_set ((cfg0.win 2).blk ⟨(i 0).val / 1664 * 4 + (i 1).val / 512, ht⟩).view
    (ix2 ⟨(i 0).val % 1664, Nat.mod_lt _ (by decide)⟩ ⟨(i 1).val % 512, Nat.mod_lt _ (by decide)⟩ : S1664x512.Idx)
  rw [← e] at hm
  exact hm

theorem final : (dats m 0 c).arrAt 2 cfg0.N = product (m ((c : Thread nD τ).loc main_arg0)) (m ((c : Thread nD τ).loc main_arg1)) :=
  (dats m 0 c).arrAt_eq_of_cover 2 _ (fun t _ => flushed_eq m c t) cover

end Cert.KvIdeal.Whole

namespace Cert.KvReferenceIdeal.Whole

open Cert.KvReferenceIdeal Cert.KvReferenceIdeal.Gen

theorem ref_at (x : FVec Ideal S8320x4096 .bf16) (w : FVec Ideal S4096x24640 .f32) :
    (extractStridedSlice S8320x2048 ![0, 4096] (Host.dotGeneral dot_S8320x4096_S4096x24640_S8320x24640_1_0_0_1_n_n none (extf .f32 x bitsLt_bf16_f32) w) slices_S8320x24640_S8320x2048_0_4096 : FVec Ideal S8320x2048 .f32) = Cert.KvIdeal.Whole.product x w := by
  funext i
  have e : i = ix2 (i 0) (i 1) := Shape.idx_ext₂ rfl rfl
  rw [e]
  generalize i 0 = r
  generalize i 1 = ch
  pointwise [Cert.KvIdeal.Whole.product]

end Cert.KvReferenceIdeal.Whole

namespace Cert.Proof.Kv

/-- The reference ends with its arguments unchanged; it declares no semaphore, so every counter is zero. -/
theorem frame_reference : Cert.quiescent_KvReferenceIdeal := fun m ρ _ =>
  (θ_run (Cert.KvReferenceIdeal.defs (F := Ideal)) _ _).mono (fun r h => ⟨fun c => (h c).2, sem_eq_zero_of_no_sems (by decide) r.2⟩)
    (Cert.KvReferenceIdeal.Value.run m ρ)

/-- The two programs end with the one array. -/
theorem results_equal : Cert.algebraic_KvIdeal_KvReferenceIdeal := by
  intro m g m' g' _ hagree
  refine ⟨fun c => Cert.KvIdeal.Whole.product (m ((c.tc : Thread _ _).loc Cert.KvIdeal.main_arg0)) (m ((c.tc : Thread _ _).loc Cert.KvIdeal.main_arg1)), ?_, ?_⟩
  · refine (θ_run (Cert.KvIdeal.defs (F := Ideal)) _ _).mono (fun r h c => ?_) (Cert.KvIdeal.Value.run_blocks m g)
    exact ⟨(h c).1.trans (Cert.KvIdeal.Whole.final m c), (h c).2⟩
  · refine (θ_run (Cert.KvReferenceIdeal.defs (F := Ideal)) _ _).mono (fun r h c => ?_) (Cert.KvReferenceIdeal.Value.run m' g')
    refine ⟨(h c).1.trans ((Cert.KvReferenceIdeal.Whole.ref_at _ _).trans ?_), (h c).2⟩
    obtain ⟨h0, h1⟩ := hagree c
    rw [h0, h1]

end Cert.Proof.Kv

end
-- ==== Proof.ZEqual.lean ====
/- The gate columns of the recurrence in the input projection: each grid point's block is the block of one whole product. -/
module

public import proofs.«01_k».proof.Defs
public import proofs.«01_k».proof.Proof.Gen.ZIdeal.Frame
public import proofs.«01_k».proof.Proof.Gen.ZIdeal.Value
public import proofs.«01_k».proof.Proof.Gen.ZReferenceIdeal
public import proofs.«01_k».proof.Proof.Gen.ZReferenceIdeal.Run
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.ZIdeal.Whole

open Cert.ZIdeal Cert.ZIdeal.Gen

/-- The result: row `r` of the one array against column `6144 + c` of the other. -/
def product (x : Vec Ideal S8320x4096 .bf16) (w : Vec Ideal S4096x24640 .f32) : FVec Ideal S8320x4096 .f32 :=
  fun i => ∑ k : Fin 4096, x (ix2 (i 0) k) * w (ix2 k ⟨6144 + (i 1).val, by have : (i 1).val < 4096 := (i 1).isLt; omega⟩)

theorem hz : (![0, 0] : Fin 2 → Nat) = fun _ => 0 := funext fun a => by fin_cases a <;> rfl

theorem pay_at (x : Vec Ideal S1664x4096 .bf16) (w : Vec Ideal S512x4096 .f32) (r : Fin 1664) (ch : Fin 512) :
    k0_pay1 w x (ix2 r ch) = ∑ k : Fin 4096, x (ix2 r k) * w (ix2 ch k) := by
  pointwise [k0_pay1]

variable (m : (ℓ : Loc nD τ sig) → Buf (Elt Ideal) ℓ) (c : Dev nD) (t : Fin cfg0.N)

theorem out_eq : (outsAt0 m c t : Vec Ideal S1664x512 .f32) = k0_pay1 (X0_1 m c t) (iblk m c 0 t) := by
  unfold outsAt0
  frame_open
  frame_out
  try simp only [read_unread_whole]

theorem idx : ∀ t : Fin grid0.N, win0_0.index t 0 = t.val / 8 ∧ win0_0.index t 1 = 0 ∧ win0_1.index t 0 = t.val % 8 + 12 ∧ win0_1.index t 1 = 0
    ∧ win0_2.index t 0 = t.val / 8 ∧ win0_2.index t 1 = t.val % 8 ∧ True :=
  by decide +kernel

theorem x_at (r : Fin 1664) (k : Fin 4096) : (iblk m c 0 t : Vec Ideal S1664x4096 .bf16) (ix2 r k)
    = ((m ((c : Thread nD τ).loc main_arg0)) : Vec Ideal S8320x4096 .bf16) (ix2 ⟨t.val / 8 * 1664 + r.val, by have : t.val < 40 := t.isLt; omega⟩ k) := by
  rw [← V_main_arg0 m c]
  blk_point [iblk, idx t]

theorem turned_at (ch : Fin 24640) (k : Fin 4096) : (V m c main_v0 : Vec Ideal S24640x4096 .f32) (ix2 ch k)
    = ((m ((c : Thread nD τ).loc main_arg1)) : Vec Ideal S4096x24640 .f32) (ix2 k ch) := by
  simp only [V, hostOps0, List.flatten_cons, List.flatten_nil, List.append_nil, List.cons_append, List.nil_append]
  entry_read
  pointwise

theorem w_at (ch : Fin 512) (k : Fin 4096) : (X0_1 m c t : Vec Ideal S512x4096 .f32) (ix2 ch k)
    = ((m ((c : Thread nD τ).loc main_arg1)) : Vec Ideal S4096x24640 .f32) (ix2 k ⟨6144 + (t.val % 8 * 512 + ch.val), by omega⟩) := by
  refine Eq.trans ?_ (turned_at m c ⟨6144 + (t.val % 8 * 512 + ch.val), by omega⟩ k)
  have h := idx t
  refine (dif_pos (moved0_1 t (ix2 ch k : S512x4096.Idx))).trans ?_
  refine congrArg (V m c main_v0 : Vec Ideal S24640x4096 .f32) ?_
  refine Shape.idx_ext₂ ?_ ?_
  · show win0_1.index t 0 * 512 + 1 * ch.val = 6144 + (t.val % 8 * 512 + ch.val)
    rw [h.2.2.1]; omega
  · show win0_1.index t 1 * 4096 + 1 * k.val = k.val
    rw [h.2.2.2.1]; omega

theorem emb_at (r : Fin 1664) (ch : Fin 512) : (((cfg0.win 2).blk t).view.emb (ix2 r ch) : S8320x4096.Idx)
    = ix2 ⟨t.val / 8 * 1664 + r.val, by have : t.val < 40 := t.isLt; omega⟩ ⟨t.val % 8 * 512 + ch.val, by omega⟩ := by
  have h := idx t
  refine Shape.idx_ext₂ ?_ ?_
  · show win0_2.index t 0 * 1664 + 1 * r.val = t.val / 8 * 1664 + r.val
    rw [h.2.2.2.2.1, one_mul]
  · show win0_2.index t 1 * 512 + 1 * ch.val = t.val % 8 * 512 + ch.val
    rw [h.2.2.2.2.2.1, one_mul]

theorem flushed_at (r : Fin 1664) (ch : Fin 512) : (dats m 0 c).flushed 2 t (ix2 r ch)
    = product (m ((c : Thread nD τ).loc main_arg0)) (m ((c : Thread nD τ).loc main_arg1)) (((cfg0.win 2).blk t).view.emb (ix2 r ch)) := by
  rw [Cert.ZIdeal.Value.flushed2, emb_at]
  show (outsAt0 m c t : Vec Ideal S1664x512 .f32) (ix2 r ch) = _
  rw [out_eq, pay_at]
  simp only [x_at, w_at]
  rfl

theorem flushed_eq : (dats m 0 c).flushed 2 t
    = ((cfg0.win 2).blk t).view.read (Elt Ideal) (product (m ((c : Thread nD τ).loc main_arg0)) (m ((c : Thread nD τ).loc main_arg1))) := by
  funext y
  have e : y = (ix2 (y 0) (y 1) : S1664x512.Idx) := Shape.idx_ext₂ rfl rfl
  rw [e]
  exact flushed_at m c t (y 0) (y 1)

theorem cover (i : S8320x4096.Idx) : ∃ t : Fin cfg0.N, (cfg0.win 2).flush t = true ∧ i ∈ ((cfg0.win 2).blk t).view.set := by
  have h0 : (i 0).val < 8320 := (i 0).isLt
  have h1 : (i 1).val < 4096 := (i 1).isLt
  have ht : (i 0).val / 1664 * 8 + (i 1).val / 512 < cfg0.N := by have : cfg0.N = 40 := N_0; omega
  refine ⟨⟨(i 0).val / 1664 * 8 + (i 1).val / 512, ht⟩, flush0_2 _, ?_⟩
  have e : i = ((cfg0.win 2).blk ⟨(i 0).val / 1664 * 8 + (i 1).val / 512, ht⟩).view.emb
      (ix2 ⟨(i 0).val % 1664, Nat.mod_lt _ (by decide)⟩ ⟨(i 1).val % 512, Nat.mod_lt _ (by decide)⟩ : S1664x512.Idx) := by
    rw [emb_at]
    refine Shape.idx_ext₂ ?_ ?_
    · show (i 0).val = ((i 0).val / 1664 * 8 + (i 1).val / 512) / 8 * 1664 + (i 0).val % 1664
      omega
    · show (i 1).val = ((i 0).val / 1664 * 8 + (i 1).val / 512) % 8 * 512 + (i 1).val % 512
      omega
  have hm := View.emb_mem_set ((cfg0.win 2).blk ⟨(i 0).val / 1664 * 8 + (i 1).val / 512, ht⟩).view
    (ix2 ⟨(i 0).val % 1664, Nat.mod_lt _ (by decide)⟩ ⟨(i 1).val % 512, Nat.mod_lt _ (by decide)⟩ : S1664x512.Idx)
  rw [← e] at hm
  exact hm

theorem final : (dats m 0 c).arrAt 2 cfg0.N = product (m ((c : Thread nD τ).loc main_arg0)) (m ((c : Thread nD τ).loc main_arg1)) :=
  (dats m 0 c).arrAt_eq_of_cover 2 _ (fun t _ => flushed_eq m c t) cover

end Cert.ZIdeal.Whole

namespace Cert.ZReferenceIdeal.Whole

open Cert.ZReferenceIdeal Cert.ZReferenceIdeal.Gen

theorem ref_at (x : FVec Ideal S8320x4096 .bf16) (w : FVec Ideal S4096x24640 .f32) :
    (extractStridedSlice S8320x4096 ![0, 6144] (Host.dotGeneral dot_S8320x4096_S4096x24640_S8320x24640_1_0_0_1_n_n none (extf .f32 x bitsLt_bf16_f32) w) slices_S8320x24640_S8320x4096_0_6144 : FVec Ideal S8320x4096 .f32) = Cert.ZIdeal.Whole.product x w := by
  funext i
  have e : i = ix2 (i 0) (i 1) := Shape.idx_ext₂ rfl rfl
  rw [e]
  generalize i 0 = r
  generalize i 1 = ch
  pointwise [Cert.ZIdeal.Whole.product]

end Cert.ZReferenceIdeal.Whole

namespace Cert.Proof.Z

/-- The reference ends with its arguments unchanged; it declares no semaphore, so every counter is zero. -/
theorem frame_reference : Cert.quiescent_ZReferenceIdeal := fun m ρ _ =>
  (θ_run (Cert.ZReferenceIdeal.defs (F := Ideal)) _ _).mono (fun r h => ⟨fun c => (h c).2, sem_eq_zero_of_no_sems (by decide) r.2⟩)
    (Cert.ZReferenceIdeal.Value.run m ρ)

/-- The two programs end with the one array. -/
theorem results_equal : Cert.algebraic_ZIdeal_ZReferenceIdeal := by
  intro m g m' g' _ hagree
  refine ⟨fun c => Cert.ZIdeal.Whole.product (m ((c.tc : Thread _ _).loc Cert.ZIdeal.main_arg0)) (m ((c.tc : Thread _ _).loc Cert.ZIdeal.main_arg1)), ?_, ?_⟩
  · refine (θ_run (Cert.ZIdeal.defs (F := Ideal)) _ _).mono (fun r h c => ?_) (Cert.ZIdeal.Value.run_blocks m g)
    exact ⟨(h c).1.trans (Cert.ZIdeal.Whole.final m c), (h c).2⟩
  · refine (θ_run (Cert.ZReferenceIdeal.defs (F := Ideal)) _ _).mono (fun r h c => ?_) (Cert.ZReferenceIdeal.Value.run m' g')
    refine ⟨(h c).1.trans ((Cert.ZReferenceIdeal.Whole.ref_at _ _).trans ?_), (h c).2⟩
    obtain ⟨h0, h1⟩ := hagree c
    rw [h0, h1]

end Cert.Proof.Z

end
-- ==== Proof.XbcEqual.lean ====
/- The convolution's columns of the input projection: each grid point's block is the block of one whole product. -/
module

public import proofs.«01_k».proof.Defs
public import proofs.«01_k».proof.Proof.Gen.XbcIdeal.Frame
public import proofs.«01_k».proof.Proof.Gen.XbcIdeal.Value
public import proofs.«01_k».proof.Proof.Gen.XbcReferenceIdeal
public import proofs.«01_k».proof.Proof.Gen.XbcReferenceIdeal.Run
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.XbcIdeal.Whole

open Cert.XbcIdeal Cert.XbcIdeal.Gen

/-- The result: row `r` of the one array against column `10240 + c` of the other. -/
def product (x : Vec Ideal S8320x4096 .bf16) (w : Vec Ideal S4096x24640 .f32) : FVec Ideal S8320x6144 .f32 :=
  fun i => ∑ k : Fin 4096, x (ix2 (i 0) k) * w (ix2 k ⟨10240 + (i 1).val, by have : (i 1).val < 6144 := (i 1).isLt; omega⟩)

theorem hz : (![0, 0] : Fin 2 → Nat) = fun _ => 0 := funext fun a => by fin_cases a <;> rfl

theorem pay_at (x : Vec Ideal S1664x4096 .bf16) (w : Vec Ideal S512x4096 .f32) (r : Fin 1664) (ch : Fin 512) :
    k0_pay1 w x (ix2 r ch) = ∑ k : Fin 4096, x (ix2 r k) * w (ix2 ch k) := by
  pointwise [k0_pay1]

variable (m : (ℓ : Loc nD τ sig) → Buf (Elt Ideal) ℓ) (c : Dev nD) (t : Fin cfg0.N)

theorem out_eq : (outsAt0 m c t : Vec Ideal S1664x512 .f32) = k0_pay1 (X0_1 m c t) (iblk m c 0 t) := by
  unfold outsAt0
  frame_open
  frame_out
  try simp only [read_unread_whole]

theorem idx : ∀ t : Fin grid0.N, win0_0.index t 0 = t.val / 12 ∧ win0_0.index t 1 = 0 ∧ win0_1.index t 0 = t.val % 12 + 20 ∧ win0_1.index t 1 = 0
    ∧ win0_2.index t 0 = t.val / 12 ∧ win0_2.index t 1 = t.val % 12 ∧ True :=
  by decide +kernel

theorem x_at (r : Fin 1664) (k : Fin 4096) : (iblk m c 0 t : Vec Ideal S1664x4096 .bf16) (ix2 r k)
    = ((m ((c : Thread nD τ).loc main_arg0)) : Vec Ideal S8320x4096 .bf16) (ix2 ⟨t.val / 12 * 1664 + r.val, by have : t.val < 60 := t.isLt; omega⟩ k) := by
  rw [← V_main_arg0 m c]
  blk_point [iblk, idx t]

theorem turned_at (ch : Fin 24640) (k : Fin 4096) : (V m c main_v0 : Vec Ideal S24640x4096 .f32) (ix2 ch k)
    = ((m ((c : Thread nD τ).loc main_arg1)) : Vec Ideal S4096x24640 .f32) (ix2 k ch) := by
  simp only [V, hostOps0, List.flatten_cons, List.flatten_nil, List.append_nil, List.cons_append, List.nil_append]
  entry_read
  pointwise

theorem w_at (ch : Fin 512) (k : Fin 4096) : (X0_1 m c t : Vec Ideal S512x4096 .f32) (ix2 ch k)
    = ((m ((c : Thread nD τ).loc main_arg1)) : Vec Ideal S4096x24640 .f32) (ix2 k ⟨10240 + (t.val % 12 * 512 + ch.val), by omega⟩) := by
  refine Eq.trans ?_ (turned_at m c ⟨10240 + (t.val % 12 * 512 + ch.val), by omega⟩ k)
  have h := idx t
  refine (dif_pos (moved0_1 t (ix2 ch k : S512x4096.Idx))).trans ?_
  refine congrArg (V m c main_v0 : Vec Ideal S24640x4096 .f32) ?_
  refine Shape.idx_ext₂ ?_ ?_
  · show win0_1.index t 0 * 512 + 1 * ch.val = 10240 + (t.val % 12 * 512 + ch.val)
    rw [h.2.2.1]; omega
  · show win0_1.index t 1 * 4096 + 1 * k.val = k.val
    rw [h.2.2.2.1]; omega

theorem emb_at (r : Fin 1664) (ch : Fin 512) : (((cfg0.win 2).blk t).view.emb (ix2 r ch) : S8320x6144.Idx)
    = ix2 ⟨t.val / 12 * 1664 + r.val, by have : t.val < 60 := t.isLt; omega⟩ ⟨t.val % 12 * 512 + ch.val, by omega⟩ := by
  have h := idx t
  refine Shape.idx_ext₂ ?_ ?_
  · show win0_2.index t 0 * 1664 + 1 * r.val = t.val / 12 * 1664 + r.val
    rw [h.2.2.2.2.1, one_mul]
  · show win0_2.index t 1 * 512 + 1 * ch.val = t.val % 12 * 512 + ch.val
    rw [h.2.2.2.2.2.1, one_mul]

theorem flushed_at (r : Fin 1664) (ch : Fin 512) : (dats m 0 c).flushed 2 t (ix2 r ch)
    = product (m ((c : Thread nD τ).loc main_arg0)) (m ((c : Thread nD τ).loc main_arg1)) (((cfg0.win 2).blk t).view.emb (ix2 r ch)) := by
  rw [Cert.XbcIdeal.Value.flushed2, emb_at]
  show (outsAt0 m c t : Vec Ideal S1664x512 .f32) (ix2 r ch) = _
  rw [out_eq, pay_at]
  simp only [x_at, w_at]
  rfl

theorem flushed_eq : (dats m 0 c).flushed 2 t
    = ((cfg0.win 2).blk t).view.read (Elt Ideal) (product (m ((c : Thread nD τ).loc main_arg0)) (m ((c : Thread nD τ).loc main_arg1))) := by
  funext y
  have e : y = (ix2 (y 0) (y 1) : S1664x512.Idx) := Shape.idx_ext₂ rfl rfl
  rw [e]
  exact flushed_at m c t (y 0) (y 1)

theorem cover (i : S8320x6144.Idx) : ∃ t : Fin cfg0.N, (cfg0.win 2).flush t = true ∧ i ∈ ((cfg0.win 2).blk t).view.set := by
  have h0 : (i 0).val < 8320 := (i 0).isLt
  have h1 : (i 1).val < 6144 := (i 1).isLt
  have ht : (i 0).val / 1664 * 12 + (i 1).val / 512 < cfg0.N := by have : cfg0.N = 60 := N_0; omega
  refine ⟨⟨(i 0).val / 1664 * 12 + (i 1).val / 512, ht⟩, flush0_2 _, ?_⟩
  have e : i = ((cfg0.win 2).blk ⟨(i 0).val / 1664 * 12 + (i 1).val / 512, ht⟩).view.emb
      (ix2 ⟨(i 0).val % 1664, Nat.mod_lt _ (by decide)⟩ ⟨(i 1).val % 512, Nat.mod_lt _ (by decide)⟩ : S1664x512.Idx) := by
    rw [emb_at]
    refine Shape.idx_ext₂ ?_ ?_
    · show (i 0).val = ((i 0).val / 1664 * 12 + (i 1).val / 512) / 12 * 1664 + (i 0).val % 1664
      omega
    · show (i 1).val = ((i 0).val / 1664 * 12 + (i 1).val / 512) % 12 * 512 + (i 1).val % 512
      omega
  have hm := View.emb_mem_set ((cfg0.win 2).blk ⟨(i 0).val / 1664 * 12 + (i 1).val / 512, ht⟩).view
    (ix2 ⟨(i 0).val % 1664, Nat.mod_lt _ (by decide)⟩ ⟨(i 1).val % 512, Nat.mod_lt _ (by decide)⟩ : S1664x512.Idx)
  rw [← e] at hm
  exact hm

theorem final : (dats m 0 c).arrAt 2 cfg0.N = product (m ((c : Thread nD τ).loc main_arg0)) (m ((c : Thread nD τ).loc main_arg1)) :=
  (dats m 0 c).arrAt_eq_of_cover 2 _ (fun t _ => flushed_eq m c t) cover

end Cert.XbcIdeal.Whole

namespace Cert.XbcReferenceIdeal.Whole

open Cert.XbcReferenceIdeal Cert.XbcReferenceIdeal.Gen

theorem ref_at (x : FVec Ideal S8320x4096 .bf16) (w : FVec Ideal S4096x24640 .f32) :
    (extractStridedSlice S8320x6144 ![0, 10240] (Host.dotGeneral dot_S8320x4096_S4096x24640_S8320x24640_1_0_0_1_n_n none (extf .f32 x bitsLt_bf16_f32) w) slices_S8320x24640_S8320x6144_0_10240 : FVec Ideal S8320x6144 .f32) = Cert.XbcIdeal.Whole.product x w := by
  funext i
  have e : i = ix2 (i 0) (i 1) := Shape.idx_ext₂ rfl rfl
  rw [e]
  generalize i 0 = r
  generalize i 1 = ch
  pointwise [Cert.XbcIdeal.Whole.product]

end Cert.XbcReferenceIdeal.Whole

namespace Cert.Proof.Xbc

/-- The reference ends with its arguments unchanged; it declares no semaphore, so every counter is zero. -/
theorem frame_reference : Cert.quiescent_XbcReferenceIdeal := fun m ρ _ =>
  (θ_run (Cert.XbcReferenceIdeal.defs (F := Ideal)) _ _).mono (fun r h => ⟨fun c => (h c).2, sem_eq_zero_of_no_sems (by decide) r.2⟩)
    (Cert.XbcReferenceIdeal.Value.run m ρ)

/-- The two programs end with the one array. -/
theorem results_equal : Cert.algebraic_XbcIdeal_XbcReferenceIdeal := by
  intro m g m' g' _ hagree
  refine ⟨fun c => Cert.XbcIdeal.Whole.product (m ((c.tc : Thread _ _).loc Cert.XbcIdeal.main_arg0)) (m ((c.tc : Thread _ _).loc Cert.XbcIdeal.main_arg1)), ?_, ?_⟩
  · refine (θ_run (Cert.XbcIdeal.defs (F := Ideal)) _ _).mono (fun r h c => ?_) (Cert.XbcIdeal.Value.run_blocks m g)
    exact ⟨(h c).1.trans (Cert.XbcIdeal.Whole.final m c), (h c).2⟩
  · refine (θ_run (Cert.XbcReferenceIdeal.defs (F := Ideal)) _ _).mono (fun r h c => ?_) (Cert.XbcReferenceIdeal.Value.run m' g')
    refine ⟨(h c).1.trans ((Cert.XbcReferenceIdeal.Whole.ref_at _ _).trans ?_), (h c).2⟩
    obtain ⟨h0, h1⟩ := hagree c
    rw [h0, h1]

end Cert.Proof.Xbc

end
-- ==== Proof.DtEqual.lean ====
/- The step sizes' columns of the input projection, and the 64 next to them: each grid point's block is the block of one whole product. -/
module

public import proofs.«01_k».proof.Defs
public import proofs.«01_k».proof.Proof.Gen.DtIdeal.Frame
public import proofs.«01_k».proof.Proof.Gen.DtIdeal.Value
public import proofs.«01_k».proof.Proof.Gen.DtReferenceIdeal
public import proofs.«01_k».proof.Proof.Gen.DtReferenceIdeal.Run
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.DtIdeal.Whole

open Cert.DtIdeal Cert.DtIdeal.Gen

/-- The result: row `r` of the one array against column `16384 + c` of the other. -/
def product (x : Vec Ideal S8320x4096 .bf16) (w : Vec Ideal S4096x24640 .f32) : FVec Ideal S8320x128 .f32 :=
  fun i => ∑ k : Fin 4096, x (ix2 (i 0) k) * w (ix2 k ⟨16384 + (i 1).val, by have : (i 1).val < 128 := (i 1).isLt; omega⟩)

theorem hz : (![0, 0] : Fin 2 → Nat) = fun _ => 0 := funext fun a => by fin_cases a <;> rfl

theorem pay_at (x : Vec Ideal S1664x4096 .bf16) (w : Vec Ideal S128x4096 .f32) (r : Fin 1664) (ch : Fin 128) :
    k0_pay1 w x (ix2 r ch) = ∑ k : Fin 4096, x (ix2 r k) * w (ix2 ch k) := by
  pointwise [k0_pay1]

variable (m : (ℓ : Loc nD τ sig) → Buf (Elt Ideal) ℓ) (c : Dev nD) (t : Fin cfg0.N)

theorem out_eq : (outsAt0 m c t : Vec Ideal S1664x128 .f32) = k0_pay1 (X0_1 m c t) (iblk m c 0 t) := by
  unfold outsAt0
  frame_open
  frame_out
  try simp only [read_unread_whole]

theorem idx : ∀ t : Fin grid0.N, win0_0.index t 0 = t.val ∧ win0_0.index t 1 = 0 ∧ win0_1.index t 0 = 128 ∧ win0_1.index t 1 = 0
    ∧ win0_2.index t 0 = t.val ∧ win0_2.index t 1 = 0 ∧ True :=
  by decide +kernel

theorem x_at (r : Fin 1664) (k : Fin 4096) : (iblk m c 0 t : Vec Ideal S1664x4096 .bf16) (ix2 r k)
    = ((m ((c : Thread nD τ).loc main_arg0)) : Vec Ideal S8320x4096 .bf16) (ix2 ⟨t.val * 1664 + r.val, by have : t.val < 5 := t.isLt; omega⟩ k) := by
  rw [← V_main_arg0 m c]
  blk_point [iblk, idx t]

theorem turned_at (ch : Fin 24640) (k : Fin 4096) : (V m c main_v0 : Vec Ideal S24640x4096 .f32) (ix2 ch k)
    = ((m ((c : Thread nD τ).loc main_arg1)) : Vec Ideal S4096x24640 .f32) (ix2 k ch) := by
  simp only [V, hostOps0, List.flatten_cons, List.flatten_nil, List.append_nil, List.cons_append, List.nil_append]
  entry_read
  pointwise

theorem w_at (ch : Fin 128) (k : Fin 4096) : (X0_1 m c t : Vec Ideal S128x4096 .f32) (ix2 ch k)
    = ((m ((c : Thread nD τ).loc main_arg1)) : Vec Ideal S4096x24640 .f32) (ix2 k ⟨16384 + (ch.val), by omega⟩) := by
  refine Eq.trans ?_ (turned_at m c ⟨16384 + (ch.val), by omega⟩ k)
  have h := idx t
  refine (dif_pos (moved0_1 t (ix2 ch k : S128x4096.Idx))).trans ?_
  refine congrArg (V m c main_v0 : Vec Ideal S24640x4096 .f32) ?_
  refine Shape.idx_ext₂ ?_ ?_
  · show win0_1.index t 0 * 128 + 1 * ch.val = 16384 + (ch.val)
    rw [h.2.2.1]; omega
  · show win0_1.index t 1 * 4096 + 1 * k.val = k.val
    rw [h.2.2.2.1]; omega

theorem emb_at (r : Fin 1664) (ch : Fin 128) : (((cfg0.win 2).blk t).view.emb (ix2 r ch) : S8320x128.Idx)
    = ix2 ⟨t.val * 1664 + r.val, by have : t.val < 5 := t.isLt; omega⟩ ⟨ch.val, by omega⟩ := by
  have h := idx t
  refine Shape.idx_ext₂ ?_ ?_
  · show win0_2.index t 0 * 1664 + 1 * r.val = t.val * 1664 + r.val
    rw [h.2.2.2.2.1, one_mul]
  · show win0_2.index t 1 * 128 + 1 * ch.val = ch.val
    rw [h.2.2.2.2.2.1]; omega

theorem flushed_at (r : Fin 1664) (ch : Fin 128) : (dats m 0 c).flushed 2 t (ix2 r ch)
    = product (m ((c : Thread nD τ).loc main_arg0)) (m ((c : Thread nD τ).loc main_arg1)) (((cfg0.win 2).blk t).view.emb (ix2 r ch)) := by
  rw [Cert.DtIdeal.Value.flushed2, emb_at]
  show (outsAt0 m c t : Vec Ideal S1664x128 .f32) (ix2 r ch) = _
  rw [out_eq, pay_at]
  simp only [x_at, w_at]
  rfl

theorem flushed_eq : (dats m 0 c).flushed 2 t
    = ((cfg0.win 2).blk t).view.read (Elt Ideal) (product (m ((c : Thread nD τ).loc main_arg0)) (m ((c : Thread nD τ).loc main_arg1))) := by
  funext y
  have e : y = (ix2 (y 0) (y 1) : S1664x128.Idx) := Shape.idx_ext₂ rfl rfl
  rw [e]
  exact flushed_at m c t (y 0) (y 1)

theorem cover (i : S8320x128.Idx) : ∃ t : Fin cfg0.N, (cfg0.win 2).flush t = true ∧ i ∈ ((cfg0.win 2).blk t).view.set := by
  have h0 : (i 0).val < 8320 := (i 0).isLt
  have h1 : (i 1).val < 128 := (i 1).isLt
  have ht : (i 0).val / 1664 < cfg0.N := by have : cfg0.N = 5 := N_0; omega
  refine ⟨⟨(i 0).val / 1664, ht⟩, flush0_2 _, ?_⟩
  have e : i = ((cfg0.win 2).blk ⟨(i 0).val / 1664, ht⟩).view.emb
      (ix2 ⟨(i 0).val % 1664, Nat.mod_lt _ (by decide)⟩ ⟨(i 1).val % 128, Nat.mod_lt _ (by decide)⟩ : S1664x128.Idx) := by
    rw [emb_at]
    refine Shape.idx_ext₂ ?_ ?_
    · show (i 0).val = (i 0).val / 1664 * 1664 + (i 0).val % 1664
      omega
    · show (i 1).val = (i 1).val % 128
      omega
  have hm := View.emb_mem_set ((cfg0.win 2).blk ⟨(i 0).val / 1664, ht⟩).view
    (ix2 ⟨(i 0).val % 1664, Nat.mod_lt _ (by decide)⟩ ⟨(i 1).val % 128, Nat.mod_lt _ (by decide)⟩ : S1664x128.Idx)
  rw [← e] at hm
  exact hm

theorem final : (dats m 0 c).arrAt 2 cfg0.N = product (m ((c : Thread nD τ).loc main_arg0)) (m ((c : Thread nD τ).loc main_arg1)) :=
  (dats m 0 c).arrAt_eq_of_cover 2 _ (fun t _ => flushed_eq m c t) cover

end Cert.DtIdeal.Whole

namespace Cert.DtReferenceIdeal.Whole

open Cert.DtReferenceIdeal Cert.DtReferenceIdeal.Gen

theorem ref_at (x : FVec Ideal S8320x4096 .bf16) (w : FVec Ideal S4096x24640 .f32) :
    (extractStridedSlice S8320x128 ![0, 16384] (Host.dotGeneral dot_S8320x4096_S4096x24640_S8320x24640_1_0_0_1_n_n none (extf .f32 x bitsLt_bf16_f32) w) slices_S8320x24640_S8320x128_0_16384 : FVec Ideal S8320x128 .f32) = Cert.DtIdeal.Whole.product x w := by
  funext i
  have e : i = ix2 (i 0) (i 1) := Shape.idx_ext₂ rfl rfl
  rw [e]
  generalize i 0 = r
  generalize i 1 = ch
  pointwise [Cert.DtIdeal.Whole.product]

end Cert.DtReferenceIdeal.Whole

namespace Cert.Proof.Dt

/-- The reference ends with its arguments unchanged; it declares no semaphore, so every counter is zero. -/
theorem frame_reference : Cert.quiescent_DtReferenceIdeal := fun m ρ _ =>
  (θ_run (Cert.DtReferenceIdeal.defs (F := Ideal)) _ _).mono (fun r h => ⟨fun c => (h c).2, sem_eq_zero_of_no_sems (by decide) r.2⟩)
    (Cert.DtReferenceIdeal.Value.run m ρ)

/-- The two programs end with the one array. -/
theorem results_equal : Cert.algebraic_DtIdeal_DtReferenceIdeal := by
  intro m g m' g' _ hagree
  refine ⟨fun c => Cert.DtIdeal.Whole.product (m ((c.tc : Thread _ _).loc Cert.DtIdeal.main_arg0)) (m ((c.tc : Thread _ _).loc Cert.DtIdeal.main_arg1)), ?_, ?_⟩
  · refine (θ_run (Cert.DtIdeal.defs (F := Ideal)) _ _).mono (fun r h c => ?_) (Cert.DtIdeal.Value.run_blocks m g)
    exact ⟨(h c).1.trans (Cert.DtIdeal.Whole.final m c), (h c).2⟩
  · refine (θ_run (Cert.DtReferenceIdeal.defs (F := Ideal)) _ _).mono (fun r h c => ?_) (Cert.DtReferenceIdeal.Value.run m' g')
    refine ⟨(h c).1.trans ((Cert.DtReferenceIdeal.Whole.ref_at _ _).trans ?_), (h c).2⟩
    obtain ⟨h0, h1⟩ := hagree c
    rw [h0, h1]

end Cert.Proof.Dt

end
-- ==== Proof.GatesEqual.lean ====
/- The gate columns of the input projection: the kernel takes the 64 rows that the block grid is off by from a second window, and each grid point's block is the block of one whole array. -/
module

public import proofs.«01_k».proof.Defs
public import proofs.«01_k».proof.Proof.Gen.GatesIdeal.Frame
public import proofs.«01_k».proof.Proof.Gen.GatesIdeal.Value
public import proofs.«01_k».proof.Proof.Gen.GatesReferenceIdeal
public import proofs.«01_k».proof.Proof.Gen.GatesReferenceIdeal.Run
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.GatesIdeal.Whole

open Cert.GatesIdeal Cert.GatesIdeal.Gen

/-- The result: row `r` of the one array against column `16448 + c` of the other, through the logistic function. -/
def product (x : Vec Ideal S8320x4096 .bf16) (w : Vec Ideal S4096x24640 .f32) : FVec Ideal S8320x8192 .f32 :=
  fun i => Ideal.logistic (∑ k : Fin 4096, x (ix2 (i 0) k) * w (ix2 k ⟨16448 + (i 1).val, by have : (i 1).val < 8192 := (i 1).isLt; omega⟩))

theorem pay_at (x : Vec Ideal S1664x4096 .bf16) (wa : Vec Ideal S448x4096 .f32) (wb : Vec Ideal S64x4096 .f32) (r : Fin 1664) (ch : Fin 512) :
    k0_pay1 wa wb x (ix2 r ch)
      = Ideal.logistic (∑ k : Fin 4096, x (ix2 r k) * if h : ch.val < 448 then wa (ix2 ⟨ch.val, h⟩ k) else wb (ix2 ⟨ch.val - 448, by omega⟩ k)) := by
  pointwise [k0_pay1]

variable (m : (ℓ : Loc nD τ sig) → Buf (Elt Ideal) ℓ) (c : Dev nD) (t : Fin cfg0.N)

/-- The rows of the first weight window that are used: all but the first 64. -/
def upper : Vec Ideal S448x4096 .f32 := View.ld (X0_1 m c t : Vec Ideal S512x4096 .f32) (Rect.unit ![64, 0] ![448, 4096] inb_S512x4096_S448x4096_64_0)

theorem out_eq : (outsAt0 m c t : Vec Ideal S1664x512 .f32) = k0_pay1 (upper m c t) (iblk m c 2 t) (iblk m c 0 t) := by
  unfold outsAt0 upper
  frame_open
  frame_out
  try simp only [read_unread_whole]
  rfl

theorem idx : ∀ t : Fin grid0.N, win0_0.index t 0 = t.val / 16 ∧ win0_0.index t 1 = 0 ∧ win0_1.index t 0 = t.val % 16 + 32 ∧ win0_1.index t 1 = 0
    ∧ win0_3.index t 0 = t.val / 16 ∧ win0_3.index t 1 = t.val % 16 ∧ win0_2.index t 0 = t.val % 16 * 8 + 264 ∧ win0_2.index t 1 = 0 :=
  by decide +kernel

theorem x_at (r : Fin 1664) (k : Fin 4096) : (iblk m c 0 t : Vec Ideal S1664x4096 .bf16) (ix2 r k)
    = ((m ((c : Thread nD τ).loc main_arg0)) : Vec Ideal S8320x4096 .bf16) (ix2 ⟨t.val / 16 * 1664 + r.val, by have : t.val < 80 := t.isLt; omega⟩ k) := by
  rw [← V_main_arg0 m c]
  blk_point [iblk, idx t]

theorem turned_at (ch : Fin 24640) (k : Fin 4096) : (V m c main_v0 : Vec Ideal S24640x4096 .f32) (ix2 ch k)
    = ((m ((c : Thread nD τ).loc main_arg1)) : Vec Ideal S4096x24640 .f32) (ix2 k ch) := by
  simp only [V, hostOps0, List.flatten_cons, List.flatten_nil, List.append_nil, List.cons_append, List.nil_append]
  entry_read
  pointwise

theorem upper_at (ch : Fin 448) (k : Fin 4096) : upper m c t (ix2 ch k)
    = ((m ((c : Thread nD τ).loc main_arg1)) : Vec Ideal S4096x24640 .f32) (ix2 k ⟨16448 + (t.val % 16 * 512 + ch.val), by omega⟩) := by
  refine Eq.trans ?_ (turned_at m c ⟨16448 + (t.val % 16 * 512 + ch.val), by omega⟩ k)
  have h := idx t
  have e : upper m c t (ix2 ch k) = (X0_1 m c t : Vec Ideal S512x4096 .f32) (ix2 ⟨64 + ch.val, by omega⟩ k) := by
    refine congrArg (X0_1 m c t : Vec Ideal S512x4096 .f32) ?_
    refine Shape.idx_ext₂ ?_ ?_
    · show 64 + 1 * ch.val = 64 + ch.val
      omega
    · show 0 + 1 * k.val = k.val
      omega
  refine e.trans ?_
  refine (dif_pos (moved0_1 t (ix2 ⟨64 + ch.val, by omega⟩ k : S512x4096.Idx))).trans ?_
  refine congrArg (V m c main_v0 : Vec Ideal S24640x4096 .f32) ?_
  refine Shape.idx_ext₂ ?_ ?_
  · show win0_1.index t 0 * 512 + 1 * (64 + ch.val) = 16448 + (t.val % 16 * 512 + ch.val)
    rw [h.2.2.1]; omega
  · show win0_1.index t 1 * 4096 + 1 * k.val = k.val
    rw [h.2.2.2.1]; omega

theorem lower_at (ch : Fin 64) (k : Fin 4096) : (iblk m c 2 t : Vec Ideal S64x4096 .f32) (ix2 ch k)
    = ((m ((c : Thread nD τ).loc main_arg1)) : Vec Ideal S4096x24640 .f32) (ix2 k ⟨16448 + (t.val % 16 * 512 + (448 + ch.val)), by omega⟩) := by
  refine Eq.trans ?_ (turned_at m c ⟨16448 + (t.val % 16 * 512 + (448 + ch.val)), by omega⟩ k)
  have h := idx t
  refine congrArg (V m c main_v0 : Vec Ideal S24640x4096 .f32) ?_
  refine Shape.idx_ext₂ ?_ ?_
  · show win0_2.index t 0 * 64 + 1 * ch.val = 16448 + (t.val % 16 * 512 + (448 + ch.val))
    rw [h.2.2.2.2.2.2.1]; omega
  · show win0_2.index t 1 * 4096 + 1 * k.val = k.val
    rw [h.2.2.2.2.2.2.2]; omega

theorem w_at (ch : Fin 512) (k : Fin 4096) :
    (if h : ch.val < 448 then upper m c t (ix2 ⟨ch.val, h⟩ k) else (iblk m c 2 t : Vec Ideal S64x4096 .f32) (ix2 ⟨ch.val - 448, by omega⟩ k))
      = ((m ((c : Thread nD τ).loc main_arg1)) : Vec Ideal S4096x24640 .f32) (ix2 k ⟨16448 + (t.val % 16 * 512 + ch.val), by omega⟩) := by
  by_cases h : ch.val < 448
  · rw [dif_pos h, upper_at]
  · rw [dif_neg h, lower_at]
    refine congrArg (m ((c : Thread nD τ).loc main_arg1) : Vec Ideal S4096x24640 .f32) ?_
    refine Shape.idx_ext₂ rfl ?_
    show 16448 + (t.val % 16 * 512 + (448 + (ch.val - 448))) = 16448 + (t.val % 16 * 512 + ch.val)
    omega

theorem emb_at (r : Fin 1664) (ch : Fin 512) : (((cfg0.win 3).blk t).view.emb (ix2 r ch) : S8320x8192.Idx)
    = ix2 ⟨t.val / 16 * 1664 + r.val, by have : t.val < 80 := t.isLt; omega⟩ ⟨t.val % 16 * 512 + ch.val, by omega⟩ := by
  have h := idx t
  refine Shape.idx_ext₂ ?_ ?_
  · show win0_3.index t 0 * 1664 + 1 * r.val = t.val / 16 * 1664 + r.val
    rw [h.2.2.2.2.1, one_mul]
  · show win0_3.index t 1 * 512 + 1 * ch.val = t.val % 16 * 512 + ch.val
    rw [h.2.2.2.2.2.1, one_mul]

theorem flushed_at (r : Fin 1664) (ch : Fin 512) : (dats m 0 c).flushed 3 t (ix2 r ch)
    = product (m ((c : Thread nD τ).loc main_arg0)) (m ((c : Thread nD τ).loc main_arg1)) (((cfg0.win 3).blk t).view.emb (ix2 r ch)) := by
  rw [Cert.GatesIdeal.Value.flushed3, emb_at]
  show (outsAt0 m c t : Vec Ideal S1664x512 .f32) (ix2 r ch) = _
  rw [out_eq, pay_at]
  refine congrArg Ideal.logistic (Finset.sum_congr rfl fun k _ => ?_)
  exact congrArg₂ (fun a b : EReal => a * b) (x_at m c t r k) (w_at m c t ch k)

theorem flushed_eq : (dats m 0 c).flushed 3 t
    = ((cfg0.win 3).blk t).view.read (Elt Ideal) (product (m ((c : Thread nD τ).loc main_arg0)) (m ((c : Thread nD τ).loc main_arg1))) := by
  funext y
  have e : y = (ix2 (y 0) (y 1) : S1664x512.Idx) := Shape.idx_ext₂ rfl rfl
  rw [e]
  exact flushed_at m c t (y 0) (y 1)

theorem cover (i : S8320x8192.Idx) : ∃ t : Fin cfg0.N, (cfg0.win 3).flush t = true ∧ i ∈ ((cfg0.win 3).blk t).view.set := by
  have h0 : (i 0).val < 8320 := (i 0).isLt
  have h1 : (i 1).val < 8192 := (i 1).isLt
  have ht : (i 0).val / 1664 * 16 + (i 1).val / 512 < cfg0.N := by have : cfg0.N = 80 := N_0; omega
  refine ⟨⟨(i 0).val / 1664 * 16 + (i 1).val / 512, ht⟩, flush0_3 _, ?_⟩
  have e : i = ((cfg0.win 3).blk ⟨(i 0).val / 1664 * 16 + (i 1).val / 512, ht⟩).view.emb
      (ix2 ⟨(i 0).val % 1664, Nat.mod_lt _ (by decide)⟩ ⟨(i 1).val % 512, Nat.mod_lt _ (by decide)⟩ : S1664x512.Idx) := by
    rw [emb_at]
    refine Shape.idx_ext₂ ?_ ?_
    · show (i 0).val = ((i 0).val / 1664 * 16 + (i 1).val / 512) / 16 * 1664 + (i 0).val % 1664
      omega
    · show (i 1).val = ((i 0).val / 1664 * 16 + (i 1).val / 512) % 16 * 512 + (i 1).val % 512
      omega
  have hm := View.emb_mem_set ((cfg0.win 3).blk ⟨(i 0).val / 1664 * 16 + (i 1).val / 512, ht⟩).view
    (ix2 ⟨(i 0).val % 1664, Nat.mod_lt _ (by decide)⟩ ⟨(i 1).val % 512, Nat.mod_lt _ (by decide)⟩ : S1664x512.Idx)
  rw [← e] at hm
  exact hm

theorem final : (dats m 0 c).arrAt 3 cfg0.N = product (m ((c : Thread nD τ).loc main_arg0)) (m ((c : Thread nD τ).loc main_arg1)) :=
  (dats m 0 c).arrAt_eq_of_cover 3 _ (fun t _ => flushed_eq m c t) cover

end Cert.GatesIdeal.Whole

namespace Cert.GatesReferenceIdeal.Whole

open Cert.GatesReferenceIdeal Cert.GatesReferenceIdeal.Gen

theorem ref_at (x : FVec Ideal S8320x4096 .bf16) (w : FVec Ideal S4096x24640 .f32) :
    (Host.divf (broadcastInDim S8320x8192 ![] bcast_S_S8320x8192 (constant S_ .f32 0x3F800000#32)) (addf (broadcastInDim S8320x8192 ![] bcast_S_S8320x8192 (constant S_ .f32 0x3F800000#32)) (Host.exp (Host.negf (extractStridedSlice S8320x8192 ![0, 16448] (Host.dotGeneral dot_S8320x4096_S4096x24640_S8320x24640_1_0_0_1_n_n none (extf .f32 x bitsLt_bf16_f32) w) slices_S8320x24640_S8320x8192_0_16448)))) : FVec Ideal S8320x8192 .f32) = Cert.GatesIdeal.Whole.product x w := by
  funext i
  have e : i = ix2 (i 0) (i 1) := Shape.idx_ext₂ rfl rfl
  rw [e]
  generalize i 0 = r
  generalize i 1 = ch
  pointwise [Cert.GatesIdeal.Whole.product]
  rfl

end Cert.GatesReferenceIdeal.Whole

namespace Cert.Proof.Gates

/-- The reference ends with its arguments unchanged; it declares no semaphore, so every counter is zero. -/
theorem frame_reference : Cert.quiescent_GatesReferenceIdeal := fun m ρ _ =>
  (θ_run (Cert.GatesReferenceIdeal.defs (F := Ideal)) _ _).mono (fun r h => ⟨fun c => (h c).2, sem_eq_zero_of_no_sems (by decide) r.2⟩)
    (Cert.GatesReferenceIdeal.Value.run m ρ)

/-- The two programs end with the one array. -/
theorem results_equal : Cert.algebraic_GatesIdeal_GatesReferenceIdeal := by
  intro m g m' g' _ hagree
  refine ⟨fun c => Cert.GatesIdeal.Whole.product (m ((c.tc : Thread _ _).loc Cert.GatesIdeal.main_arg0)) (m ((c.tc : Thread _ _).loc Cert.GatesIdeal.main_arg1)), ?_, ?_⟩
  · refine (θ_run (Cert.GatesIdeal.defs (F := Ideal)) _ _).mono (fun r h c => ?_) (Cert.GatesIdeal.Value.run_blocks m g)
    exact ⟨(h c).1.trans (Cert.GatesIdeal.Whole.final m c), (h c).2⟩
  · refine (θ_run (Cert.GatesReferenceIdeal.defs (F := Ideal)) _ _).mono (fun r h c => ?_) (Cert.GatesReferenceIdeal.Value.run m' g')
    refine ⟨(h c).1.trans ((Cert.GatesReferenceIdeal.Whole.ref_at _ _).trans ?_), (h c).2⟩
    obtain ⟨h0, h1⟩ := hagree c
    rw [h0, h1]

end Cert.Proof.Gates

end
-- ==== Proof.AttnOutEqual.lean ====
/- The attention output projection, gated: each grid point's block is the block of one whole product. -/
module

public import proofs.«01_k».proof.Defs
public import proofs.«01_k».proof.Proof.Gen.AttnOutIdeal.Frame
public import proofs.«01_k».proof.Proof.Gen.AttnOutIdeal.Value
public import proofs.«01_k».proof.Proof.Gen.AttnOutReferenceIdeal
public import proofs.«01_k».proof.Proof.Gen.AttnOutReferenceIdeal.Run
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.AttnOutIdeal.Whole

open Cert.AttnOutIdeal Cert.AttnOutIdeal.Gen

/-- The result: row `r` of the one array against column `c` of the other, gated. -/
def product (x : Vec Ideal S8320x4096 .bf16) (w : Vec Ideal S4096x4096 .f32) (gates : Vec Ideal S8320x8192 .f32) : FVec Ideal S8320x4096 .f32 :=
  fun i => gates (ix2 (i 0) ⟨(i 1).val, by have : (i 1).val < 4096 := (i 1).isLt; omega⟩) * (∑ k : Fin 4096, x (ix2 (i 0) k) * w (ix2 k (i 1)))

theorem hz : (![0, 0] : Fin 2 → Nat) = fun _ => 0 := funext fun a => by fin_cases a <;> rfl

theorem point (x : Vec Ideal S1040x4096 .bf16) (w : Vec Ideal S4096x512 .f32) (g : Vec Ideal S1040x512 .f32) (r : Fin 1040) (ch : Fin 512) :
    out0_3 x w g (ix2 r ch) = g (ix2 r ch) * (∑ k : Fin 4096, x (ix2 r k) * w (ix2 k ch)) := by
  unfold out0_3
  rw [View.canon_unit_zero hz, View.ld_unit_zero hz, View.ld_unit_zero hz, View.ld_unit_zero hz]
  pointwise [k0_pay1]

variable (m : (ℓ : Loc nD τ sig) → Buf (Elt Ideal) ℓ) (c : Dev nD) (t : Fin cfg0.N)

theorem idx : ∀ t : Fin grid0.N, win0_0.index t 0 = t.val / 8 ∧ win0_0.index t 1 = 0 ∧ win0_1.index t 0 = 0 ∧ win0_1.index t 1 = t.val % 8
    ∧ win0_3.index t 0 = t.val / 8 ∧ win0_3.index t 1 = t.val % 8 ∧ win0_2.index t 0 = t.val / 8 ∧ win0_2.index t 1 = t.val % 8 :=
  by decide +kernel

theorem x_at (r : Fin 1040) (k : Fin 4096) : (iblk m c 0 t : Vec Ideal S1040x4096 .bf16) (ix2 r k)
    = ((m ((c : Thread nD τ).loc main_arg0)) : Vec Ideal S8320x4096 .bf16) (ix2 ⟨t.val / 8 * 1040 + r.val, by have : t.val < 64 := t.isLt; omega⟩ k) := by
  rw [← V_main_arg0 m c]
  blk_point [iblk, idx t]

theorem w_at (k : Fin 4096) (ch : Fin 512) : (iblk m c 1 t : Vec Ideal S4096x512 .f32) (ix2 k ch)
    = ((m ((c : Thread nD τ).loc main_arg1)) : Vec Ideal S4096x4096 .f32) (ix2 k ⟨t.val % 8 * 512 + ch.val, by omega⟩) := by
  rw [← V_main_arg1 m c]
  blk_point [iblk, idx t]

theorem gates_at (r : Fin 1040) (ch : Fin 512) : (iblk m c 2 t : Vec Ideal S1040x512 .f32) (ix2 r ch)
    = ((m ((c : Thread nD τ).loc main_arg2)) : Vec Ideal S8320x8192 .f32) (ix2 ⟨t.val / 8 * 1040 + r.val, by have : t.val < 64 := t.isLt; omega⟩ ⟨(t.val % 8 * 512 + ch.val), by omega⟩) := by
  rw [← V_main_arg2 m c]
  blk_point [iblk, idx t]

theorem emb_at (r : Fin 1040) (ch : Fin 512) : (((cfg0.win 3).blk t).view.emb (ix2 r ch) : S8320x4096.Idx)
    = ix2 ⟨t.val / 8 * 1040 + r.val, by have : t.val < 64 := t.isLt; omega⟩ ⟨t.val % 8 * 512 + ch.val, by omega⟩ := by
  have h := idx t
  refine Shape.idx_ext₂ ?_ ?_
  · show win0_3.index t 0 * 1040 + 1 * r.val = t.val / 8 * 1040 + r.val
    rw [h.2.2.2.2.1, one_mul]
  · show win0_3.index t 1 * 512 + 1 * ch.val = t.val % 8 * 512 + ch.val
    rw [h.2.2.2.2.2.1, one_mul]

theorem flushed_at (r : Fin 1040) (ch : Fin 512) : (dats m 0 c).flushed 3 t (ix2 r ch)
    = product (m ((c : Thread nD τ).loc main_arg0)) (m ((c : Thread nD τ).loc main_arg1)) (m ((c : Thread nD τ).loc main_arg2)) (((cfg0.win 3).blk t).view.emb (ix2 r ch)) := by
  rw [Cert.AttnOutIdeal.Value.flushed3, emb_at]
  show out0_3 (iblk m c 0 t) (iblk m c 1 t) (iblk m c 2 t) (ix2 r ch) = _
  rw [point]
  simp only [x_at, w_at, gates_at]
  rfl

theorem flushed_eq : (dats m 0 c).flushed 3 t
    = ((cfg0.win 3).blk t).view.read (Elt Ideal) (product (m ((c : Thread nD τ).loc main_arg0)) (m ((c : Thread nD τ).loc main_arg1)) (m ((c : Thread nD τ).loc main_arg2))) := by
  funext y
  have e : y = (ix2 (y 0) (y 1) : S1040x512.Idx) := Shape.idx_ext₂ rfl rfl
  rw [e]
  exact flushed_at m c t (y 0) (y 1)

theorem cover (i : S8320x4096.Idx) : ∃ t : Fin cfg0.N, (cfg0.win 3).flush t = true ∧ i ∈ ((cfg0.win 3).blk t).view.set := by
  have h0 : (i 0).val < 8320 := (i 0).isLt
  have h1 : (i 1).val < 4096 := (i 1).isLt
  have ht : (i 0).val / 1040 * 8 + (i 1).val / 512 < cfg0.N := by have : cfg0.N = 64 := N_0; omega
  refine ⟨⟨(i 0).val / 1040 * 8 + (i 1).val / 512, ht⟩, flush0_3 _, ?_⟩
  have e : i = ((cfg0.win 3).blk ⟨(i 0).val / 1040 * 8 + (i 1).val / 512, ht⟩).view.emb
      (ix2 ⟨(i 0).val % 1040, Nat.mod_lt _ (by decide)⟩ ⟨(i 1).val % 512, Nat.mod_lt _ (by decide)⟩ : S1040x512.Idx) := by
    rw [emb_at]
    refine Shape.idx_ext₂ ?_ ?_
    · show (i 0).val = ((i 0).val / 1040 * 8 + (i 1).val / 512) / 8 * 1040 + (i 0).val % 1040
      omega
    · show (i 1).val = ((i 0).val / 1040 * 8 + (i 1).val / 512) % 8 * 512 + (i 1).val % 512
      omega
  have hm := View.emb_mem_set ((cfg0.win 3).blk ⟨(i 0).val / 1040 * 8 + (i 1).val / 512, ht⟩).view
    (ix2 ⟨(i 0).val % 1040, Nat.mod_lt _ (by decide)⟩ ⟨(i 1).val % 512, Nat.mod_lt _ (by decide)⟩ : S1040x512.Idx)
  rw [← e] at hm
  exact hm

theorem final : (dats m 0 c).arrAt 3 cfg0.N = product (m ((c : Thread nD τ).loc main_arg0)) (m ((c : Thread nD τ).loc main_arg1)) (m ((c : Thread nD τ).loc main_arg2)) :=
  (dats m 0 c).arrAt_eq_of_cover 3 _ (fun t _ => flushed_eq m c t) cover

end Cert.AttnOutIdeal.Whole

namespace Cert.AttnOutReferenceIdeal.Whole

open Cert.AttnOutReferenceIdeal Cert.AttnOutReferenceIdeal.Gen

theorem ref_at (x : FVec Ideal S8320x4096 .bf16) (w : FVec Ideal S4096x4096 .f32) (gates : FVec Ideal S8320x8192 .f32) :
    (mulf (extractStridedSlice S8320x4096 ![0, 0] gates slices_S8320x8192_S8320x4096_0_0) (Host.dotGeneral dot_S8320x4096_S4096x4096_S8320x4096_1_0_0_1_n_n none (extf .f32 x bitsLt_bf16_f32) w) : FVec Ideal S8320x4096 .f32) = Cert.AttnOutIdeal.Whole.product x w gates := by
  funext i
  have e : i = ix2 (i 0) (i 1) := Shape.idx_ext₂ rfl rfl
  rw [e]
  generalize i 0 = r
  generalize i 1 = ch
  pointwise [Cert.AttnOutIdeal.Whole.product]

end Cert.AttnOutReferenceIdeal.Whole

namespace Cert.Proof.AttnOut

/-- The reference ends with its arguments unchanged; it declares no semaphore, so every counter is zero. -/
theorem frame_reference : Cert.quiescent_AttnOutReferenceIdeal := fun m ρ _ =>
  (θ_run (Cert.AttnOutReferenceIdeal.defs (F := Ideal)) _ _).mono (fun r h => ⟨fun c => (h c).2, sem_eq_zero_of_no_sems (by decide) r.2⟩)
    (Cert.AttnOutReferenceIdeal.Value.run m ρ)

/-- The two programs end with the one array. -/
theorem results_equal : Cert.algebraic_AttnOutIdeal_AttnOutReferenceIdeal := by
  intro m g m' g' _ hagree
  refine ⟨fun c => Cert.AttnOutIdeal.Whole.product (m ((c.tc : Thread _ _).loc Cert.AttnOutIdeal.main_arg0)) (m ((c.tc : Thread _ _).loc Cert.AttnOutIdeal.main_arg1)) (m ((c.tc : Thread _ _).loc Cert.AttnOutIdeal.main_arg2)), ?_, ?_⟩
  · refine (θ_run (Cert.AttnOutIdeal.defs (F := Ideal)) _ _).mono (fun r h c => ?_) (Cert.AttnOutIdeal.Value.run_blocks m g)
    exact ⟨(h c).1.trans (Cert.AttnOutIdeal.Whole.final m c), (h c).2⟩
  · refine (θ_run (Cert.AttnOutReferenceIdeal.defs (F := Ideal)) _ _).mono (fun r h c => ?_) (Cert.AttnOutReferenceIdeal.Value.run m' g')
    refine ⟨(h c).1.trans ((Cert.AttnOutReferenceIdeal.Whole.ref_at _ _ _).trans ?_), (h c).2⟩
    obtain ⟨h0, h1, h2⟩ := hagree c
    rw [h0, h1, h2]

end Cert.Proof.AttnOut

end
-- ==== Proof.SsmOutEqual.lean ====
/- The recurrence's output projection, gated and added to the attention stream: each grid point's block is the block of one whole array. -/
module

public import proofs.«01_k».proof.Defs
public import proofs.«01_k».proof.Proof.Gen.SsmOutIdeal.Frame
public import proofs.«01_k».proof.Proof.Gen.SsmOutIdeal.Value
public import proofs.«01_k».proof.Proof.Gen.SsmOutReferenceIdeal
public import proofs.«01_k».proof.Proof.Gen.SsmOutReferenceIdeal.Run
public import Idealize.ShloMosaic.Lib.Claim
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.SsmOutIdeal.Whole

open Cert.SsmOutIdeal Cert.SsmOutIdeal.Gen

/-- The result: the other stream plus row `r` of the one array against column `c` of the other, gated. -/
def product (x : Vec Ideal S8320x4096 .bf16) (w : Vec Ideal S4096x4096 .f32) (mix : Vec Ideal S8320x4096 .f32) (gates : Vec Ideal S8320x8192 .f32) : FVec Ideal S8320x4096 .bf16 :=
  fun i => mix i + gates (ix2 (i 0) ⟨4096 + (i 1).val, by have : (i 1).val < 4096 := (i 1).isLt; omega⟩) * (∑ k : Fin 4096, x (ix2 (i 0) k) * w (ix2 k (i 1)))

theorem hz : (![0, 0] : Fin 2 → Nat) = fun _ => 0 := funext fun a => by fin_cases a <;> rfl

theorem point (x : Vec Ideal S1040x4096 .bf16) (w : Vec Ideal S4096x512 .f32) (mix : Vec Ideal S1040x512 .f32) (g : Vec Ideal S1040x512 .f32) (r : Fin 1040) (ch : Fin 512) :
    out0_4 x w mix g (ix2 r ch) = mix (ix2 r ch) + g (ix2 r ch) * (∑ k : Fin 4096, x (ix2 r k) * w (ix2 k ch)) := by
  unfold out0_4
  rw [View.canon_unit_zero hz, View.ld_unit_zero hz, View.ld_unit_zero hz, View.ld_unit_zero hz, View.ld_unit_zero hz]
  pointwise [k0_pay1]

variable (m : (ℓ : Loc nD τ sig) → Buf (Elt Ideal) ℓ) (c : Dev nD) (t : Fin cfg0.N)

theorem idx : ∀ t : Fin grid0.N, win0_0.index t 0 = t.val / 8 ∧ win0_0.index t 1 = 0 ∧ win0_1.index t 0 = 0 ∧ win0_1.index t 1 = t.val % 8
    ∧ win0_4.index t 0 = t.val / 8 ∧ win0_4.index t 1 = t.val % 8 ∧ win0_2.index t 0 = t.val / 8 ∧ win0_2.index t 1 = t.val % 8 ∧ win0_3.index t 0 = t.val / 8 ∧ win0_3.index t 1 = t.val % 8 + 8 :=
  by decide +kernel

theorem x_at (r : Fin 1040) (k : Fin 4096) : (iblk m c 0 t : Vec Ideal S1040x4096 .bf16) (ix2 r k)
    = ((m ((c : Thread nD τ).loc main_arg0)) : Vec Ideal S8320x4096 .bf16) (ix2 ⟨t.val / 8 * 1040 + r.val, by have : t.val < 64 := t.isLt; omega⟩ k) := by
  rw [← V_main_arg0 m c]
  blk_point [iblk, idx t]

theorem w_at (k : Fin 4096) (ch : Fin 512) : (iblk m c 1 t : Vec Ideal S4096x512 .f32) (ix2 k ch)
    = ((m ((c : Thread nD τ).loc main_arg1)) : Vec Ideal S4096x4096 .f32) (ix2 k ⟨t.val % 8 * 512 + ch.val, by omega⟩) := by
  rw [← V_main_arg1 m c]
  blk_point [iblk, idx t]

theorem mix_at (r : Fin 1040) (ch : Fin 512) : (iblk m c 2 t : Vec Ideal S1040x512 .f32) (ix2 r ch)
    = ((m ((c : Thread nD τ).loc main_arg2)) : Vec Ideal S8320x4096 .f32) (ix2 ⟨t.val / 8 * 1040 + r.val, by have : t.val < 64 := t.isLt; omega⟩ ⟨t.val % 8 * 512 + ch.val, by omega⟩) := by
  rw [← V_main_arg2 m c]
  blk_point [iblk, idx t]

theorem gates_at (r : Fin 1040) (ch : Fin 512) : (iblk m c 3 t : Vec Ideal S1040x512 .f32) (ix2 r ch)
    = ((m ((c : Thread nD τ).loc main_arg3)) : Vec Ideal S8320x8192 .f32) (ix2 ⟨t.val / 8 * 1040 + r.val, by have : t.val < 64 := t.isLt; omega⟩ ⟨4096 + (t.val % 8 * 512 + ch.val), by omega⟩) := by
  rw [← V_main_arg3 m c]
  blk_point [iblk, idx t]

theorem emb_at (r : Fin 1040) (ch : Fin 512) : (((cfg0.win 4).blk t).view.emb (ix2 r ch) : S8320x4096.Idx)
    = ix2 ⟨t.val / 8 * 1040 + r.val, by have : t.val < 64 := t.isLt; omega⟩ ⟨t.val % 8 * 512 + ch.val, by omega⟩ := by
  have h := idx t
  refine Shape.idx_ext₂ ?_ ?_
  · show win0_4.index t 0 * 1040 + 1 * r.val = t.val / 8 * 1040 + r.val
    rw [h.2.2.2.2.1, one_mul]
  · show win0_4.index t 1 * 512 + 1 * ch.val = t.val % 8 * 512 + ch.val
    rw [h.2.2.2.2.2.1, one_mul]

theorem flushed_at (r : Fin 1040) (ch : Fin 512) : (dats m 0 c).flushed 4 t (ix2 r ch)
    = product (m ((c : Thread nD τ).loc main_arg0)) (m ((c : Thread nD τ).loc main_arg1)) (m ((c : Thread nD τ).loc main_arg2)) (m ((c : Thread nD τ).loc main_arg3)) (((cfg0.win 4).blk t).view.emb (ix2 r ch)) := by
  rw [Cert.SsmOutIdeal.Value.flushed4, emb_at]
  show out0_4 (iblk m c 0 t) (iblk m c 1 t) (iblk m c 2 t) (iblk m c 3 t) (ix2 r ch) = _
  rw [point]
  simp only [x_at, w_at, gates_at, mix_at]
  rfl

theorem flushed_eq : (dats m 0 c).flushed 4 t
    = ((cfg0.win 4).blk t).view.read (Elt Ideal) (product (m ((c : Thread nD τ).loc main_arg0)) (m ((c : Thread nD τ).loc main_arg1)) (m ((c : Thread nD τ).loc main_arg2)) (m ((c : Thread nD τ).loc main_arg3))) := by
  funext y
  have e : y = (ix2 (y 0) (y 1) : S1040x512.Idx) := Shape.idx_ext₂ rfl rfl
  rw [e]
  exact flushed_at m c t (y 0) (y 1)

theorem cover (i : S8320x4096.Idx) : ∃ t : Fin cfg0.N, (cfg0.win 4).flush t = true ∧ i ∈ ((cfg0.win 4).blk t).view.set := by
  have h0 : (i 0).val < 8320 := (i 0).isLt
  have h1 : (i 1).val < 4096 := (i 1).isLt
  have ht : (i 0).val / 1040 * 8 + (i 1).val / 512 < cfg0.N := by have : cfg0.N = 64 := N_0; omega
  refine ⟨⟨(i 0).val / 1040 * 8 + (i 1).val / 512, ht⟩, flush0_4 _, ?_⟩
  have e : i = ((cfg0.win 4).blk ⟨(i 0).val / 1040 * 8 + (i 1).val / 512, ht⟩).view.emb
      (ix2 ⟨(i 0).val % 1040, Nat.mod_lt _ (by decide)⟩ ⟨(i 1).val % 512, Nat.mod_lt _ (by decide)⟩ : S1040x512.Idx) := by
    rw [emb_at]
    refine Shape.idx_ext₂ ?_ ?_
    · show (i 0).val = ((i 0).val / 1040 * 8 + (i 1).val / 512) / 8 * 1040 + (i 0).val % 1040
      omega
    · show (i 1).val = ((i 0).val / 1040 * 8 + (i 1).val / 512) % 8 * 512 + (i 1).val % 512
      omega
  have hm := View.emb_mem_set ((cfg0.win 4).blk ⟨(i 0).val / 1040 * 8 + (i 1).val / 512, ht⟩).view
    (ix2 ⟨(i 0).val % 1040, Nat.mod_lt _ (by decide)⟩ ⟨(i 1).val % 512, Nat.mod_lt _ (by decide)⟩ : S1040x512.Idx)
  rw [← e] at hm
  exact hm

theorem final : (dats m 0 c).arrAt 4 cfg0.N = product (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) cover

end Cert.SsmOutIdeal.Whole

namespace Cert.SsmOutReferenceIdeal.Whole

open Cert.SsmOutReferenceIdeal Cert.SsmOutReferenceIdeal.Gen

theorem ref_at (x : FVec Ideal S8320x4096 .bf16) (w : FVec Ideal S4096x4096 .f32) (mix : FVec Ideal S8320x4096 .f32) (gates : FVec Ideal S8320x8192 .f32) :
    (truncf .bf16 (addf mix (mulf (extractStridedSlice S8320x4096 ![0, 4096] gates slices_S8320x8192_S8320x4096_0_4096) (Host.dotGeneral dot_S8320x4096_S4096x4096_S8320x4096_1_0_0_1_n_n none (extf .f32 x bitsLt_bf16_f32) w))) bitsLt_bf16_f32 : FVec Ideal S8320x4096 .bf16) = Cert.SsmOutIdeal.Whole.product x w mix gates := by
  funext i
  have e : i = ix2 (i 0) (i 1) := Shape.idx_ext₂ rfl rfl
  rw [e]
  generalize i 0 = r
  generalize i 1 = ch
  pointwise [Cert.SsmOutIdeal.Whole.product]

end Cert.SsmOutReferenceIdeal.Whole

namespace Cert.Proof.SsmOut

/-- The reference ends with its arguments unchanged; it declares no semaphore, so every counter is zero. -/
theorem frame_reference : Cert.quiescent_SsmOutReferenceIdeal := fun m ρ _ =>
  (θ_run (Cert.SsmOutReferenceIdeal.defs (F := Ideal)) _ _).mono (fun r h => ⟨fun c => (h c).2, sem_eq_zero_of_no_sems (by decide) r.2⟩)
    (Cert.SsmOutReferenceIdeal.Value.run m ρ)

/-- The two programs end with the one array. -/
theorem results_equal : Cert.algebraic_SsmOutIdeal_SsmOutReferenceIdeal := by
  intro m g m' g' _ hagree
  refine ⟨fun c => Cert.SsmOutIdeal.Whole.product (m ((c.tc : Thread _ _).loc Cert.SsmOutIdeal.main_arg0)) (m ((c.tc : Thread _ _).loc Cert.SsmOutIdeal.main_arg1)) (m ((c.tc : Thread _ _).loc Cert.SsmOutIdeal.main_arg2)) (m ((c.tc : Thread _ _).loc Cert.SsmOutIdeal.main_arg3)), ?_, ?_⟩
  · refine (θ_run (Cert.SsmOutIdeal.defs (F := Ideal)) _ _).mono (fun r h c => ?_) (Cert.SsmOutIdeal.Value.run_blocks m g)
    exact ⟨(h c).1.trans (Cert.SsmOutIdeal.Whole.final m c), (h c).2⟩
  · refine (θ_run (Cert.SsmOutReferenceIdeal.defs (F := Ideal)) _ _).mono (fun r h c => ?_) (Cert.SsmOutReferenceIdeal.Value.run m' g')
    refine ⟨(h c).1.trans ((Cert.SsmOutReferenceIdeal.Whole.ref_at _ _ _ _).trans ?_), (h c).2⟩
    obtain ⟨h0, h1, h2, h3⟩ := hagree c
    rw [h0, h1, h2, h3]

end Cert.Proof.SsmOut

end
-- ==== Proof.KsEqual.lean ====
/- The sample's keys: the norm of each head of the key projection and the rotary embedding, the rotation by half a
   head with a signed sine being the embedding's two halves. -/
module

public import proofs.«01_k».proof.Defs
public import proofs.«01_k».proof.Proof.Gen.KsIdeal.Frame
public import proofs.«01_k».proof.Proof.Gen.KsIdeal.Value
public import proofs.«01_k».proof.Proof.Gen.KsReferenceIdeal
public import proofs.«01_k».proof.Proof.Gen.KsReferenceIdeal.Run
public import Idealize.ShloMosaic.Lib.Claim
public import Idealize.ShloMosaic.Lib.Pointwise
public import Idealize.ShloMosaic.Lib.KernelVsHost
public import Idealize.ShloMosaic.Lib.Pipeline.ValueKit
public import Idealize.ShloMosaic.Lib.Pipeline.ReadBack
public import Idealize.ShloMosaic.Lib.WritesUnit

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.KsIdeal.Whole

open Cert.KsIdeal Cert.KsIdeal.Gen

/-- One entry of a normed row: the entry over the root of the row's mean square, times the gain. -/
def normed (x g : Fin 128 → EReal) (j : Fin 128) : EReal :=
  x j * Ideal.rsqrt (Ideal.div (∑ k : Fin 128, x k * x k) (Ideal.ofBits .f32 0x43000000#32) + Ideal.ofBits .f32 0x358637BD#32) * g j

/-- The angle of position `8192 + p` at frequency `n`. -/
def angle (p n : Nat) : EReal :=
  FloatOps.sitofp (F := Ideal) .f32 (IntOp.addi (8192#32) (BitVec.ofNat 32 p))
    * Ideal.pow (Ideal.ofBits .f32 0x461C4000#32) (Ideal.div (-FloatOps.sitofp (F := Ideal) .f32 (BitVec.ofNat 32 n)) (Ideal.ofBits .f32 0x42800000#32))

/-- The rotary embedding of a normed row, at position `8192 + p`. -/
def turned (x g : Fin 128 → EReal) (p : Nat) (j : Fin 128) : EReal :=
  if h : j.val < 64 then normed x g j * Ideal.cos (angle p j.val) - normed x g ⟨64 + j.val, by omega⟩ * Ideal.sin (angle p j.val)
  else normed x g j * Ideal.cos (angle p (j.val - 64)) + normed x g ⟨j.val - 64, by omega⟩ * Ideal.sin (angle p (j.val - 64))

/-- The result: row `r`'s head `c / 128`, normed and turned at the row's position in its sequence. -/
def keys (kv : Vec Ideal S8320x2048 .f32) (g : Vec Ideal S128 .f32) : Vec Ideal S128x1024 .f32 :=
  fun i => turned (fun k => kv (ix2 ⟨8192 + (i 0).val, by have : (i 0).val < 128 := (i 0).isLt; omega⟩ ⟨(i 1).val / 128 * 128 + k.val, by have : (i 1).val < 1024 := (i 1).isLt; omega⟩))
    (fun k => g (ix1 k)) ((i 0).val % 4) ⟨(i 1).val % 128, Nat.mod_lt _ (by decide)⟩

theorem hz : (![0, 0] : Fin 2 → Nat) = fun _ => 0 := funext fun a => by fin_cases a <;> rfl

theorem pay_at (v0 v2 : Vec Ideal S128x128 .f32) (v4 : Vec Ideal S1x128 .f32) (v6 : Vec Ideal S128x128 .f32) (r j : Fin 128) :
    k0_pay6 v0 v2 v4 v6 (ix2 r j) = normed (fun k => v6 (ix2 r k)) (fun k => v4 (ix2 0 k)) j * v0 (ix2 r j)
      + normed (fun k => v6 (ix2 r k)) (fun k => v4 (ix2 0 k)) ⟨(j.val + 128 - 64) % 128, Nat.mod_lt _ (by decide)⟩ * v2 (ix2 r j) := by
  pointwise [k0_pay6, k0_pay3, k0_pay4, k0_pay5, normed]

theorem pos_at : ∀ r : Fin 128, (IntOp.addi (8192#32)
              (Scalar.select
                (IntOp.andi
                  (IntOp.cmpi CmpIPredicate.ne
                    (IntOp.cmpi CmpIPredicate.slt
                      (IntOp.remsi ArithUnit.host (BitVec.ofNat 32 r.val)
                        (Scalar.select (IntOp.cmpi CmpIPredicate.eq 4#32 0#32) 1#32 4#32))
                      0#32)
                    (IntOp.cmpi CmpIPredicate.slt (Scalar.select (IntOp.cmpi CmpIPredicate.eq 4#32 0#32) 1#32 4#32)
                      0#32))
                  (IntOp.cmpi CmpIPredicate.ne
                    (IntOp.remsi ArithUnit.host (BitVec.ofNat 32 r.val)
                      (Scalar.select (IntOp.cmpi CmpIPredicate.eq 4#32 0#32) 1#32 4#32))
                    0#32))
                (IntOp.addi
                  (IntOp.remsi ArithUnit.host (BitVec.ofNat 32 r.val)
                    (Scalar.select (IntOp.cmpi CmpIPredicate.eq 4#32 0#32) 1#32 4#32))
                  (Scalar.select (IntOp.cmpi CmpIPredicate.eq 4#32 0#32) 1#32 4#32))
                (IntOp.remsi ArithUnit.host (BitVec.ofNat 32 r.val)
                  (Scalar.select (IntOp.cmpi CmpIPredicate.eq 4#32 0#32) 1#32 4#32))))
    = IntOp.addi (8192#32) (BitVec.ofNat 32 (r.val % 4)) := by decide +kernel

variable (m : (ℓ : Loc nD τ sig) → Buf (Elt Ideal) ℓ) (c : Dev nD) (t : Fin cfg0.N)

theorem cos_at (r j : Fin 128) : (V m c main_v18 : Vec Ideal S128x128 .f32) (ix2 r j)
    = (if h : j.val < 64 then Ideal.cos (angle (r.val % 4) j.val) else Ideal.cos (angle (r.val % 4) (j.val - 64)) : EReal) := by
  simp only [V, hostOps0, hostOps0_1, List.flatten_cons, List.flatten_nil, List.append_nil, List.cons_append, List.nil_append]
  entry_read
  try simp -implicitDefEqProofs only [StableHlo.TRef.toBuf, StableHlo.TRef.ofBuf, cast_cast, cast_eq]
  simp only [angle, ← pos_at]
  pointwise

theorem sin_at (r j : Fin 128) : (V m c main_v20 : Vec Ideal S128x128 .f32) (ix2 r j)
    = (if h : j.val < 64 then -Ideal.sin (angle (r.val % 4) j.val) else Ideal.sin (angle (r.val % 4) (j.val - 64)) : EReal) := by
  simp only [V, hostOps0, hostOps0_1, List.flatten_cons, List.flatten_nil, List.append_nil, List.cons_append, List.nil_append]
  entry_read
  try simp -implicitDefEqProofs only [StableHlo.TRef.toBuf, StableHlo.TRef.ofBuf, cast_cast, cast_eq]
  simp only [angle, ← pos_at]
  pointwise

theorem gain_at (k : Fin 128) : (V m c main_v21 : Vec Ideal S1x128 .f32) (ix2 0 k) = ((m ((c : Thread nD τ).loc main_arg1)) : Vec Ideal S128 .f32) (ix1 k) := by
  simp only [V, hostOps0, hostOps0_1, List.flatten_cons, List.flatten_nil, List.append_nil, List.cons_append, List.nil_append]
  entry_read
  try simp -implicitDefEqProofs only [StableHlo.TRef.toBuf, StableHlo.TRef.ofBuf, cast_cast, cast_eq]
  pointwise

/-- The kernel's result from its blocks: each head of 128 columns by itself. -/
def heads (x0 : Vec Ideal S128x1024 .f32) (x1 x2 : Vec Ideal S128x128 .f32) (x3 : Vec Ideal S1x128 .f32) : Vec Ideal S128x1024 .f32 :=
  fun i => k0_pay6 x1 x2 x3
    ((fun y => x0 (ix2 (y 0) ⟨(i 1).val / 128 * 128 + (y 1).val, by have : (i 1).val < 1024 := (i 1).isLt; have : (y 1).val < 128 := (y 1).isLt; omega⟩)) : Vec Ideal S128x128 .f32)
    (ix2 (i 0) ⟨(i 1).val % 128, Nat.mod_lt _ (by decide)⟩)

theorem head_at (x0 : Vec Ideal S128x1024 .f32) (x1 x2 : Vec Ideal S128x128 .f32) (x3 : Vec Ideal S1x128 .f32) (o : Nat) (ho : o % 128 = 0)
    (inb : ∀ a, (![0, o] : Fin 2 → Nat) a + S128x128.size a ≤ S128x1024.size a) (x : S128x128.Idx) :
    k0_pay6 (View.ld x1 r0_0) (View.ld x2 r0_0) (View.ld x3 r0_1) (View.ld x0 (Rect.unit (s := S128x1024) ![0, o] S128x128.size inb)) x
      = heads x0 x1 x2 x3 ((Rect.unit (s := S128x1024) ![0, o] S128x128.size inb).emb x) := by
  have h1 : (x 1).val < 128 := (x 1).isLt
  rw [View.ld_unit_zero hz, View.ld_unit_zero hz, View.ld_unit_zero hz]
  refine congr (congrArg (k0_pay6 x1 x2 x3) (funext fun y => congrArg x0 (Shape.idx_ext₂ ?_ ?_))) (Shape.idx_ext₂ ?_ ?_)
  · show 0 + 1 * (y 0).val = (y 0).val
    omega
  · show o + 1 * (y 1).val = (o + 1 * (x 1).val) / 128 * 128 + (y 1).val
    omega
  · show (x 0).val = 0 + 1 * (x 0).val
    omega
  · show (x 1).val = (o + 1 * (x 1).val) % 128
    omega

theorem out_eq (x0 : Vec Ideal S128x1024 .f32) (x1 x2 : Vec Ideal S128x128 .f32) (x3 : Vec Ideal S1x128 .f32) :
    out0_4 x0 x1 x2 x3 = heads x0 x1 x2 x3 := by
  funext i
  unfold_out out0_4
  refine View.canon_apply_of_pieces (heads x0 x1 x2 x3) _ (fun p hp x => ?_) i (cover0_4 _ _ _ _ _ _ _ _ i)
  simp only [List.mem_cons, List.not_mem_nil, or_false] at hp
  rcases hp with rfl | rfl | rfl | rfl | rfl | rfl | rfl | rfl
  · exact head_at x0 x1 x2 x3 896 rfl inb_S128x1024_S128x128_0_896 x
  · exact head_at x0 x1 x2 x3 768 rfl inb_S128x1024_S128x128_0_768 x
  · exact head_at x0 x1 x2 x3 640 rfl inb_S128x1024_S128x128_0_640 x
  · exact head_at x0 x1 x2 x3 512 rfl inb_S128x1024_S128x128_0_512 x
  · exact head_at x0 x1 x2 x3 384 rfl inb_S128x1024_S128x128_0_384 x
  · exact head_at x0 x1 x2 x3 256 rfl inb_S128x1024_S128x128_0_256 x
  · exact head_at x0 x1 x2 x3 128 rfl inb_S128x1024_S128x128_0_128 x
  · exact head_at x0 x1 x2 x3 0 rfl inb_S128x1024_S128x128_0_0 x

theorem idx : ∀ t : Fin grid0.N, win0_0.index t 0 = 64 ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0 ∧ win0_4.index t 0 = 0 ∧ win0_4.index t 1 = 0 :=
  by decide +kernel

theorem x_at (r : Fin 128) (k : Fin 1024) : (iblk m c 0 t : Vec Ideal S128x1024 .f32) (ix2 r k)
    = ((m ((c : Thread nD τ).loc main_arg0)) : Vec Ideal S8320x2048 .f32) (ix2 ⟨8192 + r.val, by omega⟩ ⟨k.val, by omega⟩) := by
  rw [← V_main_arg0 m c]
  blk_point [iblk, idx t]

theorem c_at (r k : Fin 128) : (iblk m c 1 t : Vec Ideal S128x128 .f32) (ix2 r k) = (V m c main_v18 : Vec Ideal S128x128 .f32) (ix2 r k) := by
  blk_point [iblk, idx t]

theorem s_at (r k : Fin 128) : (iblk m c 2 t : Vec Ideal S128x128 .f32) (ix2 r k) = (V m c main_v20 : Vec Ideal S128x128 .f32) (ix2 r k) := by
  blk_point [iblk, idx t]

theorem g_at (k : Fin 128) : (iblk m c 3 t : Vec Ideal S1x128 .f32) (ix2 0 k) = (V m c main_v21 : Vec Ideal S1x128 .f32) (ix2 0 k) := by
  blk_point [iblk, idx t]

theorem emb_at (r : Fin 128) (ch : Fin 1024) : (((cfg0.win 4).blk t).view.emb (ix2 r ch) : S128x1024.Idx) = ix2 r ch := by
  have h := idx t
  refine Shape.idx_ext₂ ?_ ?_
  · show win0_4.index t 0 * 128 + 1 * r.val = r.val
    rw [h.2.2.2.2.2.2.2.2.1]; omega
  · show win0_4.index t 1 * 1024 + 1 * ch.val = ch.val
    rw [h.2.2.2.2.2.2.2.2.2]; omega

/-- The rotation by half a head against the signed sines is the embedding. -/
theorem turn (x g : Fin 128 → EReal) (p : Nat) (j : Fin 128) :
    normed x g j * (if h : j.val < 64 then Ideal.cos (angle p j.val) else Ideal.cos (angle p (j.val - 64)))
      + normed x g ⟨(j.val + 128 - 64) % 128, Nat.mod_lt _ (by decide)⟩ * (if h : j.val < 64 then -Ideal.sin (angle p j.val) else Ideal.sin (angle p (j.val - 64)))
      = turned x g p j := by
  unfold turned
  by_cases h : j.val < 64
  · have e : (j.val + 128 - 64) % 128 = 64 + j.val := by omega
    simp only [dif_pos h, e]
    rw [mul_neg, ← sub_eq_add_neg]
  · have e : (j.val + 128 - 64) % 128 = j.val - 64 := by omega
    simp only [dif_neg h, e]

theorem flushed_at (r : Fin 128) (ch : Fin 1024) : (dats m 0 c).flushed 4 t (ix2 r ch)
    = keys (m ((c : Thread nD τ).loc main_arg0)) (m ((c : Thread nD τ).loc main_arg1)) (((cfg0.win 4).blk t).view.emb (ix2 r ch)) := by
  rw [Cert.KsIdeal.Value.flushed4, emb_at]
  show (out0_4 (iblk m c 0 t) (iblk m c 1 t) (iblk m c 2 t) (iblk m c 3 t) : Vec Ideal S128x1024 .f32) (ix2 r ch) = _
  rw [out_eq]
  refine (pay_at (iblk m c 1 t) (iblk m c 2 t) (iblk m c 3 t)
    (fun y => (iblk m c 0 t : Vec Ideal S128x1024 .f32) (ix2 (y 0) ⟨ch.val / 128 * 128 + (y 1).val, by have : (y 1).val < 128 := (y 1).isLt; omega⟩))
    r ⟨ch.val % 128, Nat.mod_lt _ (by decide)⟩).trans ?_
  rw [c_at, s_at, cos_at, sin_at]
  have hg : (fun k : Fin 128 => (iblk m c 3 t : Vec Ideal S1x128 .f32) (ix2 0 k)) = fun k : Fin 128 => ((m ((c : Thread nD τ).loc main_arg1)) : Vec Ideal S128 .f32) (ix1 k) :=
    funext fun k => (g_at m c t k).trans (gain_at m c k)
  have hx : (fun k : Fin 128 => (iblk m c 0 t : Vec Ideal S128x1024 .f32) (ix2 r ⟨ch.val / 128 * 128 + k.val, by omega⟩))
      = fun k : Fin 128 => ((m ((c : Thread nD τ).loc main_arg0)) : Vec Ideal S8320x2048 .f32) (ix2 ⟨8192 + r.val, by omega⟩ ⟨ch.val / 128 * 128 + k.val, by omega⟩) :=
    funext fun k => x_at m c t r ⟨ch.val / 128 * 128 + k.val, by omega⟩
  refine Eq.trans ?_ (turn (fun k => ((m ((c : Thread nD τ).loc main_arg0)) : Vec Ideal S8320x2048 .f32) (ix2 ⟨8192 + r.val, by omega⟩ ⟨ch.val / 128 * 128 + k.val, by omega⟩))
    (fun k => ((m ((c : Thread nD τ).loc main_arg1)) : Vec Ideal S128 .f32) (ix1 k)) (r.val % 4) ⟨ch.val % 128, Nat.mod_lt _ (by decide)⟩)
  rw [← hx, ← hg]
  rfl

theorem flushed_eq : (dats m 0 c).flushed 4 t
    = ((cfg0.win 4).blk t).view.read (Elt Ideal) (keys (m ((c : Thread nD τ).loc main_arg0)) (m ((c : Thread nD τ).loc main_arg1))) := by
  funext y
  have e : y = (ix2 (y 0) (y 1) : S128x1024.Idx) := Shape.idx_ext₂ rfl rfl
  rw [e]
  exact flushed_at m c t (y 0) (y 1)

theorem cover (i : S128x1024.Idx) : ∃ t : Fin cfg0.N, (cfg0.win 4).flush t = true ∧ i ∈ ((cfg0.win 4).blk t).view.set := by
  have ht : 0 < cfg0.N := by have : cfg0.N = 1 := N_0; omega
  refine ⟨⟨0, ht⟩, flush0_4 _, ?_⟩
  have hm := View.emb_mem_set ((cfg0.win 4).blk ⟨0, ht⟩).view (ix2 (i 0) (i 1) : S128x1024.Idx)
  have e : i = ((cfg0.win 4).blk ⟨0, ht⟩).view.emb (ix2 (i 0) (i 1) : S128x1024.Idx) :=
    (Shape.idx_ext₂ rfl rfl : i = (ix2 (i 0) (i 1) : S128x1024.Idx)).trans (emb_at ⟨0, ht⟩ (i 0) (i 1)).symm
  rw [← e] at hm
  exact hm

theorem final : (dats m 0 c).arrAt 4 cfg0.N = keys (m ((c : Thread nD τ).loc main_arg0)) (m ((c : Thread nD τ).loc main_arg1)) :=
  (dats m 0 c).arrAt_eq_of_cover 4 _ (fun t _ => flushed_eq m c t) cover

end Cert.KsIdeal.Whole

namespace Cert.KsReferenceIdeal.Whole

open Cert.KsReferenceIdeal Cert.KsReferenceIdeal.Gen

theorem ref_at (m : (ℓ : Loc nD τ sig) → Buf (Elt Ideal) ℓ) (c : Dev nD) : (Cert.KsReferenceIdeal.Value.res_out0 m c : Vec Ideal S128x1024 .f32)
    = Cert.KsIdeal.Whole.keys (m ((c.tc : Thread nD τ).loc main_arg0)) (m ((c.tc : Thread nD τ).loc main_arg1)) := by
  funext i
  have e : i = ix2 (i 0) (i 1) := Shape.idx_ext₂ rfl rfl
  rw [e]
  generalize i 0 = r
  generalize i 1 = ch
  unfold Cert.KsReferenceIdeal.Value.res_out0 Cert.KsReferenceIdeal.Value.res_main_v47
  pointwise [Cert.KsIdeal.Whole.keys, Cert.KsIdeal.Whole.turned, Cert.KsIdeal.Whole.normed, Cert.KsIdeal.Whole.angle]
  by_cases h : ch.val % 128 < 64
  · simp only [dif_pos h, Nat.div_add_mod']
  · have e : 64 + (ch.val % 128 - 64) = ch.val % 128 := by omega
    simp only [dif_neg h, e, Nat.div_add_mod']

end Cert.KsReferenceIdeal.Whole

namespace Cert.Proof.Ks

/-- The reference ends with its arguments unchanged; it declares no semaphore, so every counter is zero. -/
theorem frame_reference : Cert.quiescent_KsReferenceIdeal := fun m ρ _ =>
  (θ_run (Cert.KsReferenceIdeal.defs (F := Ideal)) _ _).mono (fun r h => ⟨fun c => (h c).2, sem_eq_zero_of_no_sems (by decide) r.2⟩)
    (Cert.KsReferenceIdeal.Value.run m ρ)

/-- The two programs end with the one array. -/
theorem results_equal : Cert.algebraic_KsIdeal_KsReferenceIdeal := by
  intro m g m' g' _ hagree
  refine ⟨fun c => Cert.KsIdeal.Whole.keys (m ((c.tc : Thread _ _).loc Cert.KsIdeal.main_arg0)) (m ((c.tc : Thread _ _).loc Cert.KsIdeal.main_arg1)), ?_, ?_⟩
  · refine (θ_run (Cert.KsIdeal.defs (F := Ideal)) _ _).mono (fun r h c => ?_) (Cert.KsIdeal.Value.run_blocks m g)
    exact ⟨(h c).1.trans (Cert.KsIdeal.Whole.final m c), (h c).2⟩
  · refine (θ_run (Cert.KsReferenceIdeal.defs (F := Ideal)) _ _).mono (fun r h c => ?_) (Cert.KsReferenceIdeal.Value.run m' g')
    refine ⟨(h c).1.trans ((Cert.KsReferenceIdeal.Whole.ref_at m' c).trans ?_), (h c).2⟩
    obtain ⟨h0, h1⟩ := hagree c
    rw [h0, h1]

end Cert.Proof.Ks

end
-- ==== Proof.KpEqual.lean ====
/- The prompt's keys: the norm of each head of the key projection and the rotary embedding, the rotation by half a
   head with a signed sine being the embedding's two halves. -/
module

public import proofs.«01_k».proof.Defs
public import proofs.«01_k».proof.Proof.Gen.KpIdeal.Frame
public import proofs.«01_k».proof.Proof.Gen.KpIdeal.Value
public import proofs.«01_k».proof.Proof.Gen.KpReferenceIdeal
public import proofs.«01_k».proof.Proof.Gen.KpReferenceIdeal.Run
public import Idealize.ShloMosaic.Lib.Claim
public import Idealize.ShloMosaic.Lib.Pointwise
public import Idealize.ShloMosaic.Lib.KernelVsHost
public import Idealize.ShloMosaic.Lib.Pipeline.ValueKit
public import Idealize.ShloMosaic.Lib.Pipeline.ReadBack
public import Idealize.ShloMosaic.Lib.WritesUnit

@[expose] public section

set_option maxRecDepth 65536
set_option pp.deepTerms false
set_option pp.deepTerms.threshold 14
set_option maxHeartbeats 1000000

noncomputable section

open Idealize.ShloMosaic Idealize.ShloMosaic.TcCoe Idealize.SL.Sem

namespace Cert.KpIdeal.Whole

open Cert.KpIdeal Cert.KpIdeal.Gen

/-- One entry of a normed row: the entry over the root of the row's mean square, times the gain. -/
def normed (x g : Fin 128 → EReal) (j : Fin 128) : EReal :=
  x j * Ideal.rsqrt (Ideal.div (∑ k : Fin 128, x k * x k) (Ideal.ofBits .f32 0x43000000#32) + Ideal.ofBits .f32 0x358637BD#32) * g j

/-- The angle of position `p` at frequency `n`. -/
def angle (p n : Nat) : EReal :=
  FloatOps.sitofp (F := Ideal) .f32 (BitVec.ofNat 32 p)
    * Ideal.pow (Ideal.ofBits .f32 0x461C4000#32) (Ideal.div (-FloatOps.sitofp (F := Ideal) .f32 (BitVec.ofNat 32 n)) (Ideal.ofBits .f32 0x42800000#32))

/-- The rotary embedding of a normed row, at position `p`. -/
def turned (x g : Fin 128 → EReal) (p : Nat) (j : Fin 128) : EReal :=
  if h : j.val < 64 then normed x g j * Ideal.cos (angle p j.val) - normed x g ⟨64 + j.val, by omega⟩ * Ideal.sin (angle p j.val)
  else normed x g j * Ideal.cos (angle p (j.val - 64)) + normed x g ⟨j.val - 64, by omega⟩ * Ideal.sin (angle p (j.val - 64))

/-- The result: row `r`'s head `c / 128`, normed and turned at the row's position in its sequence of 4096. -/
def keys (kv : Vec Ideal S8320x2048 .f32) (g : Vec Ideal S128 .f32) : Vec Ideal S8192x1024 .f32 :=
  fun i => turned (fun k => kv (ix2 ⟨(i 0).val, by have : (i 0).val < 8192 := (i 0).isLt; omega⟩ ⟨(i 1).val / 128 * 128 + k.val, by have : (i 1).val < 1024 := (i 1).isLt; omega⟩))
    (fun k => g (ix1 k)) ((i 0).val % 4096) ⟨(i 1).val % 128, Nat.mod_lt _ (by decide)⟩

theorem hz : (![0, 0] : Fin 2 → Nat) = fun _ => 0 := funext fun a => by fin_cases a <;> rfl

/-- One head of the kernel's block: 128 columns, normed and turned. -/
def head (v0 v2 : Vec Ideal S256x128 .f32) (v4 : Vec Ideal S1x128 .f32) (v6 : Vec Ideal S256x128 .f32) : FVec Ideal S256x128 .f32 :=
  k0_pay8 (k0_pay2 v0) (k0_pay3 v2) (k0_pay4 v4) v6 (k0_pay7 v6)

theorem pay_at (v0 v2 : Vec Ideal S256x128 .f32) (v4 : Vec Ideal S1x128 .f32) (v6 : Vec Ideal S256x128 .f32) (r : Fin 256) (j : Fin 128) :
    head v0 v2 v4 v6 (ix2 r j) = normed (fun k => v6 (ix2 r k)) (fun k => v4 (ix2 0 k)) j * v0 (ix2 r j)
      + normed (fun k => v6 (ix2 r k)) (fun k => v4 (ix2 0 k)) ⟨(j.val + 128 - 64) % 128, Nat.mod_lt _ (by decide)⟩ * v2 (ix2 r j) := by
  pointwise [head, k0_pay8, k0_pay7, k0_pay2, k0_pay3, k0_pay4, normed]

variable (m : (ℓ : Loc nD τ sig) → Buf (Elt Ideal) ℓ) (c : Dev nD) (t : Fin cfg0.N)

theorem cos_at (r : Fin 4096) (j : Fin 128) : (V m c main_v15 : Vec Ideal S4096x128 .f32) (ix2 r j)
    = (if h : j.val < 64 then Ideal.cos (angle (r.val) j.val) else Ideal.cos (angle (r.val) (j.val - 64)) : EReal) := by
  simp only [V, hostOps0, List.flatten_cons, List.flatten_nil, List.append_nil, List.cons_append, List.nil_append]
  entry_read
  pointwise [angle]

theorem sin_at (r : Fin 4096) (j : Fin 128) : (V m c main_v17 : Vec Ideal S4096x128 .f32) (ix2 r j)
    = (if h : j.val < 64 then -Ideal.sin (angle (r.val) j.val) else Ideal.sin (angle (r.val) (j.val - 64)) : EReal) := by
  simp only [V, hostOps0, List.flatten_cons, List.flatten_nil, List.append_nil, List.cons_append, List.nil_append]
  entry_read
  pointwise [angle]

theorem gain_at (k : Fin 128) : (V m c main_v18 : Vec Ideal S1x128 .f32) (ix2 0 k) = ((m ((c : Thread nD τ).loc main_arg1)) : Vec Ideal S128 .f32) (ix1 k) := by
  simp only [V, hostOps0, List.flatten_cons, List.flatten_nil, List.append_nil, List.cons_append, List.nil_append]
  entry_read
  pointwise

/-- The kernel's result from its blocks: each head of 128 columns by itself. -/
def heads (x0 : Vec Ideal S256x1024 .f32) (x1 x2 : Vec Ideal S256x128 .f32) (x3 : Vec Ideal S1x128 .f32) : Vec Ideal S256x1024 .f32 :=
  fun i => head x1 x2 x3
    ((fun y => x0 (ix2 (y 0) ⟨(i 1).val / 128 * 128 + (y 1).val, by have : (i 1).val < 1024 := (i 1).isLt; have : (y 1).val < 128 := (y 1).isLt; omega⟩)) : Vec Ideal S256x128 .f32)
    (ix2 (i 0) ⟨(i 1).val % 128, Nat.mod_lt _ (by decide)⟩)

theorem head_at (x0 : Vec Ideal S256x1024 .f32) (x1 x2 : Vec Ideal S256x128 .f32) (x3 : Vec Ideal S1x128 .f32) (o : Nat) (ho : o % 128 = 0)
    (inb : ∀ a, (![0, o] : Fin 2 → Nat) a + S256x128.size a ≤ S256x1024.size a) (x : S256x128.Idx) :
    head x1 x2 x3 (View.ld x0 (Rect.unit (s := S256x1024) ![0, o] S256x128.size inb)) x
      = heads x0 x1 x2 x3 ((Rect.unit (s := S256x1024) ![0, o] S256x128.size inb).emb x) := by
  have h1 : (x 1).val < 128 := (x 1).isLt
  refine congr (congrArg (head x1 x2 x3) (funext fun y => congrArg x0 (Shape.idx_ext₂ ?_ ?_))) (Shape.idx_ext₂ ?_ ?_)
  · show 0 + 1 * (y 0).val = (y 0).val
    omega
  · have h2 : (y 1).val < 128 := (y 1).isLt
    show o + 1 * (y 1).val = (o + 1 * (x 1).val) / 128 * 128 + (y 1).val
    omega
  · show (x 0).val = 0 + 1 * (x 0).val
    omega
  · show (x 1).val = (o + 1 * (x 1).val) % 128
    omega

theorem out_eq : ((outsAt0 m c t).1 : Vec Ideal S256x1024 .f32) = heads (X0_0 m c t) (iblk m c 2 t) (iblk m c 3 t) (iblk m c 4 t) := by
  unfold outsAt0
  frame_open
  frame_out
  try simp only [read_unread_whole]
  funext i
  refine View.canon_apply_of_pieces (heads (X0_0 m c t) (iblk m c 2 t) (iblk m c 3 t) (iblk m c 4 t)) _ (fun p hp x => ?_) i ?cov
  case cov => exact View.cover_of_tiledL (s := S256x1024) _ S256x128.size (by sl_kernel_rfl) _
  simp only [List.mem_cons, List.not_mem_nil, or_false] at hp
  rcases hp with rfl | rfl | rfl | rfl | rfl | rfl | rfl | rfl
  · exact head_at _ _ _ _ 896 rfl inb_S256x1024_S256x128_0_896 x
  · exact head_at _ _ _ _ 768 rfl inb_S256x1024_S256x128_0_768 x
  · exact head_at _ _ _ _ 640 rfl inb_S256x1024_S256x128_0_640 x
  · exact head_at _ _ _ _ 512 rfl inb_S256x1024_S256x128_0_512 x
  · exact head_at _ _ _ _ 384 rfl inb_S256x1024_S256x128_0_384 x
  · exact head_at _ _ _ _ 256 rfl inb_S256x1024_S256x128_0_256 x
  · exact head_at _ _ _ _ 128 rfl inb_S256x1024_S256x128_0_128 x
  · exact head_at _ _ _ _ 0 rfl inb_S256x1024_S256x128_0_0 x

theorem idx : ∀ t : Fin grid0.N, win0_0.index t 0 = t.val ∧ win0_0.index t 1 = 0 ∧ win0_2.index t 0 = t.val % 16 ∧ win0_2.index t 1 = 0
    ∧ win0_3.index t 0 = t.val % 16 ∧ win0_3.index t 1 = 0 ∧ win0_4.index t 0 = 0 ∧ win0_4.index t 1 = 0 ∧ win0_5.index t 0 = t.val ∧ win0_5.index t 1 = 0 :=
  by decide +kernel

theorem x_at (r : Fin 256) (k : Fin 1024) : (X0_0 m c t : Vec Ideal S256x1024 .f32) (ix2 r k)
    = ((m ((c : Thread nD τ).loc main_arg0)) : Vec Ideal S8320x2048 .f32) (ix2 ⟨t.val * 256 + r.val, by have : t.val < 32 := t.isLt; omega⟩ ⟨k.val, by omega⟩) := by
  rw [← V_main_arg0 m c]
  have h := idx t
  refine (dif_pos (moved0_0 t (ix2 r k : S256x1024.Idx))).trans ?_
  refine congrArg (V m c main_arg0 : Vec Ideal S8320x2048 .f32) ?_
  refine Shape.idx_ext₂ ?_ ?_
  · show win0_0.index t 0 * 256 + 1 * r.val = t.val * 256 + r.val
    rw [h.1]; omega
  · show win0_0.index t 1 * 1024 + 1 * k.val = k.val
    rw [h.2.1]; omega

theorem c_at (r : Fin 256) (k : Fin 128) : (iblk m c 2 t : Vec Ideal S256x128 .f32) (ix2 r k)
    = (V m c main_v15 : Vec Ideal S4096x128 .f32) (ix2 ⟨t.val % 16 * 256 + r.val, by omega⟩ k) := by
  blk_point [iblk, idx t]

theorem s_at (r : Fin 256) (k : Fin 128) : (iblk m c 3 t : Vec Ideal S256x128 .f32) (ix2 r k)
    = (V m c main_v17 : Vec Ideal S4096x128 .f32) (ix2 ⟨t.val % 16 * 256 + r.val, by omega⟩ k) := by
  blk_point [iblk, idx t]

theorem g_at (k : Fin 128) : (iblk m c 4 t : Vec Ideal S1x128 .f32) (ix2 0 k) = (V m c main_v18 : Vec Ideal S1x128 .f32) (ix2 0 k) := by
  blk_point [iblk, idx t]

theorem emb_at (r : Fin 256) (ch : Fin 1024) : (((cfg0.win 5).blk t).view.emb (ix2 r ch) : S8192x1024.Idx)
    = ix2 ⟨t.val * 256 + r.val, by have : t.val < 32 := t.isLt; omega⟩ ch := by
  have h := idx t
  refine Shape.idx_ext₂ ?_ ?_
  · show win0_5.index t 0 * 256 + 1 * r.val = t.val * 256 + r.val
    rw [h.2.2.2.2.2.2.2.2.1]; omega
  · show win0_5.index t 1 * 1024 + 1 * ch.val = ch.val
    rw [h.2.2.2.2.2.2.2.2.2]; omega

/-- The rotation by half a head against the signed sines is the embedding. -/
theorem turn (x g : Fin 128 → EReal) (p : Nat) (j : Fin 128) :
    normed x g j * (if h : j.val < 64 then Ideal.cos (angle p j.val) else Ideal.cos (angle p (j.val - 64)))
      + normed x g ⟨(j.val + 128 - 64) % 128, Nat.mod_lt _ (by decide)⟩ * (if h : j.val < 64 then -Ideal.sin (angle p j.val) else Ideal.sin (angle p (j.val - 64)))
      = turned x g p j := by
  unfold turned
  by_cases h : j.val < 64
  · have e : (j.val + 128 - 64) % 128 = 64 + j.val := by omega
    simp only [dif_pos h, e]
    rw [mul_neg, ← sub_eq_add_neg]
  · have e : (j.val + 128 - 64) % 128 = j.val - 64 := by omega
    simp only [dif_neg h, e]

theorem flushed_at (r : Fin 256) (ch : Fin 1024) : (dats m 0 c).flushed 5 t (ix2 r ch)
    = keys (m ((c : Thread nD τ).loc main_arg0)) (m ((c : Thread nD τ).loc main_arg1)) (((cfg0.win 5).blk t).view.emb (ix2 r ch)) := by
  have hN : t.val < 32 := t.isLt
  rw [Cert.KpIdeal.Value.flushed5, emb_at]
  show ((outsAt0 m c t).1 : Vec Ideal S256x1024 .f32) (ix2 r ch) = _
  rw [out_eq]
  refine (pay_at (iblk m c 2 t) (iblk m c 3 t) (iblk m c 4 t)
    (fun y => (X0_0 m c t : Vec Ideal S256x1024 .f32) (ix2 (y 0) ⟨ch.val / 128 * 128 + (y 1).val, by have : (y 1).val < 128 := (y 1).isLt; omega⟩))
    r ⟨ch.val % 128, Nat.mod_lt _ (by decide)⟩).trans ?_
  rw [c_at, s_at, cos_at, sin_at]
  have hp : t.val % 16 * 256 + r.val = (t.val * 256 + r.val) % 4096 := by omega
  have hg : (fun k : Fin 128 => (iblk m c 4 t : Vec Ideal S1x128 .f32) (ix2 0 k)) = fun k : Fin 128 => ((m ((c : Thread nD τ).loc main_arg1)) : Vec Ideal S128 .f32) (ix1 k) :=
    funext fun k => (g_at m c t k).trans (gain_at m c k)
  have hx : (fun k : Fin 128 => (X0_0 m c t : Vec Ideal S256x1024 .f32) (ix2 r ⟨ch.val / 128 * 128 + k.val, by omega⟩))
      = fun k : Fin 128 => ((m ((c : Thread nD τ).loc main_arg0)) : Vec Ideal S8320x2048 .f32) (ix2 ⟨t.val * 256 + r.val, by omega⟩ ⟨ch.val / 128 * 128 + k.val, by omega⟩) :=
    funext fun k => x_at m c t r ⟨ch.val / 128 * 128 + k.val, by omega⟩
  refine Eq.trans ?_ (turn (fun k => ((m ((c : Thread nD τ).loc main_arg0)) : Vec Ideal S8320x2048 .f32) (ix2 ⟨t.val * 256 + r.val, by omega⟩ ⟨ch.val / 128 * 128 + k.val, by omega⟩))
    (fun k => ((m ((c : Thread nD τ).loc main_arg1)) : Vec Ideal S128 .f32) (ix1 k)) ((t.val * 256 + r.val) % 4096) ⟨ch.val % 128, Nat.mod_lt _ (by decide)⟩)
  rw [← hx, ← hg, ← hp]
  rfl

theorem flushed_eq : (dats m 0 c).flushed 5 t
    = ((cfg0.win 5).blk t).view.read (Elt Ideal) (keys (m ((c : Thread nD τ).loc main_arg0)) (m ((c : Thread nD τ).loc main_arg1))) := by
  funext y
  have e : y = (ix2 (y 0) (y 1) : S256x1024.Idx) := Shape.idx_ext₂ rfl rfl
  rw [e]
  exact flushed_at m c t (y 0) (y 1)

theorem cover (i : S8192x1024.Idx) : ∃ t : Fin cfg0.N, (cfg0.win 5).flush t = true ∧ i ∈ ((cfg0.win 5).blk t).view.set := by
  have h0 : (i 0).val < 8192 := (i 0).isLt
  have ht : (i 0).val / 256 < cfg0.N := by have : cfg0.N = 32 := N_0; omega
  refine ⟨⟨(i 0).val / 256, ht⟩, flush0_5 _, ?_⟩
  have e : i = ((cfg0.win 5).blk ⟨(i 0).val / 256, ht⟩).view.emb (ix2 ⟨(i 0).val % 256, Nat.mod_lt _ (by decide)⟩ (i 1) : S256x1024.Idx) := by
    rw [emb_at ⟨(i 0).val / 256, ht⟩ ⟨(i 0).val % 256, Nat.mod_lt _ (by decide)⟩ (i 1)]
    refine Shape.idx_ext₂ ?_ rfl
    show (i 0).val = (i 0).val / 256 * 256 + (i 0).val % 256
    omega
  have hm := View.emb_mem_set ((cfg0.win 5).blk ⟨(i 0).val / 256, ht⟩).view (ix2 ⟨(i 0).val % 256, Nat.mod_lt _ (by decide)⟩ (i 1) : S256x1024.Idx)
  rw [← e] at hm
  exact hm

theorem final : (dats m 0 c).arrAt 5 cfg0.N = keys (m ((c : Thread nD τ).loc main_arg0)) (m ((c : Thread nD τ).loc main_arg1)) :=
  (dats m 0 c).arrAt_eq_of_cover 5 _ (fun t _ => flushed_eq m c t) cover

end Cert.KpIdeal.Whole

namespace Cert.KpReferenceIdeal.Whole

open Cert.KpReferenceIdeal Cert.KpReferenceIdeal.Gen

theorem ref_at (m : (ℓ : Loc nD τ sig) → Buf (Elt Ideal) ℓ) (c : Dev nD) : (Cert.KpReferenceIdeal.Value.res_out0 m c : Vec Ideal S8192x1024 .f32)
    = Cert.KpIdeal.Whole.keys (m ((c.tc : Thread nD τ).loc main_arg0)) (m ((c.tc : Thread nD τ).loc main_arg1)) := by
  funext i
  have e : i = ix2 (i 0) (i 1) := Shape.idx_ext₂ rfl rfl
  rw [e]
  generalize i 0 = r
  generalize i 1 = ch
  unfold Cert.KpReferenceIdeal.Value.res_out0 Cert.KpReferenceIdeal.Value.res_main_v45
  pointwise [Cert.KpIdeal.Whole.keys, Cert.KpIdeal.Whole.turned, Cert.KpIdeal.Whole.normed, Cert.KpIdeal.Whole.angle]
  by_cases h : ch.val % 128 < 64
  · simp only [dif_pos h, Nat.div_add_mod']
  · have e : 64 + (ch.val % 128 - 64) = ch.val % 128 := by omega
    simp only [dif_neg h, e, Nat.div_add_mod']

end Cert.KpReferenceIdeal.Whole

namespace Cert.Proof.Kp

/-- The reference ends with its arguments unchanged; it declares no semaphore, so every counter is zero. -/
theorem frame_reference : Cert.quiescent_KpReferenceIdeal := fun m ρ _ =>
  (θ_run (Cert.KpReferenceIdeal.defs (F := Ideal)) _ _).mono (fun r h => ⟨fun c => (h c).2, sem_eq_zero_of_no_sems (by decide) r.2⟩)
    (Cert.KpReferenceIdeal.Value.run m ρ)

/-- The two programs end with the one array. -/
theorem results_equal : Cert.algebraic_KpIdeal_KpReferenceIdeal := by
  intro m g m' g' _ hagree
  refine ⟨fun c => Cert.KpIdeal.Whole.keys (m ((c.tc : Thread _ _).loc Cert.KpIdeal.main_arg0)) (m ((c.tc : Thread _ _).loc Cert.KpIdeal.main_arg1)), ?_, ?_⟩
  · refine (θ_run (Cert.KpIdeal.defs (F := Ideal)) _ _).mono (fun r h c => ?_) (Cert.KpIdeal.Value.run_blocks m g)
    exact ⟨(h c).1.trans (Cert.KpIdeal.Whole.final m c), (h c).2.2.2.2⟩
  · refine (θ_run (Cert.KpReferenceIdeal.defs (F := Ideal)) _ _).mono (fun r h c => ?_) (Cert.KpReferenceIdeal.Value.run m' g')
    refine ⟨(h c).1.trans ((Cert.KpReferenceIdeal.Whole.ref_at m' c).trans ?_), (h c).2⟩
    obtain ⟨h0, h1⟩ := hagree c
    rw [h0, h1]

end Cert.Proof.Kp

end
-- ==== Proof.lean ====
/- The claims: the frames from the generated runs, the references' frames and the equality of the results from the `…Equal.lean` modules. -/
module

public import proofs.«01_k».proof.Defs
public import proofs.«01_k».proof.Proof.Gen.Kernel.Frame
public import proofs.«01_k».proof.Proof.Gen.KernelIdeal.Frame
public import proofs.«01_k».proof.Proof.Equal
public import proofs.«01_k».proof.Proof.UpEqual
public import proofs.«01_k».proof.Proof.Gen.Up.Frame
public import proofs.«01_k».proof.Proof.QEqual
public import proofs.«01_k».proof.Proof.Gen.Q.Frame
public import proofs.«01_k».proof.Proof.KvEqual
public import proofs.«01_k».proof.Proof.Gen.Kv.Frame
public import proofs.«01_k».proof.Proof.ZEqual
public import proofs.«01_k».proof.Proof.Gen.Z.Frame
public import proofs.«01_k».proof.Proof.XbcEqual
public import proofs.«01_k».proof.Proof.Gen.Xbc.Frame
public import proofs.«01_k».proof.Proof.DtEqual
public import proofs.«01_k».proof.Proof.Gen.Dt.Frame
public import proofs.«01_k».proof.Proof.GatesEqual
public import proofs.«01_k».proof.Proof.Gen.Gates.Frame
public import proofs.«01_k».proof.Proof.AttnOutEqual
public import proofs.«01_k».proof.Proof.Gen.AttnOut.Frame
public import proofs.«01_k».proof.Proof.SsmOutEqual
public import proofs.«01_k».proof.Proof.Gen.SsmOut.Frame
public import proofs.«01_k».proof.Proof.KsEqual
public import proofs.«01_k».proof.Proof.Gen.Ks.Frame
public import proofs.«01_k».proof.Proof.KpEqual
public import proofs.«01_k».proof.Proof.Gen.Kp.Frame

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Up.Gen.facts, Cert.UpIdeal.Gen.facts, Cert.UpReferenceIdeal.Gen.facts,
    Cert.Q.Gen.facts, Cert.QIdeal.Gen.facts, Cert.QReferenceIdeal.Gen.facts,
    Cert.Kv.Gen.facts, Cert.KvIdeal.Gen.facts, Cert.KvReferenceIdeal.Gen.facts,
    Cert.Z.Gen.facts, Cert.ZIdeal.Gen.facts, Cert.ZReferenceIdeal.Gen.facts,
    Cert.Xbc.Gen.facts, Cert.XbcIdeal.Gen.facts, Cert.XbcReferenceIdeal.Gen.facts,
    Cert.Dt.Gen.facts, Cert.DtIdeal.Gen.facts, Cert.DtReferenceIdeal.Gen.facts,
    Cert.Gates.Gen.facts, Cert.GatesIdeal.Gen.facts, Cert.GatesReferenceIdeal.Gen.facts,
    Cert.AttnOut.Gen.facts, Cert.AttnOutIdeal.Gen.facts, Cert.AttnOutReferenceIdeal.Gen.facts,
    Cert.SsmOut.Gen.facts, Cert.SsmOutIdeal.Gen.facts, Cert.SsmOutReferenceIdeal.Gen.facts,
    Cert.Ks.Gen.facts, Cert.KsIdeal.Gen.facts, Cert.KsReferenceIdeal.Gen.facts,
    Cert.Kp.Gen.facts, Cert.KpIdeal.Gen.facts, Cert.KpReferenceIdeal.Gen.facts,
    Cert.Match.preFacts, Cert.Match.onFacts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Up.Gen.frame m ρ, fun m ρ _ => Cert.UpIdeal.Gen.frame m ρ, Cert.Proof.Up.frame_reference,
    fun m ρ _ => Cert.Q.Gen.frame m ρ, fun m ρ _ => Cert.QIdeal.Gen.frame m ρ, Cert.Proof.Q.frame_reference,
    fun m ρ _ => Cert.Kv.Gen.frame m ρ, fun m ρ _ => Cert.KvIdeal.Gen.frame m ρ, Cert.Proof.Kv.frame_reference,
    fun m ρ _ => Cert.Z.Gen.frame m ρ, fun m ρ _ => Cert.ZIdeal.Gen.frame m ρ, Cert.Proof.Z.frame_reference,
    fun m ρ _ => Cert.Xbc.Gen.frame m ρ, fun m ρ _ => Cert.XbcIdeal.Gen.frame m ρ, Cert.Proof.Xbc.frame_reference,
    fun m ρ _ => Cert.Dt.Gen.frame m ρ, fun m ρ _ => Cert.DtIdeal.Gen.frame m ρ, Cert.Proof.Dt.frame_reference,
    fun m ρ _ => Cert.Gates.Gen.frame m ρ, fun m ρ _ => Cert.GatesIdeal.Gen.frame m ρ, Cert.Proof.Gates.frame_reference,
    fun m ρ _ => Cert.AttnOut.Gen.frame m ρ, fun m ρ _ => Cert.AttnOutIdeal.Gen.frame m ρ, Cert.Proof.AttnOut.frame_reference,
    fun m ρ _ => Cert.SsmOut.Gen.frame m ρ, fun m ρ _ => Cert.SsmOutIdeal.Gen.frame m ρ, Cert.Proof.SsmOut.frame_reference,
    fun m ρ _ => Cert.Ks.Gen.frame m ρ, fun m ρ _ => Cert.KsIdeal.Gen.frame m ρ, Cert.Proof.Ks.frame_reference,
    fun m ρ _ => Cert.Kp.Gen.frame m ρ, fun m ρ _ => Cert.KpIdeal.Gen.frame m ρ, Cert.Proof.Kp.frame_reference,
    trivial, results_equal,
    trivial, Cert.Proof.Up.results_equal,
    trivial, Cert.Proof.Q.results_equal,
    trivial, Cert.Proof.Kv.results_equal,
    trivial, Cert.Proof.Z.results_equal,
    trivial, Cert.Proof.Xbc.results_equal,
    trivial, Cert.Proof.Dt.results_equal,
    trivial, Cert.Proof.Gates.results_equal,
    trivial, Cert.Proof.AttnOut.results_equal,
    trivial, Cert.Proof.SsmOut.results_equal,
    trivial, Cert.Proof.Ks.results_equal,
    trivial, Cert.Proof.Kp.results_equal⟩

end Cert.Proof

end
